-- ==== Defs.lean ====
def Pre_Kernel (m : (ℓ : Loc Cert.Kernel.nD Cert.Kernel.τ Cert.Kernel.sig) → Buf (Elt Bits) ℓ) : Prop :=
  True

def Pre_Kernel_finite_and_no_tie [hPre_finite_and_no_tie : Cert.Pre_finite_and_no_tie.Facts] (m : (ℓ : Loc Cert.Kernel.nD Cert.Kernel.τ Cert.Kernel.sig) → Buf (Elt Bits) ℓ) : Prop :=
  ∀ c : Dev Cert.Kernel.nD,
    (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.2.2.2.2.2.1 = (fun _ => 1#1)
    ∧ (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2.2.2.2.2.2.2.2.2.2.2.2 = (fun _ => 1#1)

def Pre_KernelIdeal [hPre_finite_and_no_tie : Cert.Pre_finite_and_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_tie [hPre_finite_and_no_tie : Cert.Pre_finite_and_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_Kernel_pre_finite_and_no_tie [hKernel : Cert.Kernel.Facts] [hPre_finite_and_no_tie : Cert.Pre_finite_and_no_tie.Facts] : Prop :=
  ∀ (m : (ℓ : Loc Cert.Kernel.nD Cert.Kernel.τ Cert.Kernel.sig) → Buf (Elt Bits) ℓ) (g : Dev Cert.Kernel.nD → PrngReg), Pre_Kernel_finite_and_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_and_no_tie [hReferenceIdeal : Cert.ReferenceIdeal.Facts] [hPre_finite_and_no_tie : Cert.Pre_finite_and_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_and_no_tie : Cert.Pre_finite_and_no_tie.Facts),
    quiescent_Kernel (hKernel := hKernel)
    ∧ quiescent_Kernel_pre_finite_and_no_tie (hKernel := hKernel) (hPre_finite_and_no_tie := hPre_finite_and_no_tie)
    ∧ quiescent_KernelIdeal (hKernelIdeal := hKernelIdeal) (hPre_finite_and_no_tie := hPre_finite_and_no_tie)
    ∧ quiescent_ReferenceIdeal (hReferenceIdeal := hReferenceIdeal)
    ∧ quiescent_ReferenceIdeal_pre_finite_and_no_tie (hReferenceIdeal := hReferenceIdeal) (hPre_finite_and_no_tie := hPre_finite_and_no_tie)
    ∧ preserves_Kernel_KernelIdeal
    ∧ algebraic_KernelIdeal_ReferenceIdeal (hKernelIdeal := hKernelIdeal) (hReferenceIdeal := hReferenceIdeal) (hPre_finite_and_no_tie := hPre_finite_and_no_tie)
-- ==== Pre_finite_and_no_tie.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S256x512 : Shape := ⟨2, ![256, 512]⟩
abbrev S512x768 : Shape := ⟨2, ![512, 768]⟩
abbrev S768 : Shape := ⟨1, ![768]⟩
abbrev S8192x32 : Shape := ⟨2, ![8192, 32]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S4096x32 : Shape := ⟨2, ![4096, 32]⟩
abbrev S1x32 : Shape := ⟨2, ![1, 32]⟩
abbrev S4096 : Shape := ⟨1, ![4096]⟩
abbrev S4096x1 : Shape := ⟨2, ![4096, 1]⟩
abbrev S32x8192 : Shape := ⟨2, ![32, 8192]⟩
abbrev S4096x8192 : Shape := ⟨2, ![4096, 8192]⟩
abbrev S8192 : Shape := ⟨1, ![8192]⟩
abbrev S1x8192 : Shape := ⟨2, ![1, 8192]⟩

class Facts : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  reducesTo_S4096x32_S4096_d1 : S4096x32.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x32_0_1 : S4096x1.BroadcastsInDim S4096x32 (![0, 1] : Fin 2 → Fin S4096x32.rank)
  bcast_S_S4096x768 : S_.BroadcastsInDim S4096x768 (![] : Fin 0 → Fin S4096x768.rank)
  bcast_S_S768x512 : S_.BroadcastsInDim S768x512 (![] : Fin 0 → Fin S768x512.rank)
  bcast_S_S512 : S_.BroadcastsInDim S512 (![] : Fin 0 → Fin S512.rank)
  bcast_S_S512x256 : S_.BroadcastsInDim S512x256 (![] : Fin 0 → Fin S512x256.rank)
  bcast_S_S256 : S_.BroadcastsInDim S256 (![] : Fin 0 → Fin S256.rank)
  bcast_S_S256x32 : S_.BroadcastsInDim S256x32 (![] : Fin 0 → Fin S256x32.rank)
  bcast_S_S32 : S_.BroadcastsInDim S32 (![] : Fin 0 → Fin S32.rank)
  bcast_S_S8192x32 : S_.BroadcastsInDim S8192x32 (![] : Fin 0 → Fin S8192x32.rank)
  transposes_S8192x32_S32x8192_1_0 : S8192x32.Transposes [1, 0] S32x8192
  bcast_S_S4096x8192 : S_.BroadcastsInDim S4096x8192 (![] : Fin 0 → Fin S4096x8192.rank)
  bcast_S4096x1_S4096x8192_0_1 : S4096x1.BroadcastsInDim S4096x8192 (![0, 1] : Fin 2 → Fin S4096x8192.rank)
  reducesTo_S8192x32_S8192_d1 : S8192x32.ReducesTo [1] S8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  reducesTo_S4096x8192_S4096_d1 : S4096x8192.ReducesTo [1] S4096
  natLt_1_32 : 1 < 32
  bcast_S_S4096 : S_.BroadcastsInDim S4096 (![] : Fin 0 → Fin S4096.rank)
  dot_S4096x768_S768x512_S4096x512_1_0_0_1_n_n_wf : DotDims.WF S4096x768 S768x512 S4096x512 [1] [0] [0] [1] [] []
  dot_S4096x512_S512x256_S4096x256_1_0_0_1_n_n_wf : DotDims.WF S4096x512 S512x256 S4096x256 [1] [0] [0] [1] [] []
  dot_S4096x256_S256x32_S4096x32_1_0_0_1_n_n_wf : DotDims.WF S4096x256 S256x32 S4096x32 [1] [0] [0] [1] [] []
  dot_S4096x32_S32x8192_S4096x8192_1_0_0_1_n_n_wf : DotDims.WF S4096x32 S32x8192 S4096x8192 [1] [0] [0] [1] [] []
  dot_S4096x8192_S8192x32_S4096x32_1_0_0_1_n_n_wf : DotDims.WF S4096x8192 S8192x32 S4096x32 [1] [0] [0] [1] [] []

variable [Facts]

def dot_S4096x768_S768x512_S4096x512_1_0_0_1_n_n : DotDims S4096x768 S768x512 S4096x512 where
  lhsContracting := [1]
  rhsContracting := [0]
  lhsNonContracting := [0]
  rhsNonContracting := [1]
  lhsBatch := []
  rhsBatch := []
  wf := dot_S4096x768_S768x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x32_S32x8192_S4096x8192_1_0_0_1_n_n : DotDims S4096x32 S32x8192 S4096x8192 where
  lhsContracting := [1]
  rhsContracting := [0]
  lhsNonContracting := [0]
  rhsNonContracting := [1]
  lhsBatch := []
  rhsBatch := []
  wf := dot_S4096x32_S32x8192_S4096x8192_1_0_0_1_n_n_wf
def dot_S4096x8192_S8192x32_S4096x32_1_0_0_1_n_n : DotDims S4096x8192 S8192x32 S4096x32 where
  lhsContracting := [1]
  rhsContracting := [0]
  lhsNonContracting := [0]
  rhsNonContracting := [1]
  lhsBatch := []
  rhsBatch := []
  wf := dot_S4096x8192_S8192x32_S4096x32_1_0_0_1_n_n_wf
def fn_part7 {F : FTy → Type} [FloatOps F] (main_arg17 : FVec F S8192x32 .f32) (main_v40 : IVec S4096x768 1) (main_v43 : IVec S768x512 1) (main_v46 : IVec S512 1) (main_v49 : IVec S512x256 1) (main_v52 : IVec S256 1) (main_v55 : IVec S256x32 1) (main_v58 : IVec S32 1) (main_v61 : IVec S32 1) (main_v64 : IVec S32 1) (main_v67 : IVec S8192x32 1) (main_v70 : IVec S8192x32 1) (main_v73 : IVec S8192x32 1) (main_v95 : IVec S4096 1) (main_v120 : IVec S4096 1) (main_v123 : FVec F S4096x32 .f32) (main_v132 : FVec F S4096x8192 .f32) (main_v133 : FVec F S8192x32 .f32) (main_cst_31 : FVec F S_ .f32) : IVec S4096x768 1 × IVec S768x512 1 × IVec S512 1 × IVec S512x256 1 × IVec S256 1 × IVec S256x32 1 × IVec S32 1 × IVec S32 1 × IVec S32 1 × IVec S8192x32 1 × IVec S8192x32 1 × IVec S8192x32 1 × IVec S4096 1 × IVec S4096 1 × IVec S4096 1 :=
  let main_v134 : FVec F S8192 .f32 := (fun x v => Host.reduceAdd x v reducesTo_S8192x32_S8192_d1 h_S_) main_v133 main_cst_31
  let main_v135 : FVec F S1x8192 .f32 := broadcastInDim S1x8192 ![1] bcast_S8192_S1x8192_1 main_v134
  let main_v136 : FVec F S4096x8192 .f32 := broadcastInDim S4096x8192 ![0, 1] bcast_S1x8192_S4096x8192_0_1 main_v135
  let main_v137 : FVec F S4096x8192 .f32 := addf main_v132 main_v136
  let main_cst_32 : FVec F S_ .f32 := constant S_ .f32 0x7F800000#32
  let main_v138 : FVec F S4096 .f32 := (fun x v => Host.reduce FloatOps.minimumf x v reducesTo_S4096x8192_S4096_d1 h_S_) main_v137 main_cst_32
  let main_v139 : FVec F S4096x1 .f32 := broadcastInDim S4096x1 ![0] bcast_S4096_S4096x1_0 main_v138
  let main_v140 : FVec F S4096x8192 .f32 := broadcastInDim S4096x8192 ![0, 1] bcast_S4096x1_S4096x8192_0_1 main_v139
  let main_v141 : IVec S4096x8192 1 := cmpf .oeq main_v137 main_v140
  let main_v142 : IVec S4096x8192 32 := (extui 32 · natLt_1_32) main_v141
  let main_c_33 : IVec S_ 32 := constantI S_ 32 0#32
  let main_v143 : IVec S4096 32 := (fun x v => Host.reduce IntOp.addi x v reducesTo_S4096x8192_S4096_d1 h_S_) main_v142 main_c_33
  let main_c_34 : IVec S_ 32 := constantI S_ 32 1#32
  let main_v144 : IVec S4096 32 := broadcastInDim S4096 ![] bcast_S_S4096 main_c_34
  let main_v145 : IVec S4096 1 := cmpi .eq main_v143 main_v144
  let main_v146 : FVec F S4096x8192 .f32 := sitofp .f32 main_v142
  let main_v147 : FVec F S4096x32 .f32 := (fun l r => Host.dotGeneral dot_S4096x8192_S8192x32_S4096x32_1_0_0_1_n_n none l r) main_v146 main_arg17
  let main_v148 : FVec F S4096x32 .f32 := subf main_v123 main_v147
  (main_v40, main_v43, main_v46, main_v49, main_v52, main_v55, main_v58, main_v61, main_v64, main_v67, main_v70, main_v73, main_v95, main_v120, main_v145)

def fn_part6 {F : FTy → Type} [FloatOps F] (main_arg16 : FVec F S8192x32 .f32) (main_arg17 : FVec F S8192x32 .f32) (main_v40 : IVec S4096x768 1) (main_v43 : IVec S768x512 1) (main_v46 : IVec S512 1) (main_v49 : IVec S512x256 1) (main_v52 : IVec S256 1) (main_v55 : IVec S256x32 1) (main_v58 : IVec S32 1) (main_v61 : IVec S32 1) (main_v64 : IVec S32 1) (main_v67 : IVec S8192x32 1) (main_v70 : IVec S8192x32 1) (main_v73 : IVec S8192x32 1) (main_v95 : IVec S4096 1) (main_v98 : FVec F S4096x32 .f32) (main_v112 : FVec F S4096x8192 .f32) (main_v114 : FVec F S4096x1 .f32) : IVec S4096x768 1 × IVec S768x512 1 × IVec S512 1 × IVec S512x256 1 × IVec S256 1 × IVec S256x32 1 × IVec S32 1 × IVec S32 1 × IVec S32 1 × IVec S8192x32 1 × IVec S8192x32 1 × IVec S8192x32 1 × IVec S4096 1 × IVec S4096 1 × IVec S4096 1 :=
  let main_v115 : FVec F S4096x8192 .f32 := broadcastInDim S4096x8192 ![0, 1] bcast_S4096x1_S4096x8192_0_1 main_v114
  let main_v116 : IVec S4096x8192 1 := cmpf .oeq main_v112 main_v115
  let main_v117 : IVec S4096x8192 32 := (extui 32 · natLt_1_32) main_v116
  let main_c_27 : IVec S_ 32 := constantI S_ 32 0#32
  let main_v118 : IVec S4096 32 := (fun x v => Host.reduce IntOp.addi x v reducesTo_S4096x8192_S4096_d1 h_S_) main_v117 main_c_27
  let main_c_28 : IVec S_ 32 := constantI S_ 32 1#32
  let main_v119 : IVec S4096 32 := broadcastInDim S4096 ![] bcast_S_S4096 main_c_28
  let main_v120 : IVec S4096 1 := cmpi .eq main_v118 main_v119
  let main_v121 : FVec F S4096x8192 .f32 := sitofp .f32 main_v117
  let main_v122 : FVec F S4096x32 .f32 := (fun l r => Host.dotGeneral dot_S4096x8192_S8192x32_S4096x32_1_0_0_1_n_n none l r) main_v121 main_arg16
  let main_v123 : FVec F S4096x32 .f32 := subf main_v98 main_v122
  let main_v124 : FVec F S4096x32 .f32 := mulf main_v123 main_v123
  let main_cst_29 : FVec F S_ .f32 := constant S_ .f32 0x00000000#32
  let main_v125 : FVec F S4096 .f32 := (fun x v => Host.reduceAdd x v reducesTo_S4096x32_S4096_d1 h_S_) main_v124 main_cst_29
  let main_v126 : FVec F S4096x1 .f32 := broadcastInDim S4096x1 ![0] bcast_S4096_S4096x1_0 main_v125
  let main_v127 : FVec F S32x8192 .f32 := (transpose S32x8192 [1, 0] · transposes_S8192x32_S32x8192_1_0) main_arg17
  let main_v128 : FVec F S4096x8192 .f32 := (fun l r => Host.dotGeneral dot_S4096x32_S32x8192_S4096x8192_1_0_0_1_n_n none l r) main_v123 main_v127
  let main_cst_30 : FVec F S_ .f32 := constant S_ .f32 0x40000000#32
  let main_v129 : FVec F S4096x8192 .f32 := broadcastInDim S4096x8192 ![] bcast_S_S4096x8192 main_cst_30
  let main_v130 : FVec F S4096x8192 .f32 := mulf main_v129 main_v128
  let main_v131 : FVec F S4096x8192 .f32 := broadcastInDim S4096x8192 ![0, 1] bcast_S4096x1_S4096x8192_0_1 main_v126
  let main_v132 : FVec F S4096x8192 .f32 := subf main_v131 main_v130
  let main_v133 : FVec F S8192x32 .f32 := mulf main_arg17 main_arg17
  let main_cst_31 : FVec F S_ .f32 := constant S_ .f32 0x00000000#32
  fn_part7 (F := F) main_arg17 main_v40 main_v43 main_v46 main_v49 main_v52 main_v55 main_v58 main_v61 main_v64 main_v67 main_v70 main_v73 main_v95 main_v120 main_v123 main_v132 main_v133 main_cst_31

def fn_part5 {F : FTy → Type} [FloatOps F] (main_arg15 : FVec F S8192x32 .f32) (main_arg16 : FVec F S8192x32 .f32) (main_arg17 : FVec F S8192x32 .f32) (main_v37 : FVec F S4096x32 .f32) (main_v40 : IVec S4096x768 1) (main_v43 : IVec S768x512 1) (main_v46 : IVec S512 1) (main_v49 : IVec S512x256 1) (main_v52 : IVec S256 1) (main_v55 : IVec S256x32 1) (main_v58 : IVec S32 1) (main_v61 : IVec S32 1) (main_v64 : IVec S32 1) (main_v67 : IVec S8192x32 1) (main_v70 : IVec S8192x32 1) (main_v73 : IVec S8192x32 1) (main_v92 : IVec S4096x8192 32) (main_v93 : IVec S4096 32) (main_v94 : IVec S4096 32) : IVec S4096x768 1 × IVec S768x512 1 × IVec S512 1 × IVec S512x256 1 × IVec S256 1 × IVec S256x32 1 × IVec S32 1 × IVec S32 1 × IVec S32 1 × IVec S8192x32 1 × IVec S8192x32 1 × IVec S8192x32 1 × IVec S4096 1 × IVec S4096 1 × IVec S4096 1 :=
  let main_v95 : IVec S4096 1 := cmpi .eq main_v93 main_v94
  let main_v96 : FVec F S4096x8192 .f32 := sitofp .f32 main_v92
  let main_v97 : FVec F S4096x32 .f32 := (fun l r => Host.dotGeneral dot_S4096x8192_S8192x32_S4096x32_1_0_0_1_n_n none l r) main_v96 main_arg15
  let main_v98 : FVec F S4096x32 .f32 := subf main_v37 main_v97
  let main_v99 : FVec F S4096x32 .f32 := mulf main_v98 main_v98
  let main_cst_23 : FVec F S_ .f32 := constant S_ .f32 0x00000000#32
  let main_v100 : FVec F S4096 .f32 := (fun x v => Host.reduceAdd x v reducesTo_S4096x32_S4096_d1 h_S_) main_v99 main_cst_23
  let main_v101 : FVec F S4096x1 .f32 := broadcastInDim S4096x1 ![0] bcast_S4096_S4096x1_0 main_v100
  let main_v102 : FVec F S32x8192 .f32 := (transpose S32x8192 [1, 0] · transposes_S8192x32_S32x8192_1_0) main_arg16
  let main_v103 : FVec F S4096x8192 .f32 := (fun l r => Host.dotGeneral dot_S4096x32_S32x8192_S4096x8192_1_0_0_1_n_n none l r) main_v98 main_v102
  let main_cst_24 : FVec F S_ .f32 := constant S_ .f32 0x40000000#32
  let main_v104 : FVec F S4096x8192 .f32 := broadcastInDim S4096x8192 ![] bcast_S_S4096x8192 main_cst_24
  let main_v105 : FVec F S4096x8192 .f32 := mulf main_v104 main_v103
  let main_v106 : FVec F S4096x8192 .f32 := broadcastInDim S4096x8192 ![0, 1] bcast_S4096x1_S4096x8192_0_1 main_v101
  let main_v107 : FVec F S4096x8192 .f32 := subf main_v106 main_v105
  let main_v108 : FVec F S8192x32 .f32 := mulf main_arg16 main_arg16
  let main_cst_25 : FVec F S_ .f32 := constant S_ .f32 0x00000000#32
  let main_v109 : FVec F S8192 .f32 := (fun x v => Host.reduceAdd x v reducesTo_S8192x32_S8192_d1 h_S_) main_v108 main_cst_25
  let main_v110 : FVec F S1x8192 .f32 := broadcastInDim S1x8192 ![1] bcast_S8192_S1x8192_1 main_v109
  let main_v111 : FVec F S4096x8192 .f32 := broadcastInDim S4096x8192 ![0, 1] bcast_S1x8192_S4096x8192_0_1 main_v110
  let main_v112 : FVec F S4096x8192 .f32 := addf main_v107 main_v111
  let main_cst_26 : FVec F S_ .f32 := constant S_ .f32 0x7F800000#32
  let main_v113 : FVec F S4096 .f32 := (fun x v => Host.reduce FloatOps.minimumf x v reducesTo_S4096x8192_S4096_d1 h_S_) main_v112 main_cst_26
  let main_v114 : FVec F S4096x1 .f32 := broadcastInDim S4096x1 ![0] bcast_S4096_S4096x1_0 main_v113
  fn_part6 (F := F) main_arg16 main_arg17 main_v40 main_v43 main_v46 main_v49 main_v52 main_v55 main_v58 main_v61 main_v64 main_v67 main_v70 main_v73 main_v95 main_v98 main_v112 main_v114

def fn_part4 {F : FTy → Type} [FloatOps F] (main_arg15 : FVec F S8192x32 .f32) (main_arg16 : FVec F S8192x32 .f32) (main_arg17 : FVec F S8192x32 .f32) (main_v37 : FVec F S4096x32 .f32) (main_v40 : IVec S4096x768 1) (main_v43 : IVec S768x512 1) (main_v46 : IVec S512 1) (main_v49 : IVec S512x256 1) (main_v52 : IVec S256 1) (main_v55 : IVec S256x32 1) (main_v58 : IVec S32 1) (main_v61 : IVec S32 1) (main_v64 : IVec S32 1) (main_v67 : IVec S8192x32 1) (main_v70 : IVec S8192x32 1) (main_v73 : IVec S8192x32 1) (main_v75 : FVec F S4096 .f32) : IVec S4096x768 1 × IVec S768x512 1 × IVec S512 1 × IVec S512x256 1 × IVec S256 1 × IVec S256x32 1 × IVec S32 1 × IVec S32 1 × IVec S32 1 × IVec S8192x32 1 × IVec S8192x32 1 × IVec S8192x32 1 × IVec S4096 1 × IVec S4096 1 × IVec S4096 1 :=
  let main_v76 : FVec F S4096x1 .f32 := broadcastInDim S4096x1 ![0] bcast_S4096_S4096x1_0 main_v75
  let main_v77 : FVec F S32x8192 .f32 := (transpose S32x8192 [1, 0] · transposes_S8192x32_S32x8192_1_0) main_arg15
  let main_v78 : FVec F S4096x8192 .f32 := (fun l r => Host.dotGeneral dot_S4096x32_S32x8192_S4096x8192_1_0_0_1_n_n none l r) main_v37 main_v77
  let main_cst_19 : FVec F S_ .f32 := constant S_ .f32 0x40000000#32
  let main_v79 : FVec F S4096x8192 .f32 := broadcastInDim S4096x8192 ![] bcast_S_S4096x8192 main_cst_19
  let main_v80 : FVec F S4096x8192 .f32 := mulf main_v79 main_v78
  let main_v81 : FVec F S4096x8192 .f32 := broadcastInDim S4096x8192 ![0, 1] bcast_S4096x1_S4096x8192_0_1 main_v76
  let main_v82 : FVec F S4096x8192 .f32 := subf main_v81 main_v80
  let main_v83 : FVec F S8192x32 .f32 := mulf main_arg15 main_arg15
  let main_cst_20 : FVec F S_ .f32 := constant S_ .f32 0x00000000#32
  let main_v84 : FVec F S8192 .f32 := (fun x v => Host.reduceAdd x v reducesTo_S8192x32_S8192_d1 h_S_) main_v83 main_cst_20
  let main_v85 : FVec F S1x8192 .f32 := broadcastInDim S1x8192 ![1] bcast_S8192_S1x8192_1 main_v84
  let main_v86 : FVec F S4096x8192 .f32 := broadcastInDim S4096x8192 ![0, 1] bcast_S1x8192_S4096x8192_0_1 main_v85
  let main_v87 : FVec F S4096x8192 .f32 := addf main_v82 main_v86
  let main_cst_21 : FVec F S_ .f32 := constant S_ .f32 0x7F800000#32
  let main_v88 : FVec F S4096 .f32 := (fun x v => Host.reduce FloatOps.minimumf x v reducesTo_S4096x8192_S4096_d1 h_S_) main_v87 main_cst_21
  let main_v89 : FVec F S4096x1 .f32 := broadcastInDim S4096x1 ![0] bcast_S4096_S4096x1_0 main_v88
  let main_v90 : FVec F S4096x8192 .f32 := broadcastInDim S4096x8192 ![0, 1] bcast_S4096x1_S4096x8192_0_1 main_v89
  let main_v91 : IVec S4096x8192 1 := cmpf .oeq main_v87 main_v90
  let main_v92 : IVec S4096x8192 32 := (extui 32 · natLt_1_32) main_v91
  let main_c : IVec S_ 32 := constantI S_ 32 0#32
  let main_v93 : IVec S4096 32 := (fun x v => Host.reduce IntOp.addi x v reducesTo_S4096x8192_S4096_d1 h_S_) main_v92 main_c
  let main_c_22 : IVec S_ 32 := constantI S_ 32 1#32
  let main_v94 : IVec S4096 32 := broadcastInDim S4096 ![] bcast_S_S4096 main_c_22
  fn_part5 (F := F) main_arg15 main_arg16 main_arg17 main_v37 main_v40 main_v43 main_v46 main_v49 main_v52 main_v55 main_v58 main_v61 main_v64 main_v67 main_v70 main_v73 main_v92 main_v93 main_v94

def fn_part3 {F : FTy → Type} [FloatOps F] (main_arg13 : FVec F S32 .f32) (main_arg14 : FVec F S32 .f32) (main_arg15 : FVec F S8192x32 .f32) (main_arg16 : FVec F S8192x32 .f32) (main_arg17 : FVec F S8192x32 .f32) (main_v37 : FVec F S4096x32 .f32) (main_v40 : IVec S4096x768 1) (main_v43 : IVec S768x512 1) (main_v46 : IVec S512 1) (main_v49 : IVec S512x256 1) (main_v52 : IVec S256 1) (main_v55 : IVec S256x32 1) (main_v56 : FVec F S32 .f32) (main_v57 : FVec F S32 .f32) : IVec S4096x768 1 × IVec S768x512 1 × IVec S512 1 × IVec S512x256 1 × IVec S256 1 × IVec S256x32 1 × IVec S32 1 × IVec S32 1 × IVec S32 1 × IVec S8192x32 1 × IVec S8192x32 1 × IVec S8192x32 1 × IVec S4096 1 × IVec S4096 1 × IVec S4096 1 :=
  let main_v58 : IVec S32 1 := cmpf .olt main_v56 main_v57
  let main_v59 : FVec F S32 .f32 := Host.absf main_arg13
  let main_cst_13 : FVec F S_ .f32 := constant S_ .f32 0x7F800000#32
  let main_v60 : FVec F S32 .f32 := broadcastInDim S32 ![] bcast_S_S32 main_cst_13
  let main_v61 : IVec S32 1 := cmpf .olt main_v59 main_v60
  let main_v62 : FVec F S32 .f32 := Host.absf main_arg14
  let main_cst_14 : FVec F S_ .f32 := constant S_ .f32 0x7F800000#32
  let main_v63 : FVec F S32 .f32 := broadcastInDim S32 ![] bcast_S_S32 main_cst_14
  let main_v64 : IVec S32 1 := cmpf .olt main_v62 main_v63
  let main_v65 : FVec F S8192x32 .f32 := Host.absf main_arg15
  let main_cst_15 : FVec F S_ .f32 := constant S_ .f32 0x7F800000#32
  let main_v66 : FVec F S8192x32 .f32 := broadcastInDim S8192x32 ![] bcast_S_S8192x32 main_cst_15
  let main_v67 : IVec S8192x32 1 := cmpf .olt main_v65 main_v66
  let main_v68 : FVec F S8192x32 .f32 := Host.absf main_arg16
  let main_cst_16 : FVec F S_ .f32 := constant S_ .f32 0x7F800000#32
  let main_v69 : FVec F S8192x32 .f32 := broadcastInDim S8192x32 ![] bcast_S_S8192x32 main_cst_16
  let main_v70 : IVec S8192x32 1 := cmpf .olt main_v68 main_v69
  let main_v71 : FVec F S8192x32 .f32 := Host.absf main_arg17
  let main_cst_17 : FVec F S_ .f32 := constant S_ .f32 0x7F800000#32
  let main_v72 : FVec F S8192x32 .f32 := broadcastInDim S8192x32 ![] bcast_S_S8192x32 main_cst_17
  let main_v73 : IVec S8192x32 1 := cmpf .olt main_v71 main_v72
  let main_v74 : FVec F S4096x32 .f32 := mulf main_v37 main_v37
  let main_cst_18 : FVec F S_ .f32 := constant S_ .f32 0x00000000#32
  let main_v75 : FVec F S4096 .f32 := (fun x v => Host.reduceAdd x v reducesTo_S4096x32_S4096_d1 h_S_) main_v74 main_cst_18
  fn_part4 (F := F) main_arg15 main_arg16 main_arg17 main_v37 main_v40 main_v43 main_v46 main_v49 main_v52 main_v55 main_v58 main_v61 main_v64 main_v67 main_v70 main_v73 main_v75

def fn_part2 {F : FTy → Type} [FloatOps F] (main_arg1 : FVec F S768x512 .f32) (main_arg2 : FVec F S512 .f32) (main_arg3 : FVec F S512x256 .f32) (main_arg4 : FVec F S256 .f32) (main_arg5 : FVec F S256x32 .f32) (main_arg6 : FVec F S32 .f32) (main_arg13 : FVec F S32 .f32) (main_arg14 : FVec F S32 .f32) (main_arg15 : FVec F S8192x32 .f32) (main_arg16 : FVec F S8192x32 .f32) (main_arg17 : FVec F S8192x32 .f32) (main_v37 : FVec F S4096x32 .f32) (main_v38 : FVec F S4096x768 .f32) (main_v39 : FVec F S4096x768 .f32) : IVec S4096x768 1 × IVec S768x512 1 × IVec S512 1 × IVec S512x256 1 × IVec S256 1 × IVec S256x32 1 × IVec S32 1 × IVec S32 1 × IVec S32 1 × IVec S8192x32 1 × IVec S8192x32 1 × IVec S8192x32 1 × IVec S4096 1 × IVec S4096 1 × IVec S4096 1 :=
  let main_v40 : IVec S4096x768 1 := cmpf .olt main_v38 main_v39
  let main_v41 : FVec F S768x512 .f32 := Host.absf main_arg1
  let main_cst_7 : FVec F S_ .f32 := constant S_ .f32 0x7F800000#32
  let main_v42 : FVec F S768x512 .f32 := broadcastInDim S768x512 ![] bcast_S_S768x512 main_cst_7
  let main_v43 : IVec S768x512 1 := cmpf .olt main_v41 main_v42
  let main_v44 : FVec F S512 .f32 := Host.absf main_arg2
  let main_cst_8 : FVec F S_ .f32 := constant S_ .f32 0x7F800000#32
  let main_v45 : FVec F S512 .f32 := broadcastInDim S512 ![] bcast_S_S512 main_cst_8
  let main_v46 : IVec S512 1 := cmpf .olt main_v44 main_v45
  let main_v47 : FVec F S512x256 .f32 := Host.absf main_arg3
  let main_cst_9 : FVec F S_ .f32 := constant S_ .f32 0x7F800000#32
  let main_v48 : FVec F S512x256 .f32 := broadcastInDim S512x256 ![] bcast_S_S512x256 main_cst_9
  let main_v49 : IVec S512x256 1 := cmpf .olt main_v47 main_v48
  let main_v50 : FVec F S256 .f32 := Host.absf main_arg4
  let main_cst_10 : FVec F S_ .f32 := constant S_ .f32 0x7F800000#32
  let main_v51 : FVec F S256 .f32 := broadcastInDim S256 ![] bcast_S_S256 main_cst_10
  let main_v52 : IVec S256 1 := cmpf .olt main_v50 main_v51
  let main_v53 : FVec F S256x32 .f32 := Host.absf main_arg5
  let main_cst_11 : FVec F S_ .f32 := constant S_ .f32 0x7F800000#32
  let main_v54 : FVec F S256x32 .f32 := broadcastInDim S256x32 ![] bcast_S_S256x32 main_cst_11
  let main_v55 : IVec S256x32 1 := cmpf .olt main_v53 main_v54
  let main_v56 : FVec F S32 .f32 := Host.absf main_arg6
  let main_cst_12 : FVec F S_ .f32 := constant S_ .f32 0x7F800000#32
  let main_v57 : FVec F S32 .f32 := broadcastInDim S32 ![] bcast_S_S32 main_cst_12
  fn_part3 (F := F) main_arg13 main_arg14 main_arg15 main_arg16 main_arg17 main_v37 main_v40 main_v43 main_v46 main_v49 main_v52 main_v55 main_v56 main_v57

def fn_part1 {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x32 .f32) (main_arg6 : FVec F S32 .f32) (main_arg13 : FVec F S32 .f32) (main_arg14 : FVec F S32 .f32) (main_arg15 : FVec F S8192x32 .f32) (main_arg16 : FVec F S8192x32 .f32) (main_arg17 : FVec F S8192x32 .f32) (main_v15 : FVec F S4096x32 .f32) (main_v19 : FVec F S4096x1 .f32) : IVec S4096x768 1 × IVec S768x512 1 × IVec S512 1 × IVec S512x256 1 × IVec S256 1 × IVec S256x32 1 × IVec S32 1 × IVec S32 1 × IVec S32 1 × IVec S8192x32 1 × IVec S8192x32 1 × IVec S8192x32 1 × IVec S4096 1 × IVec S4096 1 × IVec S4096 1 :=
  let main_v20 : FVec F S4096x32 .f32 := broadcastInDim S4096x32 ![0, 1] bcast_S4096x1_S4096x32_0_1 main_v19
  let main_v21 : FVec F S4096x32 .f32 := subf main_v15 main_v20
  let main_v22 : FVec F S4096x32 .f32 := mulf main_v21 main_v21
  let main_cst_3 : FVec F S_ .f32 := constant S_ .f32 0x00000000#32
  let main_v23 : FVec F S4096 .f32 := (fun x v => Host.reduceAdd x v reducesTo_S4096x32_S4096_d1 h_S_) main_v22 main_cst_3
  let main_v24 : FVec F S4096x1 .f32 := broadcastInDim S4096x1 ![0] bcast_S4096_S4096x1_0 main_v23
  let main_cst_4 : FVec F S_ .f32 := constant S_ .f32 0x42000000#32
  let main_v25 : FVec F S4096x1 .f32 := broadcastInDim S4096x1 ![] bcast_S_S4096x1 main_cst_4
  let main_v26 : FVec F S4096x1 .f32 := Host.divf main_v24 main_v25
  let main_cst_5 : FVec F S_ .f32 := constant S_ .f32 0x3727C5AC#32
  let main_v27 : FVec F S4096x1 .f32 := broadcastInDim S4096x1 ![] bcast_S_S4096x1 main_cst_5
  let main_v28 : FVec F S4096x1 .f32 := addf main_v26 main_v27
  let main_v29 : FVec F S4096x1 .f32 := Host.sqrt main_v28
  let main_v30 : FVec F S4096x32 .f32 := broadcastInDim S4096x32 ![0, 1] bcast_S4096x1_S4096x32_0_1 main_v29
  let main_v31 : FVec F S4096x32 .f32 := Host.divf main_v21 main_v30
  let main_v32 : FVec F S1x32 .f32 := broadcastInDim S1x32 ![1] bcast_S32_S1x32_1 main_arg13
  let main_v33 : FVec F S4096x32 .f32 := broadcastInDim S4096x32 ![0, 1] bcast_S1x32_S4096x32_0_1 main_v32
  let main_v34 : FVec F S4096x32 .f32 := mulf main_v31 main_v33
  let main_v35 : FVec F S1x32 .f32 := broadcastInDim S1x32 ![1] bcast_S32_S1x32_1 main_arg14
  let main_v36 : FVec F S4096x32 .f32 := broadcastInDim S4096x32 ![0, 1] bcast_S1x32_S4096x32_0_1 main_v35
  let main_v37 : FVec F S4096x32 .f32 := addf main_v34 main_v36
  let main_v38 : FVec F S4096x768 .f32 := Host.absf main_arg0
  let main_cst_6 : FVec F S_ .f32 := constant S_ .f32 0x7F800000#32
  let main_v39 : FVec F S4096x768 .f32 := broadcastInDim S4096x768 ![] bcast_S_S4096x768 main_cst_6
  fn_part2 (F := F) main_arg1 main_arg2 main_arg3 main_arg4 main_arg5 main_arg6 main_arg13 main_arg14 main_arg15 main_arg16 main_arg17 main_v37 main_v38 main_v39

def fn {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x32 .f32) (main_arg6 : FVec F S32 .f32) (main_arg7 : FVec F S32x256 .f32) (main_arg8 : FVec F S256 .f32) (main_arg9 : FVec F S256x512 .f32) (main_arg10 : FVec F S512 .f32) (main_arg11 : FVec F S512x768 .f32) (main_arg12 : FVec F S768 .f32) (main_arg13 : FVec F S32 .f32) (main_arg14 : FVec F S32 .f32) (main_arg15 : FVec F S8192x32 .f32) (main_arg16 : FVec F S8192x32 .f32) (main_arg17 : FVec F S8192x32 .f32) : IVec S4096x768 1 × IVec S768x512 1 × IVec S512 1 × IVec S512x256 1 × IVec S256 1 × IVec S256x32 1 × IVec S32 1 × IVec S32 1 × IVec S32 1 × IVec S8192x32 1 × IVec S8192x32 1 × IVec S8192x32 1 × IVec S4096 1 × IVec S4096 1 × IVec S4096 1 :=
  let main_v0 : FVec F S4096x512 .f32 := (fun l r => Host.dotGeneral dot_S4096x768_S768x512_S4096x512_1_0_0_1_n_n none l r) main_arg0 main_arg1
  let main_v1 : FVec F S1x512 .f32 := broadcastInDim S1x512 ![1] bcast_S512_S1x512_1 main_arg2
  let main_v2 : FVec F S4096x512 .f32 := broadcastInDim S4096x512 ![0, 1] bcast_S1x512_S4096x512_0_1 main_v1
  let main_v3 : FVec F S4096x512 .f32 := addf main_v0 main_v2
  let main_cst : FVec F S_ .f32 := constant S_ .f32 0x00000000#32
  let main_v4 : FVec F S4096x512 .f32 := broadcastInDim S4096x512 ![] bcast_S_S4096x512 main_cst
  let main_v5 : FVec F S4096x512 .f32 := maximumf main_v3 main_v4
  let main_v6 : FVec F S4096x256 .f32 := (fun l r => Host.dotGeneral dot_S4096x512_S512x256_S4096x256_1_0_0_1_n_n none l r) main_v5 main_arg3
  let main_v7 : FVec F S1x256 .f32 := broadcastInDim S1x256 ![1] bcast_S256_S1x256_1 main_arg4
  let main_v8 : FVec F S4096x256 .f32 := broadcastInDim S4096x256 ![0, 1] bcast_S1x256_S4096x256_0_1 main_v7
  let main_v9 : FVec F S4096x256 .f32 := addf main_v6 main_v8
  let main_cst_0 : FVec F S_ .f32 := constant S_ .f32 0x00000000#32
  let main_v10 : FVec F S4096x256 .f32 := broadcastInDim S4096x256 ![] bcast_S_S4096x256 main_cst_0
  let main_v11 : FVec F S4096x256 .f32 := maximumf main_v9 main_v10
  let main_v12 : FVec F S4096x32 .f32 := (fun l r => Host.dotGeneral dot_S4096x256_S256x32_S4096x32_1_0_0_1_n_n none l r) main_v11 main_arg5
  let main_v13 : FVec F S1x32 .f32 := broadcastInDim S1x32 ![1] bcast_S32_S1x32_1 main_arg6
  let main_v14 : FVec F S4096x32 .f32 := broadcastInDim S4096x32 ![0, 1] bcast_S1x32_S4096x32_0_1 main_v13
  let main_v15 : FVec F S4096x32 .f32 := addf main_v12 main_v14
  let main_cst_1 : FVec F S_ .f32 := constant S_ .f32 0x00000000#32
  let main_v16 : FVec F S4096 .f32 := (fun x v => Host.reduceAdd x v reducesTo_S4096x32_S4096_d1 h_S_) main_v15 main_cst_1
  let main_v17 : FVec F S4096x1 .f32 := broadcastInDim S4096x1 ![0] bcast_S4096_S4096x1_0 main_v16
  let main_cst_2 : FVec F S_ .f32 := constant S_ .f32 0x42000000#32
  let main_v18 : FVec F S4096x1 .f32 := broadcastInDim S4096x1 ![] bcast_S_S4096x1 main_cst_2
  let main_v19 : FVec F S4096x1 .f32 := Host.divf main_v17 main_v18
  fn_part1 (F := F) main_arg0 main_arg1 main_arg2 main_arg3 main_arg4 main_arg5 main_arg6 main_arg13 main_arg14 main_arg15 main_arg16 main_arg17 main_v15 main_v19
-- ==== Kernel.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S256x512 : Shape := ⟨2, ![256, 512]⟩
abbrev S512x768 : Shape := ⟨2, ![512, 768]⟩
abbrev S768 : Shape := ⟨1, ![768]⟩
abbrev S8192x32 : Shape := ⟨2, ![8192, 32]⟩
abbrev S1x512 : Shape := ⟨2, ![1, 512]⟩
abbrev S1x256 : Shape := ⟨2, ![1, 256]⟩
abbrev S1x32 : Shape := ⟨2, ![1, 32]⟩
abbrev S1x768 : Shape := ⟨2, ![1, 768]⟩
abbrev S4096x1 : Shape := ⟨2, ![4096, 1]⟩
abbrev S4096x3 : Shape := ⟨2, ![4096, 3]⟩
abbrev S256x768 : Shape := ⟨2, ![256, 768]⟩
abbrev S256x1 : Shape := ⟨2, ![256, 1]⟩
abbrev S256x3 : Shape := ⟨2, ![256, 3]⟩
abbrev S8192x96 : Shape := ⟨2, ![8192, 96]⟩
abbrev S1x8192 : Shape := ⟨2, ![1, 8192]⟩
abbrev S256x256 : Shape := ⟨2, ![256, 256]⟩
abbrev S256x8192 : Shape := ⟨2, ![256, 8192]⟩
abbrev S256x96 : Shape := ⟨2, ![256, 96]⟩
abbrev S4096 : Shape := ⟨1, ![4096]⟩

abbrev nBuf : Space → Nat
  | .hbm => 30
  | .vmem => 40
  | .smem => 0
  | _ => 0

abbrev bufTy : (tb : Table) → Fin (tcTables nBuf tb) → BufTy
  | .hbm, ⟨0, _⟩ => ⟨S4096x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x32, .f32⟩
  | .hbm, ⟨6, _⟩ => ⟨S32, .f32⟩
  | .hbm, ⟨7, _⟩ => ⟨S32x256, .f32⟩
  | .hbm, ⟨8, _⟩ => ⟨S256, .f32⟩
  | .hbm, ⟨9, _⟩ => ⟨S256x512, .f32⟩
  | .hbm, ⟨10, _⟩ => ⟨S512, .f32⟩
  | .hbm, ⟨11, _⟩ => ⟨S512x768, .f32⟩
  | .hbm, ⟨12, _⟩ => ⟨S768, .f32⟩
  | .hbm, ⟨13, _⟩ => ⟨S32, .f32⟩
  | .hbm, ⟨14, _⟩ => ⟨S32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S1x512, .f32⟩
  | .hbm, ⟨19, _⟩ => ⟨S1x256, .f32⟩
  | .hbm, ⟨20, _⟩ => ⟨S1x32, .f32⟩
  | .hbm, ⟨21, _⟩ => ⟨S1x256, .f32⟩
  | .hbm, ⟨22, _⟩ => ⟨S1x512, .f32⟩
  | .hbm, ⟨23, _⟩ => ⟨S1x768, .f32⟩
  | .hbm, ⟨24, _⟩ => ⟨S1x32, .f32⟩
  | .hbm, ⟨25, _⟩ => ⟨S1x32, .f32⟩
  | .hbm, ⟨26, _⟩ => ⟨S4096x768, .f32⟩
  | .hbm, ⟨27, _⟩ => ⟨S4096x1, .f32⟩
  | .hbm, ⟨28, _⟩ => ⟨S4096x3, .i32⟩
  | .hbm, ⟨29, _⟩ => ⟨S4096, .f32⟩
  | .local _ .vmem, ⟨0, _⟩ => ⟨S256x768, .f32⟩
  | .local _ .vmem, ⟨1, _⟩ => ⟨S256x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x32, .f32⟩
  | .local _ .vmem, ⟨7, _⟩ => ⟨S1x32, .f32⟩
  | .local _ .vmem, ⟨8, _⟩ => ⟨S32x256, .f32⟩
  | .local _ .vmem, ⟨9, _⟩ => ⟨S1x256, .f32⟩
  | .local _ .vmem, ⟨10, _⟩ => ⟨S256x512, .f32⟩
  | .local _ .vmem, ⟨11, _⟩ => ⟨S1x512, .f32⟩
  | .local _ .vmem, ⟨12, _⟩ => ⟨S512x768, .f32⟩
  | .local _ .vmem, ⟨13, _⟩ => ⟨S1x768, .f32⟩
  | .local _ .vmem, ⟨14, _⟩ => ⟨S1x32, .f32⟩
  | .local _ .vmem, ⟨15, _⟩ => ⟨S1x32, .f32⟩
  | .local _ .vmem, ⟨16, _⟩ => ⟨S8192x32, .f32⟩
  | .local _ .vmem, ⟨17, _⟩ => ⟨S8192x32, .f32⟩
  | .local _ .vmem, ⟨18, _⟩ => ⟨S8192x32, .f32⟩
  | .local _ .vmem, ⟨19, _⟩ => ⟨S256x768, .f32⟩
  | .local _ .vmem, ⟨20, _⟩ => ⟨S256x768, .f32⟩
  | .local _ .vmem, ⟨21, _⟩ => ⟨S256x1, .f32⟩
  | .local _ .vmem, ⟨22, _⟩ => ⟨S256x1, .f32⟩
  | .local _ .vmem, ⟨23, _⟩ => ⟨S256x3, .i32⟩
  | .local _ .vmem, ⟨24, _⟩ => ⟨S256x3, .i32⟩
  | .local _ .vmem, ⟨25, _⟩ => ⟨S768x512, .bf16⟩
  | .local _ .vmem, ⟨26, _⟩ => ⟨S512x256, .bf16⟩
  | .local _ .vmem, ⟨27, _⟩ => ⟨S256x32, .bf16⟩
  | .local _ .vmem, ⟨28, _⟩ => ⟨S32x256, .bf16⟩
  | .local _ .vmem, ⟨29, _⟩ => ⟨S256x512, .bf16⟩
  | .local _ .vmem, ⟨30, _⟩ => ⟨S512x768, .bf16⟩
  | .local _ .vmem, ⟨31, _⟩ => ⟨S8192x32, .bf16⟩
  | .local _ .vmem, ⟨32, _⟩ => ⟨S8192x32, .bf16⟩
  | .local _ .vmem, ⟨33, _⟩ => ⟨S8192x32, .bf16⟩
  | .local _ .vmem, ⟨34, _⟩ => ⟨S8192x96, .bf16⟩
  | .local _ .vmem, ⟨35, _⟩ => ⟨S8192x96, .bf16⟩
  | .local _ .vmem, ⟨36, _⟩ => ⟨S8192x96, .bf16⟩
  | .local _ .vmem, ⟨37, _⟩ => ⟨S1x8192, .f32⟩
  | .local _ .vmem, ⟨38, _⟩ => ⟨S1x8192, .f32⟩
  | .local _ .vmem, ⟨39, _⟩ => ⟨S1x8192, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_scratch11 : Ref sig .tc := ⟨.vmem, 36, rfl⟩
abbrev cc0_scratch12 : Ref sig .tc := ⟨.vmem, 37, rfl⟩
abbrev cc0_scratch13 : Ref sig .tc := ⟨.vmem, 38, rfl⟩
abbrev cc0_scratch14 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22
abbrev cc0_sem20_0 : DmaSem sig := 23
abbrev cc0_sem20_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8192x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8192x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8192x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S256x512 : Shape := ⟨2, ![256, 512]⟩
abbrev S512x768 : Shape := ⟨2, ![512, 768]⟩
abbrev S768 : Shape := ⟨1, ![768]⟩
abbrev S8192x32 : Shape := ⟨2, ![8192, 32]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S4096x32 : Shape := ⟨2, ![4096, 32]⟩
abbrev S1x32 : Shape := ⟨2, ![1, 32]⟩
abbrev S4096 : Shape := ⟨1, ![4096]⟩
abbrev S4096x1 : Shape := ⟨2, ![4096, 1]⟩
abbrev S32x8192 : Shape := ⟨2, ![32, 8192]⟩
abbrev S4096x8192 : Shape := ⟨2, ![4096, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S1x768 : Shape := ⟨2, ![1, 768]⟩
abbrev S4096x3 : Shape := ⟨2, ![4096, 3]⟩

abbrev nBuf : Space → Nat
  | .hbm => 319
  | .vmem => 0
  | .smem => 0
  | _ => 0

abbrev hbmTy0_0 (i : Nat) : BufTy := match i % 128 with
  | 0 => ⟨S4096x768, .f32⟩
  | 1 => ⟨S768x512, .f32⟩
  | 2 => ⟨S512, .f32⟩
  | 3 => ⟨S512x256, .f32⟩
  | 4 => ⟨S256, .f32⟩
  | 5 => ⟨S256x32, .f32⟩
  | 6 => ⟨S32, .f32⟩
  | 7 => ⟨S32x256, .f32⟩
  | 8 => ⟨S256, .f32⟩
  | 9 => ⟨S256x512, .f32⟩
  | 10 => ⟨S512, .f32⟩
  | 11 => ⟨S512x768, .f32⟩
  | 12 => ⟨S768, .f32⟩
  | 13 => ⟨S32, .f32⟩
  | 14 => ⟨S32, .f32⟩
  | 15 => ⟨S8192x32, .f32⟩
  | 16 => ⟨S8192x32, .f32⟩
  | 17 => ⟨S8192x32, .f32⟩
  | 18 => ⟨S4096x512, .f32⟩
  | 19 => ⟨S1x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x256, .f32⟩
  | 26 => ⟨S1x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S4096x32, .f32⟩
  | 33 => ⟨S1x32, .f32⟩
  | 34 => ⟨S4096x32, .f32⟩
  | 35 => ⟨S4096x32, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .i32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S4096x32, .f32⟩
  | 50 => ⟨S4096x32, .f32⟩
  | 51 => ⟨S4096x32, .f32⟩
  | 52 => ⟨S_, .f32⟩
  | 53 => ⟨S_, .f32⟩
  | 54 => ⟨S_, .f32⟩
  | 55 => ⟨S_, .f32⟩
  | 56 => ⟨S4096, .f32⟩
  | 57 => ⟨S4096x1, .f32⟩
  | 58 => ⟨S4096x1, .f32⟩
  | 59 => ⟨S4096x1, .f32⟩
  | 60 => ⟨S_, .f32⟩
  | 61 => ⟨S_, .i1⟩
  | 62 => ⟨S_, .f32⟩
  | 63 => ⟨S_, .f32⟩
  | 64 => ⟨S4096x1, .f32⟩
  | 65 => ⟨S4096x1, .f32⟩
  | 66 => ⟨S4096x32, .f32⟩
  | 67 => ⟨S4096x32, .f32⟩
  | 68 => ⟨S_, .f32⟩
  | 69 => ⟨S4096x1, .f32⟩
  | 70 => ⟨S4096x1, .f32⟩
  | 71 => ⟨S4096x1, .f32⟩
  | 72 => ⟨S4096x32, .f32⟩
  | 73 => ⟨S4096x32, .f32⟩
  | 74 => ⟨S1x32, .f32⟩
  | 75 => ⟨S4096x32, .f32⟩
  | 76 => ⟨S4096x32, .f32⟩
  | 77 => ⟨S1x32, .f32⟩
  | 78 => ⟨S4096x32, .f32⟩
  | 79 => ⟨S4096x32, .f32⟩
  | 80 => ⟨S_, .f32⟩
  | 81 => ⟨S4096x32, .f32⟩
  | 82 => ⟨S4096x32, .f32⟩
  | 83 => ⟨S_, .f32⟩
  | 84 => ⟨S4096, .f32⟩
  | 85 => ⟨S4096x1, .f32⟩
  | 86 => ⟨S32x8192, .f32⟩
  | 87 => ⟨S4096x8192, .f32⟩
  | 88 => ⟨S_, .f32⟩
  | 89 => ⟨S4096x8192, .f32⟩
  | 90 => ⟨S4096x8192, .f32⟩
  | 91 => ⟨S4096x8192, .f32⟩
  | 92 => ⟨S4096x8192, .f32⟩
  | 93 => ⟨S8192x32, .f32⟩
  | 94 => ⟨S_, .f32⟩
  | 95 => ⟨S8192, .f32⟩
  | 96 => ⟨S1x8192, .f32⟩
  | 97 => ⟨S4096x8192, .f32⟩
  | 98 => ⟨S4096x8192, .f32⟩
  | 99 => ⟨S4096x8192, .i32⟩
  | 100 => ⟨S_, .f32⟩
  | 101 => ⟨S_, .i32⟩
  | 102 => ⟨S4096, .f32⟩
  | 103 => ⟨S4096, .i32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S1, .i32⟩
  | 113 => ⟨S_, .i32⟩
  | 114 => ⟨S4096x1, .i32⟩
  | 115 => ⟨S4096x1, .i1⟩
  | 116 => ⟨S1x1, .i32⟩
  | 117 => ⟨S4096x1, .i32⟩
  | 118 => ⟨S4096x1, .i1⟩
  | 119 => ⟨S4096x1, .i1⟩
  | 120 => ⟨S_, .i1⟩
  | 121 => ⟨S4096, .i1⟩
  | 122 => ⟨S4096x32, .f32⟩
  | 123 => ⟨S4096x32, .i1⟩
  | 124 => ⟨S_, .f32⟩
  | 125 => ⟨S4096x32, .f32⟩
  | 126 => ⟨S4096x32, .f32⟩
  | 127 => ⟨S4096x32, .f32⟩
  | _ => ⟨S4096x768, .f32⟩

abbrev hbmTy0_1 (i : Nat) : BufTy := match i % 128 with
  | 0 => ⟨S4096x32, .f32⟩
  | 1 => ⟨S_, .f32⟩
  | 2 => ⟨S4096, .f32⟩
  | 3 => ⟨S_, .f32⟩
  | 4 => ⟨S4096, .f32⟩
  | 5 => ⟨S4096, .f32⟩
  | 6 => ⟨S4096x32, .f32⟩
  | 7 => ⟨S4096x32, .f32⟩
  | 8 => ⟨S_, .f32⟩
  | 9 => ⟨S4096, .f32⟩
  | 10 => ⟨S_, .f32⟩
  | 11 => ⟨S4096, .f32⟩
  | 12 => ⟨S4096, .f32⟩
  | 13 => ⟨S_, .f32⟩
  | 14 => ⟨S4096, .f32⟩
  | 15 => ⟨S4096, .f32⟩
  | 16 => ⟨S4096, .f32⟩
  | 17 => ⟨S4096x32, .f32⟩
  | 18 => ⟨S4096x32, .f32⟩
  | 19 => ⟨S4096x32, .f32⟩
  | 20 => ⟨S4096x32, .f32⟩
  | 21 => ⟨S4096x32, .f32⟩
  | 22 => ⟨S_, .f32⟩
  | 23 => ⟨S4096, .f32⟩
  | 24 => ⟨S4096x1, .f32⟩
  | 25 => ⟨S32x8192, .f32⟩
  | 26 => ⟨S4096x8192, .f32⟩
  | 27 => ⟨S_, .f32⟩
  | 28 => ⟨S4096x8192, .f32⟩
  | 29 => ⟨S4096x8192, .f32⟩
  | 30 => ⟨S4096x8192, .f32⟩
  | 31 => ⟨S4096x8192, .f32⟩
  | 32 => ⟨S8192x32, .f32⟩
  | 33 => ⟨S_, .f32⟩
  | 34 => ⟨S8192, .f32⟩
  | 35 => ⟨S1x8192, .f32⟩
  | 36 => ⟨S4096x8192, .f32⟩
  | 37 => ⟨S4096x8192, .f32⟩
  | 38 => ⟨S4096x8192, .i32⟩
  | 39 => ⟨S_, .f32⟩
  | 40 => ⟨S_, .i32⟩
  | 41 => ⟨S4096, .f32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S1, .i32⟩
  | 52 => ⟨S_, .i32⟩
  | 53 => ⟨S4096x1, .i32⟩
  | 54 => ⟨S4096x1, .i1⟩
  | 55 => ⟨S1x1, .i32⟩
  | 56 => ⟨S4096x1, .i32⟩
  | 57 => ⟨S4096x1, .i1⟩
  | 58 => ⟨S4096x1, .i1⟩
  | 59 => ⟨S_, .i1⟩
  | 60 => ⟨S4096, .i1⟩
  | 61 => ⟨S4096x32, .f32⟩
  | 62 => ⟨S4096x32, .i1⟩
  | 63 => ⟨S_, .f32⟩
  | 64 => ⟨S4096x32, .f32⟩
  | 65 => ⟨S4096x32, .f32⟩
  | 66 => ⟨S4096x32, .f32⟩
  | 67 => ⟨S4096x32, .f32⟩
  | 68 => ⟨S_, .f32⟩
  | 69 => ⟨S4096, .f32⟩
  | 70 => ⟨S_, .f32⟩
  | 71 => ⟨S4096, .f32⟩
  | 72 => ⟨S4096, .f32⟩
  | 73 => ⟨S4096x32, .f32⟩
  | 74 => ⟨S4096x32, .f32⟩
  | 75 => ⟨S_, .f32⟩
  | 76 => ⟨S4096, .f32⟩
  | 77 => ⟨S_, .f32⟩
  | 78 => ⟨S4096, .f32⟩
  | 79 => ⟨S4096, .f32⟩
  | 80 => ⟨S_, .f32⟩
  | 81 => ⟨S4096, .f32⟩
  | 82 => ⟨S4096, .f32⟩
  | 83 => ⟨S4096, .f32⟩
  | 84 => ⟨S4096x32, .f32⟩
  | 85 => ⟨S4096x32, .f32⟩
  | 86 => ⟨S4096x32, .f32⟩
  | 87 => ⟨S4096x32, .f32⟩
  | 88 => ⟨S4096x32, .f32⟩
  | 89 => ⟨S_, .f32⟩
  | 90 => ⟨S4096, .f32⟩
  | 91 => ⟨S4096x1, .f32⟩
  | 92 => ⟨S32x8192, .f32⟩
  | 93 => ⟨S4096x8192, .f32⟩
  | 94 => ⟨S_, .f32⟩
  | 95 => ⟨S4096x8192, .f32⟩
  | 96 => ⟨S4096x8192, .f32⟩
  | 97 => ⟨S4096x8192, .f32⟩
  | 98 => ⟨S4096x8192, .f32⟩
  | 99 => ⟨S8192x32, .f32⟩
  | 100 => ⟨S_, .f32⟩
  | 101 => ⟨S8192, .f32⟩
  | 102 => ⟨S1x8192, .f32⟩
  | 103 => ⟨S4096x8192, .f32⟩
  | 104 => ⟨S4096x8192, .f32⟩
  | 105 => ⟨S4096x8192, .i32⟩
  | 106 => ⟨S_, .f32⟩
  | 107 => ⟨S_, .i32⟩
  | 108 => ⟨S4096, .f32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S1, .i32⟩
  | 119 => ⟨S_, .i32⟩
  | 120 => ⟨S4096x1, .i32⟩
  | 121 => ⟨S4096x1, .i1⟩
  | 122 => ⟨S1x1, .i32⟩
  | 123 => ⟨S4096x1, .i32⟩
  | 124 => ⟨S4096x1, .i1⟩
  | 125 => ⟨S4096x1, .i1⟩
  | 126 => ⟨S_, .i1⟩
  | 127 => ⟨S4096, .i1⟩
  | _ => ⟨S4096x768, .f32⟩

abbrev hbmTy0_2 (i : Nat) : BufTy := match i % 128 with
  | 0 => ⟨S4096x32, .f32⟩
  | 1 => ⟨S4096x32, .i1⟩
  | 2 => ⟨S_, .f32⟩
  | 3 => ⟨S4096x32, .f32⟩
  | 4 => ⟨S4096x32, .f32⟩
  | 5 => ⟨S4096x32, .f32⟩
  | 6 => ⟨S4096x32, .f32⟩
  | 7 => ⟨S_, .f32⟩
  | 8 => ⟨S4096, .f32⟩
  | 9 => ⟨S_, .f32⟩
  | 10 => ⟨S4096, .f32⟩
  | 11 => ⟨S4096, .f32⟩
  | 12 => ⟨S4096x32, .f32⟩
  | 13 => ⟨S4096x32, .f32⟩
  | 14 => ⟨S_, .f32⟩
  | 15 => ⟨S4096, .f32⟩
  | 16 => ⟨S_, .f32⟩
  | 17 => ⟨S4096, .f32⟩
  | 18 => ⟨S4096, .f32⟩
  | 19 => ⟨S_, .f32⟩
  | 20 => ⟨S4096, .f32⟩
  | 21 => ⟨S4096, .f32⟩
  | 22 => ⟨S4096, .f32⟩
  | 23 => ⟨S4096x32, .f32⟩
  | 24 => ⟨S4096x32, .f32⟩
  | 25 => ⟨S4096x32, .f32⟩
  | 26 => ⟨S4096x32, .f32⟩
  | 27 => ⟨S4096x256, .f32⟩
  | 28 => ⟨S1x256, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S4096x512, .f32⟩
  | 35 => ⟨S1x512, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S4096x768, .f32⟩
  | 42 => ⟨S1x768, .f32⟩
  | 43 => ⟨S4096x768, .f32⟩
  | 44 => ⟨S4096x768, .f32⟩
  | 45 => ⟨S4096x768, .f32⟩
  | 46 => ⟨S4096x768, .f32⟩
  | 47 => ⟨S_, .f32⟩
  | 48 => ⟨S4096, .f32⟩
  | 49 => ⟨S_, .f32⟩
  | 50 => ⟨S4096, .f32⟩
  | 51 => ⟨S4096, .f32⟩
  | 52 => ⟨S4096x1, .f32⟩
  | 53 => ⟨S4096x1, .f32⟩
  | 54 => ⟨S4096x1, .f32⟩
  | 55 => ⟨S4096x3, .f32⟩
  | 56 => ⟨S_, .f32⟩
  | 57 => ⟨S4096, .f32⟩
  | 58 => ⟨S4096, .f32⟩
  | 59 => ⟨S4096x1, .i32⟩
  | 60 => ⟨S4096x1, .i32⟩
  | 61 => ⟨S4096x1, .i32⟩
  | 62 => ⟨S4096x3, .i32⟩
  | _ => ⟨S4096x768, .f32⟩

abbrev hbmTy (i : Nat) : BufTy := match i / 128 with
  | 0 => hbmTy0_0 i
  | 1 => hbmTy0_1 i
  | 2 => hbmTy0_2 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_c : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_cst_1 : Ref sig .tc := ⟨.hbm, 53, rfl⟩
abbrev main_call2_v8 : Ref sig .tc := ⟨.hbm, 54, rfl⟩
abbrev main_call2_cst_2 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_v12 : Ref sig .tc := ⟨.hbm, 59, rfl⟩
abbrev main_call2_cst_3 : Ref sig .tc := ⟨.hbm, 60, rfl⟩
abbrev main_call2_v13 : Ref sig .tc := ⟨.hbm, 61, rfl⟩
abbrev main_call2_cst_4 : Ref sig .tc := ⟨.hbm, 62, rfl⟩
abbrev main_call2_call0_v0 : Ref sig .tc := ⟨.hbm, 63, rfl⟩
abbrev main_call2_call0_v1 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_cst_1 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_2 : Ref sig .tc := ⟨.hbm, 80, rfl⟩
abbrev main_v32 : Ref sig .tc := ⟨.hbm, 81, rfl⟩
abbrev main_v33 : Ref sig .tc := ⟨.hbm, 82, rfl⟩
abbrev main_cst_3 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_4 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_5 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_call3_v0 : Ref sig .tc := ⟨.hbm, 99, rfl⟩
abbrev main_call3_cst : Ref sig .tc := ⟨.hbm, 100, rfl⟩
abbrev main_call3_c : Ref sig .tc := ⟨.hbm, 101, rfl⟩
abbrev main_call3_v1_0 : Ref sig .tc := ⟨.hbm, 102, rfl⟩
abbrev main_v47 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_v14 : Ref sig .tc := ⟨.hbm, 123, rfl⟩
abbrev main_call4_cst : Ref sig .tc := ⟨.hbm, 124, rfl⟩
abbrev main_call4_v15 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_cst_6 : Ref sig .tc := ⟨.hbm, 129, rfl⟩
abbrev main_v51 : Ref sig .tc := ⟨.hbm, 130, rfl⟩
abbrev main_cst_7 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_cst_8 : Ref sig .tc := ⟨.hbm, 136, rfl⟩
abbrev main_v56 : Ref sig .tc := ⟨.hbm, 137, rfl⟩
abbrev main_cst_9 : Ref sig .tc := ⟨.hbm, 138, rfl⟩
abbrev main_v57 : Ref sig .tc := ⟨.hbm, 139, rfl⟩
abbrev main_v58 : Ref sig .tc := ⟨.hbm, 140, rfl⟩
abbrev main_cst_10 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_cst_11 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_cst_12 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_cst_13 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_call5_v0 : Ref sig .tc := ⟨.hbm, 166, rfl⟩
abbrev main_call5_cst : Ref sig .tc := ⟨.hbm, 167, rfl⟩
abbrev main_call5_c : Ref sig .tc := ⟨.hbm, 168, rfl⟩
abbrev main_call5_v1_0 : Ref sig .tc := ⟨.hbm, 169, rfl⟩
abbrev main_v80 : Ref sig .tc := ⟨.hbm, 170, rfl⟩
abbrev main_call6_c : Ref sig .tc := ⟨.hbm, 171, rfl⟩
abbrev main_call6_v0 : Ref sig .tc := ⟨.hbm, 172, rfl⟩
abbrev main_call6_v1 : Ref sig .tc := ⟨.hbm, 173, rfl⟩
abbrev main_call6_c_0 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_call6_v5 : Ref sig .tc := ⟨.hbm, 178, rfl⟩
abbrev main_call6_c_1 : Ref sig .tc := ⟨.hbm, 179, rfl⟩
abbrev main_call6_c_2 : Ref sig .tc := ⟨.hbm, 180, rfl⟩
abbrev main_call6_v6 : Ref sig .tc := ⟨.hbm, 181, rfl⟩
abbrev main_call6_v7 : Ref sig .tc := ⟨.hbm, 182, rfl⟩
abbrev main_call6_v8 : Ref sig .tc := ⟨.hbm, 183, rfl⟩
abbrev main_call6_v9 : Ref sig .tc := ⟨.hbm, 184, rfl⟩
abbrev main_call6_v10 : Ref sig .tc := ⟨.hbm, 185, rfl⟩
abbrev main_call6_v11 : Ref sig .tc := ⟨.hbm, 186, rfl⟩
abbrev main_call6_c_3 : Ref sig .tc := ⟨.hbm, 187, rfl⟩
abbrev main_call6_v12 : Ref sig .tc := ⟨.hbm, 188, rfl⟩
abbrev main_call6_v13 : Ref sig .tc := ⟨.hbm, 189, rfl⟩
abbrev main_call6_v14 : Ref sig .tc := ⟨.hbm, 190, rfl⟩
abbrev main_call6_cst : Ref sig .tc := ⟨.hbm, 191, rfl⟩
abbrev main_call6_v15 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_cst_14 : Ref sig .tc := ⟨.hbm, 196, rfl⟩
abbrev main_v84 : Ref sig .tc := ⟨.hbm, 197, rfl⟩
abbrev main_cst_15 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_cst_16 : Ref sig .tc := ⟨.hbm, 203, rfl⟩
abbrev main_v89 : Ref sig .tc := ⟨.hbm, 204, rfl⟩
abbrev main_cst_17 : Ref sig .tc := ⟨.hbm, 205, rfl⟩
abbrev main_v90 : Ref sig .tc := ⟨.hbm, 206, rfl⟩
abbrev main_v91 : Ref sig .tc := ⟨.hbm, 207, rfl⟩
abbrev main_cst_18 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_cst_19 : Ref sig .tc := ⟨.hbm, 217, rfl⟩
abbrev main_v100 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_cst_20 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_cst_21 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_call7_v0 : Ref sig .tc := ⟨.hbm, 233, rfl⟩
abbrev main_call7_cst : Ref sig .tc := ⟨.hbm, 234, rfl⟩
abbrev main_call7_c : Ref sig .tc := ⟨.hbm, 235, rfl⟩
abbrev main_call7_v1_0 : Ref sig .tc := ⟨.hbm, 236, rfl⟩
abbrev main_v113 : Ref sig .tc := ⟨.hbm, 237, rfl⟩
abbrev main_call8_c : Ref sig .tc := ⟨.hbm, 238, rfl⟩
abbrev main_call8_v0 : Ref sig .tc := ⟨.hbm, 239, rfl⟩
abbrev main_call8_v1 : Ref sig .tc := ⟨.hbm, 240, rfl⟩
abbrev main_call8_c_0 : Ref sig .tc := ⟨.hbm, 241, rfl⟩
abbrev main_call8_v2 : Ref sig .tc := ⟨.hbm, 242, rfl⟩
abbrev main_call8_v3 : Ref sig .tc := ⟨.hbm, 243, rfl⟩
abbrev main_call8_v4 : Ref sig .tc := ⟨.hbm, 244, rfl⟩
abbrev main_call8_v5 : Ref sig .tc := ⟨.hbm, 245, rfl⟩
abbrev main_call8_c_1 : Ref sig .tc := ⟨.hbm, 246, rfl⟩
abbrev main_call8_c_2 : Ref sig .tc := ⟨.hbm, 247, rfl⟩
abbrev main_call8_v6 : Ref sig .tc := ⟨.hbm, 248, rfl⟩
abbrev main_call8_v7 : Ref sig .tc := ⟨.hbm, 249, rfl⟩
abbrev main_call8_v8 : Ref sig .tc := ⟨.hbm, 250, rfl⟩
abbrev main_call8_v9 : Ref sig .tc := ⟨.hbm, 251, rfl⟩
abbrev main_call8_v10 : Ref sig .tc := ⟨.hbm, 252, rfl⟩
abbrev main_call8_v11 : Ref sig .tc := ⟨.hbm, 253, rfl⟩
abbrev main_call8_c_3 : Ref sig .tc := ⟨.hbm, 254, rfl⟩
abbrev main_call8_v12 : Ref sig .tc := ⟨.hbm, 255, rfl⟩
abbrev main_call8_v13 : Ref sig .tc := ⟨.hbm, 256, rfl⟩
abbrev main_call8_v14 : Ref sig .tc := ⟨.hbm, 257, rfl⟩
abbrev main_call8_cst : Ref sig .tc := ⟨.hbm, 258, rfl⟩
abbrev main_call8_v15 : Ref sig .tc := ⟨.hbm, 259, rfl⟩
abbrev main_v114 : Ref sig .tc := ⟨.hbm, 260, rfl⟩
abbrev main_v115 : Ref sig .tc := ⟨.hbm, 261, rfl⟩
abbrev main_v116 : Ref sig .tc := ⟨.hbm, 262, rfl⟩
abbrev main_cst_22 : Ref sig .tc := ⟨.hbm, 263, rfl⟩
abbrev main_v117 : Ref sig .tc := ⟨.hbm, 264, rfl⟩
abbrev main_cst_23 : Ref sig .tc := ⟨.hbm, 265, rfl⟩
abbrev main_v118 : Ref sig .tc := ⟨.hbm, 266, rfl⟩
abbrev main_v119 : Ref sig .tc := ⟨.hbm, 267, rfl⟩
abbrev main_v120 : Ref sig .tc := ⟨.hbm, 268, rfl⟩
abbrev main_v121 : Ref sig .tc := ⟨.hbm, 269, rfl⟩
abbrev main_cst_24 : Ref sig .tc := ⟨.hbm, 270, rfl⟩
abbrev main_v122 : Ref sig .tc := ⟨.hbm, 271, rfl⟩
abbrev main_cst_25 : Ref sig .tc := ⟨.hbm, 272, rfl⟩
abbrev main_v123 : Ref sig .tc := ⟨.hbm, 273, rfl⟩
abbrev main_v124 : Ref sig .tc := ⟨.hbm, 274, rfl⟩
abbrev main_cst_26 : Ref sig .tc := ⟨.hbm, 275, rfl⟩
abbrev main_v125 : Ref sig .tc := ⟨.hbm, 276, rfl⟩
abbrev main_v126 : Ref sig .tc := ⟨.hbm, 277, rfl⟩
abbrev main_v127 : Ref sig .tc := ⟨.hbm, 278, rfl⟩
abbrev main_v128 : Ref sig .tc := ⟨.hbm, 279, rfl⟩
abbrev main_v129 : Ref sig .tc := ⟨.hbm, 280, rfl⟩
abbrev main_v130 : Ref sig .tc := ⟨.hbm, 281, rfl⟩
abbrev main_v131 : Ref sig .tc := ⟨.hbm, 282, rfl⟩
abbrev main_v132 : Ref sig .tc := ⟨.hbm, 283, rfl⟩
abbrev main_v133 : Ref sig .tc := ⟨.hbm, 284, rfl⟩
abbrev main_v134 : Ref sig .tc := ⟨.hbm, 285, rfl⟩
abbrev main_v135 : Ref sig .tc := ⟨.hbm, 286, rfl⟩
abbrev main_call9_cst : Ref sig .tc := ⟨.hbm, 287, rfl⟩
abbrev main_call9_v0 : Ref sig .tc := ⟨.hbm, 288, rfl⟩
abbrev main_v136 : Ref sig .tc := ⟨.hbm, 289, rfl⟩
abbrev main_v137 : Ref sig .tc := ⟨.hbm, 290, rfl⟩
abbrev main_v138 : Ref sig .tc := ⟨.hbm, 291, rfl⟩
abbrev main_v139 : Ref sig .tc := ⟨.hbm, 292, rfl⟩
abbrev main_v140 : Ref sig .tc := ⟨.hbm, 293, rfl⟩
abbrev main_call10_cst : Ref sig .tc := ⟨.hbm, 294, rfl⟩
abbrev main_call10_v0 : Ref sig .tc := ⟨.hbm, 295, rfl⟩
abbrev main_v141 : Ref sig .tc := ⟨.hbm, 296, rfl⟩
abbrev main_v142 : Ref sig .tc := ⟨.hbm, 297, rfl⟩
abbrev main_v143 : Ref sig .tc := ⟨.hbm, 298, rfl⟩
abbrev main_v144 : Ref sig .tc := ⟨.hbm, 299, rfl⟩
abbrev main_v145 : Ref sig .tc := ⟨.hbm, 300, rfl⟩
abbrev main_v146 : Ref sig .tc := ⟨.hbm, 301, rfl⟩
abbrev main_v147 : Ref sig .tc := ⟨.hbm, 302, rfl⟩
abbrev main_cst_27 : Ref sig .tc := ⟨.hbm, 303, rfl⟩
abbrev main_v148 : Ref sig .tc := ⟨.hbm, 304, rfl⟩
abbrev main_cst_28 : Ref sig .tc := ⟨.hbm, 305, rfl⟩
abbrev main_v149 : Ref sig .tc := ⟨.hbm, 306, rfl⟩
abbrev main_v150 : Ref sig .tc := ⟨.hbm, 307, rfl⟩
abbrev main_v151 : Ref sig .tc := ⟨.hbm, 308, rfl⟩
abbrev main_v152 : Ref sig .tc := ⟨.hbm, 309, rfl⟩
abbrev main_v153 : Ref sig .tc := ⟨.hbm, 310, rfl⟩
abbrev main_v154 : Ref sig .tc := ⟨.hbm, 311, rfl⟩
abbrev main_cst_29 : Ref sig .tc := ⟨.hbm, 312, rfl⟩
abbrev main_v155 : Ref sig .tc := ⟨.hbm, 313, rfl⟩
abbrev main_v156 : Ref sig .tc := ⟨.hbm, 314, rfl⟩
abbrev main_v157 : Ref sig .tc := ⟨.hbm, 315, rfl⟩
abbrev main_v158 : Ref sig .tc := ⟨.hbm, 316, rfl⟩
abbrev main_v159 : Ref sig .tc := ⟨.hbm, 317, rfl⟩
abbrev main_v160 : Ref sig .tc := ⟨.hbm, 318, rfl⟩

abbrev nD : Nat := 1
abbrev τ : Topo := Topo.v7x

variable {F : FTy → Type} [FloatOps F]
-- ==== Proof.Body.lean ====
/- What one run of the kernel's body leaves in its buffers, with the contents written out: the working weights and the
   codebook tables made at the first grid point, and the three results of a block of rows made at every point. -/
module

public import proofs.«01_k».proof.Proof.Gen.KernelIdeal.Frame.Runs
public import Idealize.ShloMosaic.Lib.WholeRead
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Loads and stores of a whole buffer -/

/-- A two-axis origin is the zero offset. -/
theorem zero2 : (![0, 0] : Fin 2 → ℕ) = fun _ => 0 := by
  funext a; fin_cases a <;> rfl

/-- Loading all of a two-axis buffer which holds `X` gives `X`. -/
theorem load_all {sp : Space} {d : Fin 2 → ℕ} {e : EltTy} {m : Memref sig .tc sp ⟨2, d⟩ e} (h : m.IsWhole)
    (X : (⟨2, d⟩ : Shape).Idx → Elt F e) (inb : ∀ a : Fin 2, (![0, 0] : Fin 2 → ℕ) a + d a ≤ d a) :
    View.readAt (Elt F) m.view (Rect.unit (s := ⟨2, d⟩) ![0, 0] d inb).toLoadRect (h.unread X) = X := by
  funext x
  refine (h.readAt_unread X _ x).trans (congrArg X ?_)
  funext a
  refine Fin.ext ?_
  have h0 : (![0, 0] : Fin 2 → ℕ) a = 0 := congrFun zero2 a
  show (![0, 0] : Fin 2 → ℕ) a + 1 * (x a).val = (x a).val
  omega

/-- After storing `w` over all of a two-axis buffer, the buffer reads `w`. -/
theorem store_all {sp : Space} {d : Fin 2 → ℕ} {e : EltTy} (v : View sig .tc sp ⟨2, d⟩ e) (f : v.ty.Contents (Elt F))
    (inb : ∀ a : Fin 2, (![0, 0] : Fin 2 → ℕ) a + d a ≤ d a) (w : (⟨2, d⟩ : Shape).Idx → Elt F e)
    (L : List (View.Piece (Elt F) ⟨2, d⟩ e)) :
    v.read (Elt F) (v.writes (Elt F) f (⟨Rect.unit (s := ⟨2, d⟩) ![0, 0] d inb, w⟩ :: L)) = w := by
  funext y
  refine View.read_writes_cons_unit_of_mem v f inb w L y y zero2 fun a => ?_
  show (y a).val = 0 + (y a).val
  omega

/-! ## The buffers and their contents -/

/-- The buffers one run of the body is given, each a whole buffer. -/
structure Refs where
  a1 : Memref sig .tc .vmem S256x768 .f32
  h1 : a1.IsWhole
  a2 : Memref sig .tc .vmem S768x512 .f32
  h2 : a2.IsWhole
  a3 : Memref sig .tc .vmem S1x512 .f32
  h3 : a3.IsWhole
  a4 : Memref sig .tc .vmem S512x256 .f32
  h4 : a4.IsWhole
  a5 : Memref sig .tc .vmem S1x256 .f32
  h5 : a5.IsWhole
  a6 : Memref sig .tc .vmem S256x32 .f32
  h6 : a6.IsWhole
  a7 : Memref sig .tc .vmem S1x32 .f32
  h7 : a7.IsWhole
  a8 : Memref sig .tc .vmem S32x256 .f32
  h8 : a8.IsWhole
  a9 : Memref sig .tc .vmem S1x256 .f32
  h9 : a9.IsWhole
  a10 : Memref sig .tc .vmem S256x512 .f32
  h10 : a10.IsWhole
  a11 : Memref sig .tc .vmem S1x512 .f32
  h11 : a11.IsWhole
  a12 : Memref sig .tc .vmem S512x768 .f32
  h12 : a12.IsWhole
  a13 : Memref sig .tc .vmem S1x768 .f32
  h13 : a13.IsWhole
  a14 : Memref sig .tc .vmem S1x32 .f32
  h14 : a14.IsWhole
  a15 : Memref sig .tc .vmem S1x32 .f32
  h15 : a15.IsWhole
  a16 : Memref sig .tc .vmem S8192x32 .f32
  h16 : a16.IsWhole
  a17 : Memref sig .tc .vmem S8192x32 .f32
  h17 : a17.IsWhole
  a18 : Memref sig .tc .vmem S8192x32 .f32
  h18 : a18.IsWhole
  a19 : Memref sig .tc .vmem S256x768 .f32
  h19 : a19.IsWhole
  a20 : Memref sig .tc .vmem S256x1 .f32
  h20 : a20.IsWhole
  a21 : Memref sig .tc .vmem S256x3 .i32
  h21 : a21.IsWhole
  a22 : Memref sig .tc .vmem S768x512 .bf16
  h22 : a22.IsWhole
  a23 : Memref sig .tc .vmem S512x256 .bf16
  h23 : a23.IsWhole
  a24 : Memref sig .tc .vmem S256x32 .bf16
  h24 : a24.IsWhole
  a25 : Memref sig .tc .vmem S32x256 .bf16
  h25 : a25.IsWhole
  a26 : Memref sig .tc .vmem S256x512 .bf16
  h26 : a26.IsWhole
  a27 : Memref sig .tc .vmem S512x768 .bf16
  h27 : a27.IsWhole
  a28 : Memref sig .tc .vmem S8192x32 .bf16
  h28 : a28.IsWhole
  a29 : Memref sig .tc .vmem S8192x32 .bf16
  h29 : a29.IsWhole
  a30 : Memref sig .tc .vmem S8192x32 .bf16
  h30 : a30.IsWhole
  a31 : Memref sig .tc .vmem S8192x96 .bf16
  h31 : a31.IsWhole
  a32 : Memref sig .tc .vmem S8192x96 .bf16
  h32 : a32.IsWhole
  a33 : Memref sig .tc .vmem S8192x96 .bf16
  h33 : a33.IsWhole
  a34 : Memref sig .tc .vmem S1x8192 .f32
  h34 : a34.IsWhole
  a35 : Memref sig .tc .vmem S1x8192 .f32
  h35 : a35.IsWhole
  a36 : Memref sig .tc .vmem S1x8192 .f32
  h36 : a36.IsWhole

/-- The contents of the input blocks: a block of rows of `x`, then the weights, biases, layer-norm rows and codebooks. -/
structure Ins (F : FTy → Type) where
  x0 : Vec F S256x768 .f32
  x1 : Vec F S768x512 .f32
  x2 : Vec F S1x512 .f32
  x3 : Vec F S512x256 .f32
  x4 : Vec F S1x256 .f32
  x5 : Vec F S256x32 .f32
  x6 : Vec F S1x32 .f32
  x7 : Vec F S32x256 .f32
  x8 : Vec F S1x256 .f32
  x9 : Vec F S256x512 .f32
  x10 : Vec F S1x512 .f32
  x11 : Vec F S512x768 .f32
  x12 : Vec F S1x768 .f32
  x13 : Vec F S1x32 .f32
  x14 : Vec F S1x32 .f32
  x15 : Vec F S8192x32 .f32
  x16 : Vec F S8192x32 .f32
  x17 : Vec F S8192x32 .f32

/-- The contents of the scratch buffers. -/
structure Scr (F : FTy → Type) where
  s0 : Vec F S768x512 .bf16
  s1 : Vec F S512x256 .bf16
  s2 : Vec F S256x32 .bf16
  s3 : Vec F S32x256 .bf16
  s4 : Vec F S256x512 .bf16
  s5 : Vec F S512x768 .bf16
  s6 : Vec F S8192x32 .bf16
  s7 : Vec F S8192x32 .bf16
  s8 : Vec F S8192x32 .bf16
  s9 : Vec F S8192x96 .bf16
  s10 : Vec F S8192x96 .bf16
  s11 : Vec F S8192x96 .bf16
  s12 : Vec F S1x8192 .f32
  s13 : Vec F S1x8192 .f32
  s14 : Vec F S1x8192 .f32

/-- The contents of the three output blocks. -/
structure Outs (F : FTy → Type) where
  o0 : Vec F S256x768 .f32
  o1 : Vec F S256x1 .f32
  o2 : Vec F S256x3 .i32

/-- What the first grid point leaves in the scratch buffers. -/
def prep (X : Ins F) : Scr F where
  s0 := k0_pay1 X.x1
  s1 := k0_pay2 X.x3
  s2 := k0_pay3 X.x5
  s3 := k0_pay4 X.x7
  s4 := k0_pay5 X.x9
  s5 := k0_pay6 X.x11
  s6 := k0_pay8 X.x15
  s7 := k0_pay12 X.x16
  s8 := k0_pay18 X.x17
  s9 := k0_pay9 X.x15
  s10 := k0_pay13 X.x16
  s11 := k0_pay19 X.x17
  s12 := k0_pay10 X.x15
  s13 := k0_pay16 k0_pay14 (k0_pay15 X.x16)
  s14 := k0_pay20 X.x17

/-- The encoder's output, less its row mean. -/
def vZc (X : Ins F) (S : Scr F) : FVec F S256x32 .f32 := k0_pay21 X.x0 S.s0 X.x2 S.s1 X.x4 S.s2 X.x6
/-- The layer-normalised latent. -/
def vZ (X : Ins F) (S : Scr F) : FVec F S256x32 .f32 := k0_pay22 (vZc X S) X.x13 X.x14
/-- The first index column. -/
def vI0 (X : Ins F) (S : Scr F) : IVec S256 32 := k0_pay23 (vZc X S) X.x13 X.x14 S.s6 S.s12
/-- The first looked-up row in its three parts, side by side. -/
def vG0 (X : Ins F) (S : Scr F) : FVec F S256x96 .f32 := k0_pay24 (vZc X S) X.x13 X.x14 S.s6 S.s9 S.s12
def vG0a (X : Ins F) (S : Scr F) : FVec F S256x32 .f32 := k0_pay25 (vZc X S) X.x13 X.x14 S.s6 S.s9 S.s12
def vG0b (X : Ins F) (S : Scr F) : FVec F S256x32 .f32 := k0_pay26 (vZc X S) X.x13 X.x14 S.s6 S.s9 S.s12
/-- The first looked-up row. -/
def vQ0 (X : Ins F) (S : Scr F) : FVec F S256x32 .f32 := k0_pay27 (vG0 X S) (vG0a X S) (vG0b X S)
/-- The first quantiser's loss. -/
def vL0 (X : Ins F) (S : Scr F) : FVec F S256 .f32 := k0_pay28 (vZ X S) (vG0 X S) (vG0a X S) (vG0b X S)
/-- The residual after the first quantiser. -/
def vR1 (X : Ins F) (S : Scr F) : FVec F S256x32 .f32 := k0_pay29 (vZ X S) (vG0 X S) (vG0a X S) (vG0b X S)
/-- The second index column. -/
def vI1 (X : Ins F) (S : Scr F) : IVec S256 32 := k0_pay30 (vZ X S) (vG0 X S) (vG0a X S) (vG0b X S) S.s7 S.s13
/-- The second looked-up row. -/
def vQ1 (X : Ins F) (S : Scr F) : FVec F S256x32 .f32 := k0_pay31 (vZ X S) (vG0 X S) (vG0a X S) (vG0b X S) S.s7 S.s10 S.s13
/-- The second quantiser's loss. -/
def vL1 (X : Ins F) (S : Scr F) : FVec F S256 .f32 :=
  k0_pay33 (k0_pay32 (vZ X S) (vG0 X S) (vG0a X S) (vG0b X S) S.s7 S.s10 S.s13) (Scalar.ofBits .f32 0x3FA00000#32)
/-- The third index column. -/
def vI2 (X : Ins F) (S : Scr F) : IVec S256 32 := k0_pay35 (vR1 X S) (vQ1 X S) S.s8 S.s14
/-- The third quantiser's loss. -/
def vL2 (X : Ins F) (S : Scr F) : FVec F S256 .f32 := k0_pay37 (vR1 X S) (vQ1 X S) S.s8 S.s11 S.s14
/-- The decoder's first product. -/
def vH (X : Ins F) (S : Scr F) : FVec F S256x256 .f32 := k0_pay38 (vQ0 X S) (vR1 X S) (vQ1 X S) S.s8 S.s11 S.s14 S.s3

/-- The three output blocks of one run of the body, from the input blocks and the scratch. -/
def outs (X : Ins F) (S : Scr F) : Outs F where
  o0 := k0_pay39 (vH X S) X.x8 S.s4 X.x10 S.s5 X.x12
  o1 := k0_pay40 X.x0 (vL0 X S) (vL1 X S) (vL2 X S) (vH X S) X.x8 S.s4 X.x10 S.s5 X.x12
  o2 := k0_pay41 (vI0 X S) (vI1 X S) (vI2 X S)

/-- The input blocks, at contents `X`. -/
def ownsIns (c : Dev nD) (R : Refs) (X : Ins F) : sProp 𝕄 :=
  iprop(owns (c : Thread nD τ) R.a1 fullShare X.x0 ∗ owns (c : Thread nD τ) R.a2 fullShare X.x1 ∗ owns (c : Thread nD τ) R.a3 fullShare X.x2 ∗ owns (c : Thread nD τ) R.a4 fullShare X.x3 ∗ owns (c : Thread nD τ) R.a5 fullShare X.x4 ∗ owns (c : Thread nD τ) R.a6 fullShare X.x5 ∗ owns (c : Thread nD τ) R.a7 fullShare X.x6 ∗ owns (c : Thread nD τ) R.a8 fullShare X.x7 ∗ owns (c : Thread nD τ) R.a9 fullShare X.x8 ∗ owns (c : Thread nD τ) R.a10 fullShare X.x9 ∗ owns (c : Thread nD τ) R.a11 fullShare X.x10 ∗ owns (c : Thread nD τ) R.a12 fullShare X.x11 ∗ owns (c : Thread nD τ) R.a13 fullShare X.x12 ∗ owns (c : Thread nD τ) R.a14 fullShare X.x13 ∗ owns (c : Thread nD τ) R.a15 fullShare X.x14 ∗ owns (c : Thread nD τ) R.a16 fullShare X.x15 ∗ owns (c : Thread nD τ) R.a17 fullShare X.x16 ∗ owns (c : Thread nD τ) R.a18 fullShare X.x17)

/-- The scratch buffers, at contents `S`. -/
def ownsScr (c : Dev nD) (R : Refs) (S : Scr F) : sProp 𝕄 :=
  iprop(owns (c : Thread nD τ) R.a22 fullShare S.s0 ∗ owns (c : Thread nD τ) R.a23 fullShare S.s1 ∗ owns (c : Thread nD τ) R.a24 fullShare S.s2 ∗ owns (c : Thread nD τ) R.a25 fullShare S.s3 ∗ owns (c : Thread nD τ) R.a26 fullShare S.s4 ∗ owns (c : Thread nD τ) R.a27 fullShare S.s5 ∗ owns (c : Thread nD τ) R.a28 fullShare S.s6 ∗ owns (c : Thread nD τ) R.a29 fullShare S.s7 ∗ owns (c : Thread nD τ) R.a30 fullShare S.s8 ∗ owns (c : Thread nD τ) R.a31 fullShare S.s9 ∗ owns (c : Thread nD τ) R.a32 fullShare S.s10 ∗ owns (c : Thread nD τ) R.a33 fullShare S.s11 ∗ owns (c : Thread nD τ) R.a34 fullShare S.s12 ∗ owns (c : Thread nD τ) R.a35 fullShare S.s13 ∗ owns (c : Thread nD τ) R.a36 fullShare S.s14)

/-- The scratch buffers, at some contents. -/
def anyScr (c : Dev nD) (R : Refs) : sProp 𝕄 :=
  iprop((∃ d, owns (c : Thread nD τ) R.a22 fullShare d) ∗ (∃ d, owns (c : Thread nD τ) R.a23 fullShare d) ∗ (∃ d, owns (c : Thread nD τ) R.a24 fullShare d) ∗ (∃ d, owns (c : Thread nD τ) R.a25 fullShare d) ∗ (∃ d, owns (c : Thread nD τ) R.a26 fullShare d) ∗ (∃ d, owns (c : Thread nD τ) R.a27 fullShare d) ∗ (∃ d, owns (c : Thread nD τ) R.a28 fullShare d) ∗ (∃ d, owns (c : Thread nD τ) R.a29 fullShare d) ∗ (∃ d, owns (c : Thread nD τ) R.a30 fullShare d) ∗ (∃ d, owns (c : Thread nD τ) R.a31 fullShare d) ∗ (∃ d, owns (c : Thread nD τ) R.a32 fullShare d) ∗ (∃ d, owns (c : Thread nD τ) R.a33 fullShare d) ∗ (∃ d, owns (c : Thread nD τ) R.a34 fullShare d) ∗ (∃ d, owns (c : Thread nD τ) R.a35 fullShare d) ∗ (∃ d, owns (c : Thread nD τ) R.a36 fullShare d))

/-- The output blocks, at contents `O`. -/
def ownsOuts (c : Dev nD) (R : Refs) (O : Outs F) : sProp 𝕄 :=
  iprop(owns (c : Thread nD τ) R.a19 fullShare O.o0 ∗ owns (c : Thread nD τ) R.a20 fullShare O.o1 ∗ owns (c : Thread nD τ) R.a21 fullShare O.o2)

/-- The output blocks, at some contents. -/
def anyOuts (c : Dev nD) (R : Refs) : sProp 𝕄 :=
  iprop((∃ d, owns (c : Thread nD τ) R.a19 fullShare d) ∗ (∃ d, owns (c : Thread nD τ) R.a20 fullShare d) ∗ (∃ d, owns (c : Thread nD τ) R.a21 fullShare d))

/-! ## The body as two pieces -/

/-- The preparation, run at the first point only. -/
def prepP (i : grid0.Coords) (R : Refs) : Prog (TpuEff nD τ sig (Elt F) Λ₀ .tc) PUnit := do
  k0_part1 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36
  let ⟨v269, v270⟩ : Σ' (v269 : FVec F S1x32 .f32), FVec F S8192x32 .f32 ← k0_part2 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36
  let v272 : Vec F S1x8192 .f32 ← Prog.lift (.load R.a35 (Rect.unit (s := S1x8192) ![0, 0] S1x8192.size inb_S1x8192_S1x8192_0_0).toLoadRect (View.loadsAt_vmem h_S1x8192))
  Prog.lift (.store R.a35 (Rect.unit (s := S1x8192) ![0, 0] S1x8192.size inb_S1x8192_S1x8192_0_0) (k0_pay16 v269 v270) Finset.univ (View.stores_vmem_bits_univ h_S1x8192 rfl) (.inl rfl))
  let v275 : Vec F S8192x32 .f32 ← Prog.lift (.load R.a18 (Rect.unit (s := S8192x32) ![0, 0] S8192x32.size inb_S8192x32_S8192x32_0_0).toLoadRect (View.loadsAt_vmem h_S8192x32))
  let v284 : Vec F S8192x32 .bf16 ← Prog.lift (.load R.a30 (Rect.unit (s := S8192x32) ![0, 0] S8192x32.size inb_S8192x32_S8192x32_0_0).toLoadRect (View.loadsAt_vmem h_S8192x32))
  Prog.lift (.store R.a30 (Rect.unit (s := S8192x32) ![0, 0] S8192x32.size inb_S8192x32_S8192x32_0_0) (k0_pay18 v275) Finset.univ (View.stores_vmem h_S8192x32 (R.h30.storeExact_slice rfl _ packedbf16_S8192x32_S8192x32_0_0) (fun _ => rfl)) (.inl rfl))
  let v287 : Vec F S8192x96 .bf16 ← Prog.lift (.load R.a33 (Rect.unit (s := S8192x96) ![0, 0] S8192x96.size inb_S8192x96_S8192x96_0_0).toLoadRect (View.loadsAt_vmem h_S8192x96))
  Prog.lift (.store R.a33 (Rect.unit (s := S8192x96) ![0, 0] S8192x96.size inb_S8192x96_S8192x96_0_0) (k0_pay19 v275) Finset.univ (View.stores_vmem h_S8192x96 (R.h33.storeExact_slice rfl _ packedbf16_S8192x96_S8192x96_0_0) (fun _ => rfl)) (.inl rfl))
  let v293 : Vec F S1x8192 .f32 ← Prog.lift (.load R.a36 (Rect.unit (s := S1x8192) ![0, 0] S1x8192.size inb_S1x8192_S1x8192_0_0).toLoadRect (View.loadsAt_vmem h_S1x8192))
  Prog.lift (.store R.a36 (Rect.unit (s := S1x8192) ![0, 0] S1x8192.size inb_S1x8192_S1x8192_0_0) (k0_pay20 v275) Finset.univ (View.stores_vmem_bits_univ h_S1x8192 rfl) (.inl rfl))
  pure ⟨⟩

/-- The encoder's loads and its output. -/
def encP (R : Refs) : Prog (TpuEff nD τ sig (Elt F) Λ₀ .tc) (Σ' (v3 : Vec F S256x768 .f32), FVec F S256x32 .f32) := do
  let v3 : Vec F S256x768 .f32 ← Prog.lift (.load R.a1 (Rect.unit (s := S256x768) ![0, 0] S256x768.size inb_S256x768_S256x768_0_0).toLoadRect (View.loadsAt_vmem h_S256x768))
  let v5 : Vec F S768x512 .bf16 ← Prog.lift (.load R.a22 (Rect.unit (s := S768x512) ![0, 0] S768x512.size inb_S768x512_S768x512_0_0).toLoadRect (View.loadsAt_vmem h_S768x512))
  let v7 : Vec F S1x512 .f32 ← Prog.lift (.load R.a3 (Rect.unit (s := S1x512) ![0, 0] S1x512.size inb_S1x512_S1x512_0_0).toLoadRect (View.loadsAt_vmem h_S1x512))
  let v14 : Vec F S512x256 .bf16 ← Prog.lift (.load R.a23 (Rect.unit (s := S512x256) ![0, 0] S512x256.size inb_S512x256_S512x256_0_0).toLoadRect (View.loadsAt_vmem h_S512x256))
  let v16 : Vec F S1x256 .f32 ← Prog.lift (.load R.a5 (Rect.unit (s := S1x256) ![0, 0] S1x256.size inb_S1x256_S1x256_0_0).toLoadRect (View.loadsAt_vmem h_S1x256))
  let v23 : Vec F S256x32 .bf16 ← Prog.lift (.load R.a24 (Rect.unit (s := S256x32) ![0, 0] S256x32.size inb_S256x32_S256x32_0_0).toLoadRect (View.loadsAt_vmem h_S256x32))
  let v25 : Vec F S1x32 .f32 ← Prog.lift (.load R.a7 (Rect.unit (s := S1x32) ![0, 0] S1x32.size inb_S1x32_S1x32_0_0).toLoadRect (View.loadsAt_vmem h_S1x32))
  pure ⟨v3, k0_pay21 v3 v5 v7 v14 v16 v23 v25⟩

/-- The rest of the body after the encoder. -/
def restP (i : grid0.Coords) (R : Refs) (e : Σ' (v3 : Vec F S256x768 .f32), FVec F S256x32 .f32) :
    Prog (TpuEff nD τ sig (Elt F) Λ₀ .tc) PUnit := do
  let ⟨v3, v34⟩ : Σ' (v3 : Vec F S256x768 .f32), FVec F S256x32 .f32 := e
  let ⟨v52, v67, v75, v76, v77⟩ : Σ' (v52 : FVec F S256x32 .f32) (v67 : IVec S256 32) (v75 : FVec F S256x96 .f32) (v76 : FVec F S256x32 .f32), FVec F S256x32 .f32 ← k0_part4 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36 v34
  let ⟨v80, v87, v88, v103, v116, v121, cst_52⟩ : Σ' (v80 : FVec F S256x32 .f32) (v87 : FVec F S256 .f32) (v88 : FVec F S256x32 .f32) (v103 : IVec S256 32) (v116 : FVec F S256x32 .f32) (v121 : FVec F S256 .f32), F .f32 ← k0_part5 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36 v52 v75 v76 v77
  let ⟨v123, v139, v159, v164⟩ : Σ' (v123 : FVec F S256 .f32) (v139 : IVec S256 32) (v159 : FVec F S256 .f32), FVec F S256x256 .f32 ← k0_part6 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36 v80 v88 v116 v121 cst_52
  let v201 : IVec S256x3 32 ← k0_part7 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36 v3 v67 v87 v103 v123 v139 v159 v164
  let v202 : Vec F S256x3 .i32 ← Prog.lift (.load R.a21 (Rect.unit (s := S256x3) ![0, 0] S256x3.size inb_S256x3_S256x3_0_0).toLoadRect (View.loadsAt_vmem h_S256x3))
  Prog.lift (.store R.a21 (Rect.unit (s := S256x3) ![0, 0] S256x3.size inb_S256x3_S256x3_0_0) v201 Finset.univ (View.stores_vmem_bits_univ h_S256x3 rfl) (.inl rfl))
  pure ⟨⟩

/-- The printed body, on the buffers `R`. -/
def bodyP (i : grid0.Coords) (R : Refs) : Prog (TpuEff nD τ sig (Elt F) Λ₀ .tc) PUnit := cc0__body i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36

set_option maxHeartbeats 4000000 in
/-- The body is the preparation when the point is the first, then the encoder, then the rest. -/
theorem body_eq (i : grid0.Coords) (R : Refs) :
    (bodyP i R : Prog (TpuEff nD τ sig (Elt F) Λ₀ .tc) PUnit)
      = (if cond0_0 i then prepP i R else pure ⟨⟩) >>= fun _ => encP R >>= fun e => restP i R e := by
  unfold bodyP
  rw [cc0__body_eq_skeleton]; unfold cc0__body_skel
  rw [k0_part3_eq_skeleton]; unfold k0_part3_skel
  by_cases h : cond0_0 i
  · rw [if_pos h, dif_pos h]
    unfold prepP encP
    simp only [bind_assoc]
    refine bind_congr fun _ => ?_
    refine bind_congr fun e => ?_
    obtain ⟨v269, v270⟩ := e
    simp only [bind_assoc, pure_bind]
    iterate 16 (refine bind_congr fun _ => ?_)
    unfold restP
    simp only [bind_assoc]
  · rw [if_neg h, dif_neg h, pure_bind]
    unfold encP
    simp only [bind_assoc, pure_bind]
    iterate 7 (refine bind_congr fun _ => ?_)
    unfold restP
    simp only [bind_assoc]

/-- The body runs the preparation when the point is the first, then the encoder, then the rest. -/
theorem wp_body (c : Dev nD) (i : grid0.Coords) (R : Refs) (E : Set ℕ) (K : PUnit → sProp 𝕄) :
    wp frame (wpE (defs₀ (F := F)) Variants.none c none) E (bodyP i R) K
      = wp frame (wpE (defs₀ (F := F)) Variants.none c none) E (if cond0_0 i then prepP i R else pure ⟨⟩) (fun _ =>
          wp frame (wpE (defs₀ (F := F)) Variants.none c none) E (encP R) (fun e =>
            wp frame (wpE (defs₀ (F := F)) Variants.none c none) E (restP i R e) K)) := by
  rw [body_eq, wp_bind]
  simp only [wp_bind]

end Cert.KernelIdeal.Body

end
-- ==== Proof.Prep.lean ====
/- The run of the first point's preparation. -/
module

public import proofs.«01_k».proof.Proof.Body
public import Idealize.ShloMosaic.Lib.WholeRead
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The preparation fills the scratch buffers with `prep` of the input blocks, and leaves the input blocks as they were. -/
theorem wp_prep (c : Dev nD) (i : grid0.Coords) (R : Refs) (X : Ins F) (E : Set ℕ) (K : PUnit → sProp 𝕄) :
    iprop(ownsIns c R X ∗ anyScr c R ∗ (iprop(ownsIns c R X ∗ ownsScr c R (prep X)) -∗ K ⟨⟩))
      ⊢ wp frame (wpE (defs₀ (F := F)) Variants.none c none) E (prepP i R) K := by
  unfold ownsIns anyScr ownsScr prepP
  rw [k0_part1_eq_skeleton, k0_part2_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩⟩, Hk⟩
  obtain rfl := R.h1.eq_unread hf1; obtain rfl := R.h2.eq_unread hf2; obtain rfl := R.h3.eq_unread hf3; obtain rfl := R.h4.eq_unread hf4; obtain rfl := R.h5.eq_unread hf5; obtain rfl := R.h6.eq_unread hf6; obtain rfl := R.h7.eq_unread hf7; obtain rfl := R.h8.eq_unread hf8; obtain rfl := R.h9.eq_unread hf9; obtain rfl := R.h10.eq_unread hf10; obtain rfl := R.h11.eq_unread hf11; obtain rfl := R.h12.eq_unread hf12; obtain rfl := R.h13.eq_unread hf13; obtain rfl := R.h14.eq_unread hf14; obtain rfl := R.h15.eq_unread hf15; obtain rfl := R.h16.eq_unread hf16; obtain rfl := R.h17.eq_unread hf17; obtain rfl := R.h18.eq_unread hf18
  sl_exec
  sl_step
  iapply Hk
  isplitl [H1 H2 H3 H4 H5 H6 H7 H8 H9 H10 H11 H12 H13 H14 H15 H16 H17 H18]
  · isplitl [H1]
    · iexists _; isplitr; · ipureintro; exact R.h1.read_unread _
      iexact H1
    isplitl [H2]
    · iexists _; isplitr; · ipureintro; exact R.h2.read_unread _
      iexact H2
    isplitl [H3]
    · iexists _; isplitr; · ipureintro; exact R.h3.read_unread _
      iexact H3
    isplitl [H4]
    · iexists _; isplitr; · ipureintro; exact R.h4.read_unread _
      iexact H4
    isplitl [H5]
    · iexists _; isplitr; · ipureintro; exact R.h5.read_unread _
      iexact H5
    isplitl [H6]
    · iexists _; isplitr; · ipureintro; exact R.h6.read_unread _
      iexact H6
    isplitl [H7]
    · iexists _; isplitr; · ipureintro; exact R.h7.read_unread _
      iexact H7
    isplitl [H8]
    · iexists _; isplitr; · ipureintro; exact R.h8.read_unread _
      iexact H8
    isplitl [H9]
    · iexists _; isplitr; · ipureintro; exact R.h9.read_unread _
      iexact H9
    isplitl [H10]
    · iexists _; isplitr; · ipureintro; exact R.h10.read_unread _
      iexact H10
    isplitl [H11]
    · iexists _; isplitr; · ipureintro; exact R.h11.read_unread _
      iexact H11
    isplitl [H12]
    · iexists _; isplitr; · ipureintro; exact R.h12.read_unread _
      iexact H12
    isplitl [H13]
    · iexists _; isplitr; · ipureintro; exact R.h13.read_unread _
      iexact H13
    isplitl [H14]
    · iexists _; isplitr; · ipureintro; exact R.h14.read_unread _
      iexact H14
    isplitl [H15]
    · iexists _; isplitr; · ipureintro; exact R.h15.read_unread _
      iexact H15
    isplitl [H16]
    · iexists _; isplitr; · ipureintro; exact R.h16.read_unread _
      iexact H16
    isplitl [H17]
    · iexists _; isplitr; · ipureintro; exact R.h17.read_unread _
      iexact H17
    iexists _; isplitr; · ipureintro; exact R.h18.read_unread _
    iexact H18
  isplitl [H22]
  · iexists _; isplitr; swap; · iexact H22
    ipureintro; refine (store_all _ _ _ _ _).trans ?_; sl_unfold_words; simp only [load_all]; rfl
  isplitl [H23]
  · iexists _; isplitr; swap; · iexact H23
    ipureintro; refine (store_all _ _ _ _ _).trans ?_; sl_unfold_words; simp only [load_all]; rfl
  isplitl [H24]
  · iexists _; isplitr; swap; · iexact H24
    ipureintro; refine (store_all _ _ _ _ _).trans ?_; sl_unfold_words; simp only [load_all]; rfl
  isplitl [H25]
  · iexists _; isplitr; swap; · iexact H25
    ipureintro; refine (store_all _ _ _ _ _).trans ?_; sl_unfold_words; simp only [load_all]; rfl
  isplitl [H26]
  · iexists _; isplitr; swap; · iexact H26
    ipureintro; refine (store_all _ _ _ _ _).trans ?_; sl_unfold_words; simp only [load_all]; rfl
  isplitl [H27]
  · iexists _; isplitr; swap; · iexact H27
    ipureintro; refine (store_all _ _ _ _ _).trans ?_; sl_unfold_words; simp only [load_all]; rfl
  isplitl [H28]
  · iexists _; isplitr; swap; · iexact H28
    ipureintro; refine (store_all _ _ _ _ _).trans ?_; sl_unfold_words; simp only [load_all]; rfl
  isplitl [H29]
  · iexists _; isplitr; swap; · iexact H29
    ipureintro; refine (store_all _ _ _ _ _).trans ?_; sl_unfold_words; simp only [load_all]; rfl
  isplitl [H30]
  · iexists _; isplitr; swap; · iexact H30
    ipureintro; refine (store_all _ _ _ _ _).trans ?_; sl_unfold_words; simp only [load_all]; rfl
  isplitl [H31]
  · iexists _; isplitr; swap; · iexact H31
    ipureintro; refine (store_all _ _ _ _ _).trans ?_; sl_unfold_words; simp only [load_all]; rfl
  isplitl [H32]
  · iexists _; isplitr; swap; · iexact H32
    ipureintro; refine (store_all _ _ _ _ _).trans ?_; sl_unfold_words; simp only [load_all]; rfl
  isplitl [H33]
  · iexists _; isplitr; swap; · iexact H33
    ipureintro; refine (store_all _ _ _ _ _).trans ?_; sl_unfold_words; simp only [load_all]; rfl
  isplitl [H34]
  · iexists _; isplitr; swap; · iexact H34
    ipureintro; refine (store_all _ _ _ _ _).trans ?_; sl_unfold_words; simp only [load_all]; rfl
  isplitl [H35]
  · iexists _; isplitr; swap; · iexact H35
    ipureintro; refine (store_all _ _ _ _ _).trans ?_; sl_unfold_words; simp only [load_all]; rfl
  iexists _; isplitr; swap; · iexact H36
  ipureintro; refine (store_all _ _ _ _ _).trans ?_; sl_unfold_words; simp only [load_all]; rfl

end Cert.KernelIdeal.Body

end
-- ==== Proof.Stages.lean ====
/- The runs of the encoder and of the four following stretches of the body. -/
module

public import proofs.«01_k».proof.Proof.Body
public import Idealize.ShloMosaic.Lib.WholeRead
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The encoder reads its buffers and leaves them as they were. -/
theorem wp_enc (c : Dev nD) (i : grid0.Coords) (R : Refs) (X : Ins F) (S : Scr F) (E : Set ℕ) (K : _ → sProp 𝕄) :
    iprop(ownsIns c R X ∗ ownsScr c R S ∗ (iprop(ownsIns c R X ∗ ownsScr c R S) -∗ K ⟨X.x0, vZc X S⟩))
      ⊢ wp frame (wpE (defs₀ (F := F)) Variants.none c none) E (encP R) K := by
  skip
  unfold ownsIns ownsScr encP vZc
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩⟩, Hk⟩
  obtain rfl := R.h1.eq_unread hf1; obtain rfl := R.h2.eq_unread hf2; obtain rfl := R.h3.eq_unread hf3; obtain rfl := R.h4.eq_unread hf4; obtain rfl := R.h5.eq_unread hf5; obtain rfl := R.h6.eq_unread hf6; obtain rfl := R.h7.eq_unread hf7; obtain rfl := R.h8.eq_unread hf8; obtain rfl := R.h9.eq_unread hf9; obtain rfl := R.h10.eq_unread hf10; obtain rfl := R.h11.eq_unread hf11; obtain rfl := R.h12.eq_unread hf12; obtain rfl := R.h13.eq_unread hf13; obtain rfl := R.h14.eq_unread hf14; obtain rfl := R.h15.eq_unread hf15; obtain rfl := R.h16.eq_unread hf16; obtain rfl := R.h17.eq_unread hf17; obtain rfl := R.h18.eq_unread hf18
  obtain rfl := R.h22.eq_unread hf22; obtain rfl := R.h23.eq_unread hf23; obtain rfl := R.h24.eq_unread hf24; obtain rfl := R.h25.eq_unread hf25; obtain rfl := R.h26.eq_unread hf26; obtain rfl := R.h27.eq_unread hf27; obtain rfl := R.h28.eq_unread hf28; obtain rfl := R.h29.eq_unread hf29; obtain rfl := R.h30.eq_unread hf30; obtain rfl := R.h31.eq_unread hf31; obtain rfl := R.h32.eq_unread hf32; obtain rfl := R.h33.eq_unread hf33; obtain rfl := R.h34.eq_unread hf34; obtain rfl := R.h35.eq_unread hf35; obtain rfl := R.h36.eq_unread hf36
  sl_exec
  sl_step
  sl_unfold_words
  simp only [load_all]
  iapply Hk
  isplitl [H1 H2 H3 H4 H5 H6 H7 H8 H9 H10 H11 H12 H13 H14 H15 H16 H17 H18]
  · isplitl [H1]
    · iexists _; isplitr; · ipureintro; exact R.h1.read_unread _
      iexact H1
    isplitl [H2]
    · iexists _; isplitr; · ipureintro; exact R.h2.read_unread _
      iexact H2
    isplitl [H3]
    · iexists _; isplitr; · ipureintro; exact R.h3.read_unread _
      iexact H3
    isplitl [H4]
    · iexists _; isplitr; · ipureintro; exact R.h4.read_unread _
      iexact H4
    isplitl [H5]
    · iexists _; isplitr; · ipureintro; exact R.h5.read_unread _
      iexact H5
    isplitl [H6]
    · iexists _; isplitr; · ipureintro; exact R.h6.read_unread _
      iexact H6
    isplitl [H7]
    · iexists _; isplitr; · ipureintro; exact R.h7.read_unread _
      iexact H7
    isplitl [H8]
    · iexists _; isplitr; · ipureintro; exact R.h8.read_unread _
      iexact H8
    isplitl [H9]
    · iexists _; isplitr; · ipureintro; exact R.h9.read_unread _
      iexact H9
    isplitl [H10]
    · iexists _; isplitr; · ipureintro; exact R.h10.read_unread _
      iexact H10
    isplitl [H11]
    · iexists _; isplitr; · ipureintro; exact R.h11.read_unread _
      iexact H11
    isplitl [H12]
    · iexists _; isplitr; · ipureintro; exact R.h12.read_unread _
      iexact H12
    isplitl [H13]
    · iexists _; isplitr; · ipureintro; exact R.h13.read_unread _
      iexact H13
    isplitl [H14]
    · iexists _; isplitr; · ipureintro; exact R.h14.read_unread _
      iexact H14
    isplitl [H15]
    · iexists _; isplitr; · ipureintro; exact R.h15.read_unread _
      iexact H15
    isplitl [H16]
    · iexists _; isplitr; · ipureintro; exact R.h16.read_unread _
      iexact H16
    isplitl [H17]
    · iexists _; isplitr; · ipureintro; exact R.h17.read_unread _
      iexact H17
    iexists _; isplitr; · ipureintro; exact R.h18.read_unread _
    iexact H18
  isplitl [H22]
  · iexists _; isplitr; · ipureintro; exact R.h22.read_unread _
    iexact H22
  isplitl [H23]
  · iexists _; isplitr; · ipureintro; exact R.h23.read_unread _
    iexact H23
  isplitl [H24]
  · iexists _; isplitr; · ipureintro; exact R.h24.read_unread _
    iexact H24
  isplitl [H25]
  · iexists _; isplitr; · ipureintro; exact R.h25.read_unread _
    iexact H25
  isplitl [H26]
  · iexists _; isplitr; · ipureintro; exact R.h26.read_unread _
    iexact H26
  isplitl [H27]
  · iexists _; isplitr; · ipureintro; exact R.h27.read_unread _
    iexact H27
  isplitl [H28]
  · iexists _; isplitr; · ipureintro; exact R.h28.read_unread _
    iexact H28
  isplitl [H29]
  · iexists _; isplitr; · ipureintro; exact R.h29.read_unread _
    iexact H29
  isplitl [H30]
  · iexists _; isplitr; · ipureintro; exact R.h30.read_unread _
    iexact H30
  isplitl [H31]
  · iexists _; isplitr; · ipureintro; exact R.h31.read_unread _
    iexact H31
  isplitl [H32]
  · iexists _; isplitr; · ipureintro; exact R.h32.read_unread _
    iexact H32
  isplitl [H33]
  · iexists _; isplitr; · ipureintro; exact R.h33.read_unread _
    iexact H33
  isplitl [H34]
  · iexists _; isplitr; · ipureintro; exact R.h34.read_unread _
    iexact H34
  isplitl [H35]
  · iexists _; isplitr; · ipureintro; exact R.h35.read_unread _
    iexact H35
  iexists _; isplitr; · ipureintro; exact R.h36.read_unread _
  iexact H36

set_option maxHeartbeats 4000000 in
/-- The layer norm and the first quantiser. -/
theorem wp_part4 (c : Dev nD) (i : grid0.Coords) (R : Refs) (X : Ins F) (S : Scr F) (E : Set ℕ) (K : _ → sProp 𝕄) :
    iprop(ownsIns c R X ∗ ownsScr c R S ∗ (iprop(ownsIns c R X ∗ ownsScr c R S) -∗ K ⟨vZ X S, vI0 X S, vG0 X S, vG0a X S, vG0b X S⟩))
      ⊢ wp frame (wpE (defs₀ (F := F)) Variants.none c none) E (k0_part4 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36 (vZc X S)) K := by
  rw [k0_part4_eq_skeleton]; unfold k0_part4_skel
  unfold ownsIns ownsScr vZ vI0 vG0 vG0a vG0b
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩⟩, Hk⟩
  obtain rfl := R.h1.eq_unread hf1; obtain rfl := R.h2.eq_unread hf2; obtain rfl := R.h3.eq_unread hf3; obtain rfl := R.h4.eq_unread hf4; obtain rfl := R.h5.eq_unread hf5; obtain rfl := R.h6.eq_unread hf6; obtain rfl := R.h7.eq_unread hf7; obtain rfl := R.h8.eq_unread hf8; obtain rfl := R.h9.eq_unread hf9; obtain rfl := R.h10.eq_unread hf10; obtain rfl := R.h11.eq_unread hf11; obtain rfl := R.h12.eq_unread hf12; obtain rfl := R.h13.eq_unread hf13; obtain rfl := R.h14.eq_unread hf14; obtain rfl := R.h15.eq_unread hf15; obtain rfl := R.h16.eq_unread hf16; obtain rfl := R.h17.eq_unread hf17; obtain rfl := R.h18.eq_unread hf18
  obtain rfl := R.h22.eq_unread hf22; obtain rfl := R.h23.eq_unread hf23; obtain rfl := R.h24.eq_unread hf24; obtain rfl := R.h25.eq_unread hf25; obtain rfl := R.h26.eq_unread hf26; obtain rfl := R.h27.eq_unread hf27; obtain rfl := R.h28.eq_unread hf28; obtain rfl := R.h29.eq_unread hf29; obtain rfl := R.h30.eq_unread hf30; obtain rfl := R.h31.eq_unread hf31; obtain rfl := R.h32.eq_unread hf32; obtain rfl := R.h33.eq_unread hf33; obtain rfl := R.h34.eq_unread hf34; obtain rfl := R.h35.eq_unread hf35; obtain rfl := R.h36.eq_unread hf36
  sl_exec
  sl_step
  sl_unfold_words
  simp only [load_all]
  iapply Hk
  isplitl [H1 H2 H3 H4 H5 H6 H7 H8 H9 H10 H11 H12 H13 H14 H15 H16 H17 H18]
  · isplitl [H1]
    · iexists _; isplitr; · ipureintro; exact R.h1.read_unread _
      iexact H1
    isplitl [H2]
    · iexists _; isplitr; · ipureintro; exact R.h2.read_unread _
      iexact H2
    isplitl [H3]
    · iexists _; isplitr; · ipureintro; exact R.h3.read_unread _
      iexact H3
    isplitl [H4]
    · iexists _; isplitr; · ipureintro; exact R.h4.read_unread _
      iexact H4
    isplitl [H5]
    · iexists _; isplitr; · ipureintro; exact R.h5.read_unread _
      iexact H5
    isplitl [H6]
    · iexists _; isplitr; · ipureintro; exact R.h6.read_unread _
      iexact H6
    isplitl [H7]
    · iexists _; isplitr; · ipureintro; exact R.h7.read_unread _
      iexact H7
    isplitl [H8]
    · iexists _; isplitr; · ipureintro; exact R.h8.read_unread _
      iexact H8
    isplitl [H9]
    · iexists _; isplitr; · ipureintro; exact R.h9.read_unread _
      iexact H9
    isplitl [H10]
    · iexists _; isplitr; · ipureintro; exact R.h10.read_unread _
      iexact H10
    isplitl [H11]
    · iexists _; isplitr; · ipureintro; exact R.h11.read_unread _
      iexact H11
    isplitl [H12]
    · iexists _; isplitr; · ipureintro; exact R.h12.read_unread _
      iexact H12
    isplitl [H13]
    · iexists _; isplitr; · ipureintro; exact R.h13.read_unread _
      iexact H13
    isplitl [H14]
    · iexists _; isplitr; · ipureintro; exact R.h14.read_unread _
      iexact H14
    isplitl [H15]
    · iexists _; isplitr; · ipureintro; exact R.h15.read_unread _
      iexact H15
    isplitl [H16]
    · iexists _; isplitr; · ipureintro; exact R.h16.read_unread _
      iexact H16
    isplitl [H17]
    · iexists _; isplitr; · ipureintro; exact R.h17.read_unread _
      iexact H17
    iexists _; isplitr; · ipureintro; exact R.h18.read_unread _
    iexact H18
  isplitl [H22]
  · iexists _; isplitr; · ipureintro; exact R.h22.read_unread _
    iexact H22
  isplitl [H23]
  · iexists _; isplitr; · ipureintro; exact R.h23.read_unread _
    iexact H23
  isplitl [H24]
  · iexists _; isplitr; · ipureintro; exact R.h24.read_unread _
    iexact H24
  isplitl [H25]
  · iexists _; isplitr; · ipureintro; exact R.h25.read_unread _
    iexact H25
  isplitl [H26]
  · iexists _; isplitr; · ipureintro; exact R.h26.read_unread _
    iexact H26
  isplitl [H27]
  · iexists _; isplitr; · ipureintro; exact R.h27.read_unread _
    iexact H27
  isplitl [H28]
  · iexists _; isplitr; · ipureintro; exact R.h28.read_unread _
    iexact H28
  isplitl [H29]
  · iexists _; isplitr; · ipureintro; exact R.h29.read_unread _
    iexact H29
  isplitl [H30]
  · iexists _; isplitr; · ipureintro; exact R.h30.read_unread _
    iexact H30
  isplitl [H31]
  · iexists _; isplitr; · ipureintro; exact R.h31.read_unread _
    iexact H31
  isplitl [H32]
  · iexists _; isplitr; · ipureintro; exact R.h32.read_unread _
    iexact H32
  isplitl [H33]
  · iexists _; isplitr; · ipureintro; exact R.h33.read_unread _
    iexact H33
  isplitl [H34]
  · iexists _; isplitr; · ipureintro; exact R.h34.read_unread _
    iexact H34
  isplitl [H35]
  · iexists _; isplitr; · ipureintro; exact R.h35.read_unread _
    iexact H35
  iexists _; isplitr; · ipureintro; exact R.h36.read_unread _
  iexact H36

set_option maxHeartbeats 4000000 in
/-- The second quantiser. -/
theorem wp_part5 (c : Dev nD) (i : grid0.Coords) (R : Refs) (X : Ins F) (S : Scr F) (E : Set ℕ) (K : _ → sProp 𝕄) :
    iprop(ownsIns c R X ∗ ownsScr c R S ∗ (iprop(ownsIns c R X ∗ ownsScr c R S) -∗ K ⟨vQ0 X S, vL0 X S, vR1 X S, vI1 X S, vQ1 X S, k0_pay32 (vZ X S) (vG0 X S) (vG0a X S) (vG0b X S) S.s7 S.s10 S.s13, Scalar.ofBits .f32 0x3FA00000#32⟩))
      ⊢ wp frame (wpE (defs₀ (F := F)) Variants.none c none) E (k0_part5 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36 (vZ X S) (vG0 X S) (vG0a X S) (vG0b X S)) K := by
  rw [k0_part5_eq_skeleton]; unfold k0_part5_skel
  unfold ownsIns ownsScr vQ0 vL0 vR1 vI1 vQ1
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩⟩, Hk⟩
  obtain rfl := R.h1.eq_unread hf1; obtain rfl := R.h2.eq_unread hf2; obtain rfl := R.h3.eq_unread hf3; obtain rfl := R.h4.eq_unread hf4; obtain rfl := R.h5.eq_unread hf5; obtain rfl := R.h6.eq_unread hf6; obtain rfl := R.h7.eq_unread hf7; obtain rfl := R.h8.eq_unread hf8; obtain rfl := R.h9.eq_unread hf9; obtain rfl := R.h10.eq_unread hf10; obtain rfl := R.h11.eq_unread hf11; obtain rfl := R.h12.eq_unread hf12; obtain rfl := R.h13.eq_unread hf13; obtain rfl := R.h14.eq_unread hf14; obtain rfl := R.h15.eq_unread hf15; obtain rfl := R.h16.eq_unread hf16; obtain rfl := R.h17.eq_unread hf17; obtain rfl := R.h18.eq_unread hf18
  obtain rfl := R.h22.eq_unread hf22; obtain rfl := R.h23.eq_unread hf23; obtain rfl := R.h24.eq_unread hf24; obtain rfl := R.h25.eq_unread hf25; obtain rfl := R.h26.eq_unread hf26; obtain rfl := R.h27.eq_unread hf27; obtain rfl := R.h28.eq_unread hf28; obtain rfl := R.h29.eq_unread hf29; obtain rfl := R.h30.eq_unread hf30; obtain rfl := R.h31.eq_unread hf31; obtain rfl := R.h32.eq_unread hf32; obtain rfl := R.h33.eq_unread hf33; obtain rfl := R.h34.eq_unread hf34; obtain rfl := R.h35.eq_unread hf35; obtain rfl := R.h36.eq_unread hf36
  sl_exec
  sl_step
  sl_unfold_words
  simp only [load_all]
  iapply Hk
  isplitl [H1 H2 H3 H4 H5 H6 H7 H8 H9 H10 H11 H12 H13 H14 H15 H16 H17 H18]
  · isplitl [H1]
    · iexists _; isplitr; · ipureintro; exact R.h1.read_unread _
      iexact H1
    isplitl [H2]
    · iexists _; isplitr; · ipureintro; exact R.h2.read_unread _
      iexact H2
    isplitl [H3]
    · iexists _; isplitr; · ipureintro; exact R.h3.read_unread _
      iexact H3
    isplitl [H4]
    · iexists _; isplitr; · ipureintro; exact R.h4.read_unread _
      iexact H4
    isplitl [H5]
    · iexists _; isplitr; · ipureintro; exact R.h5.read_unread _
      iexact H5
    isplitl [H6]
    · iexists _; isplitr; · ipureintro; exact R.h6.read_unread _
      iexact H6
    isplitl [H7]
    · iexists _; isplitr; · ipureintro; exact R.h7.read_unread _
      iexact H7
    isplitl [H8]
    · iexists _; isplitr; · ipureintro; exact R.h8.read_unread _
      iexact H8
    isplitl [H9]
    · iexists _; isplitr; · ipureintro; exact R.h9.read_unread _
      iexact H9
    isplitl [H10]
    · iexists _; isplitr; · ipureintro; exact R.h10.read_unread _
      iexact H10
    isplitl [H11]
    · iexists _; isplitr; · ipureintro; exact R.h11.read_unread _
      iexact H11
    isplitl [H12]
    · iexists _; isplitr; · ipureintro; exact R.h12.read_unread _
      iexact H12
    isplitl [H13]
    · iexists _; isplitr; · ipureintro; exact R.h13.read_unread _
      iexact H13
    isplitl [H14]
    · iexists _; isplitr; · ipureintro; exact R.h14.read_unread _
      iexact H14
    isplitl [H15]
    · iexists _; isplitr; · ipureintro; exact R.h15.read_unread _
      iexact H15
    isplitl [H16]
    · iexists _; isplitr; · ipureintro; exact R.h16.read_unread _
      iexact H16
    isplitl [H17]
    · iexists _; isplitr; · ipureintro; exact R.h17.read_unread _
      iexact H17
    iexists _; isplitr; · ipureintro; exact R.h18.read_unread _
    iexact H18
  isplitl [H22]
  · iexists _; isplitr; · ipureintro; exact R.h22.read_unread _
    iexact H22
  isplitl [H23]
  · iexists _; isplitr; · ipureintro; exact R.h23.read_unread _
    iexact H23
  isplitl [H24]
  · iexists _; isplitr; · ipureintro; exact R.h24.read_unread _
    iexact H24
  isplitl [H25]
  · iexists _; isplitr; · ipureintro; exact R.h25.read_unread _
    iexact H25
  isplitl [H26]
  · iexists _; isplitr; · ipureintro; exact R.h26.read_unread _
    iexact H26
  isplitl [H27]
  · iexists _; isplitr; · ipureintro; exact R.h27.read_unread _
    iexact H27
  isplitl [H28]
  · iexists _; isplitr; · ipureintro; exact R.h28.read_unread _
    iexact H28
  isplitl [H29]
  · iexists _; isplitr; · ipureintro; exact R.h29.read_unread _
    iexact H29
  isplitl [H30]
  · iexists _; isplitr; · ipureintro; exact R.h30.read_unread _
    iexact H30
  isplitl [H31]
  · iexists _; isplitr; · ipureintro; exact R.h31.read_unread _
    iexact H31
  isplitl [H32]
  · iexists _; isplitr; · ipureintro; exact R.h32.read_unread _
    iexact H32
  isplitl [H33]
  · iexists _; isplitr; · ipureintro; exact R.h33.read_unread _
    iexact H33
  isplitl [H34]
  · iexists _; isplitr; · ipureintro; exact R.h34.read_unread _
    iexact H34
  isplitl [H35]
  · iexists _; isplitr; · ipureintro; exact R.h35.read_unread _
    iexact H35
  iexists _; isplitr; · ipureintro; exact R.h36.read_unread _
  iexact H36

set_option maxHeartbeats 4000000 in
/-- The third quantiser. -/
theorem wp_part6 (c : Dev nD) (i : grid0.Coords) (R : Refs) (X : Ins F) (S : Scr F) (E : Set ℕ) (K : _ → sProp 𝕄) :
    iprop(ownsIns c R X ∗ ownsScr c R S ∗ (iprop(ownsIns c R X ∗ ownsScr c R S) -∗ K ⟨vL1 X S, vI2 X S, vL2 X S, vH X S⟩))
      ⊢ wp frame (wpE (defs₀ (F := F)) Variants.none c none) E (k0_part6 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36 (vQ0 X S) (vR1 X S) (vQ1 X S) (k0_pay32 (vZ X S) (vG0 X S) (vG0a X S) (vG0b X S) S.s7 S.s10 S.s13) (Scalar.ofBits .f32 0x3FA00000#32)) K := by
  rw [k0_part6_eq_skeleton]; unfold k0_part6_skel
  unfold ownsIns ownsScr vL1 vI2 vL2 vH
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩⟩, Hk⟩
  obtain rfl := R.h1.eq_unread hf1; obtain rfl := R.h2.eq_unread hf2; obtain rfl := R.h3.eq_unread hf3; obtain rfl := R.h4.eq_unread hf4; obtain rfl := R.h5.eq_unread hf5; obtain rfl := R.h6.eq_unread hf6; obtain rfl := R.h7.eq_unread hf7; obtain rfl := R.h8.eq_unread hf8; obtain rfl := R.h9.eq_unread hf9; obtain rfl := R.h10.eq_unread hf10; obtain rfl := R.h11.eq_unread hf11; obtain rfl := R.h12.eq_unread hf12; obtain rfl := R.h13.eq_unread hf13; obtain rfl := R.h14.eq_unread hf14; obtain rfl := R.h15.eq_unread hf15; obtain rfl := R.h16.eq_unread hf16; obtain rfl := R.h17.eq_unread hf17; obtain rfl := R.h18.eq_unread hf18
  obtain rfl := R.h22.eq_unread hf22; obtain rfl := R.h23.eq_unread hf23; obtain rfl := R.h24.eq_unread hf24; obtain rfl := R.h25.eq_unread hf25; obtain rfl := R.h26.eq_unread hf26; obtain rfl := R.h27.eq_unread hf27; obtain rfl := R.h28.eq_unread hf28; obtain rfl := R.h29.eq_unread hf29; obtain rfl := R.h30.eq_unread hf30; obtain rfl := R.h31.eq_unread hf31; obtain rfl := R.h32.eq_unread hf32; obtain rfl := R.h33.eq_unread hf33; obtain rfl := R.h34.eq_unread hf34; obtain rfl := R.h35.eq_unread hf35; obtain rfl := R.h36.eq_unread hf36
  sl_exec
  sl_step
  sl_unfold_words
  simp only [load_all]
  iapply Hk
  isplitl [H1 H2 H3 H4 H5 H6 H7 H8 H9 H10 H11 H12 H13 H14 H15 H16 H17 H18]
  · isplitl [H1]
    · iexists _; isplitr; · ipureintro; exact R.h1.read_unread _
      iexact H1
    isplitl [H2]
    · iexists _; isplitr; · ipureintro; exact R.h2.read_unread _
      iexact H2
    isplitl [H3]
    · iexists _; isplitr; · ipureintro; exact R.h3.read_unread _
      iexact H3
    isplitl [H4]
    · iexists _; isplitr; · ipureintro; exact R.h4.read_unread _
      iexact H4
    isplitl [H5]
    · iexists _; isplitr; · ipureintro; exact R.h5.read_unread _
      iexact H5
    isplitl [H6]
    · iexists _; isplitr; · ipureintro; exact R.h6.read_unread _
      iexact H6
    isplitl [H7]
    · iexists _; isplitr; · ipureintro; exact R.h7.read_unread _
      iexact H7
    isplitl [H8]
    · iexists _; isplitr; · ipureintro; exact R.h8.read_unread _
      iexact H8
    isplitl [H9]
    · iexists _; isplitr; · ipureintro; exact R.h9.read_unread _
      iexact H9
    isplitl [H10]
    · iexists _; isplitr; · ipureintro; exact R.h10.read_unread _
      iexact H10
    isplitl [H11]
    · iexists _; isplitr; · ipureintro; exact R.h11.read_unread _
      iexact H11
    isplitl [H12]
    · iexists _; isplitr; · ipureintro; exact R.h12.read_unread _
      iexact H12
    isplitl [H13]
    · iexists _; isplitr; · ipureintro; exact R.h13.read_unread _
      iexact H13
    isplitl [H14]
    · iexists _; isplitr; · ipureintro; exact R.h14.read_unread _
      iexact H14
    isplitl [H15]
    · iexists _; isplitr; · ipureintro; exact R.h15.read_unread _
      iexact H15
    isplitl [H16]
    · iexists _; isplitr; · ipureintro; exact R.h16.read_unread _
      iexact H16
    isplitl [H17]
    · iexists _; isplitr; · ipureintro; exact R.h17.read_unread _
      iexact H17
    iexists _; isplitr; · ipureintro; exact R.h18.read_unread _
    iexact H18
  isplitl [H22]
  · iexists _; isplitr; · ipureintro; exact R.h22.read_unread _
    iexact H22
  isplitl [H23]
  · iexists _; isplitr; · ipureintro; exact R.h23.read_unread _
    iexact H23
  isplitl [H24]
  · iexists _; isplitr; · ipureintro; exact R.h24.read_unread _
    iexact H24
  isplitl [H25]
  · iexists _; isplitr; · ipureintro; exact R.h25.read_unread _
    iexact H25
  isplitl [H26]
  · iexists _; isplitr; · ipureintro; exact R.h26.read_unread _
    iexact H26
  isplitl [H27]
  · iexists _; isplitr; · ipureintro; exact R.h27.read_unread _
    iexact H27
  isplitl [H28]
  · iexists _; isplitr; · ipureintro; exact R.h28.read_unread _
    iexact H28
  isplitl [H29]
  · iexists _; isplitr; · ipureintro; exact R.h29.read_unread _
    iexact H29
  isplitl [H30]
  · iexists _; isplitr; · ipureintro; exact R.h30.read_unread _
    iexact H30
  isplitl [H31]
  · iexists _; isplitr; · ipureintro; exact R.h31.read_unread _
    iexact H31
  isplitl [H32]
  · iexists _; isplitr; · ipureintro; exact R.h32.read_unread _
    iexact H32
  isplitl [H33]
  · iexists _; isplitr; · ipureintro; exact R.h33.read_unread _
    iexact H33
  isplitl [H34]
  · iexists _; isplitr; · ipureintro; exact R.h34.read_unread _
    iexact H34
  isplitl [H35]
  · iexists _; isplitr; · ipureintro; exact R.h35.read_unread _
    iexact H35
  iexists _; isplitr; · ipureintro; exact R.h36.read_unread _
  iexact H36

set_option maxHeartbeats 4000000 in
/-- The decoder and the losses: the three output blocks are filled with `outs`. -/
theorem wp_part7 (c : Dev nD) (i : grid0.Coords) (R : Refs) (X : Ins F) (S : Scr F) (E : Set ℕ) (K : PUnit → sProp 𝕄) :
    iprop(ownsIns c R X ∗ ownsScr c R S ∗ anyOuts c R
        ∗ (iprop(ownsIns c R X ∗ ownsScr c R S ∗ ownsOuts c R (outs X S)) -∗ K ⟨⟩))
      ⊢ wp frame (wpE (defs₀ (F := F)) Variants.none c none) E (do
          let v201 : IVec S256x3 32 ← k0_part7 i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32 R.a33 R.h33 R.a34 R.h34 R.a35 R.h35 R.a36 R.h36 X.x0 (vI0 X S) (vL0 X S) (vI1 X S) (vL1 X S) (vI2 X S) (vL2 X S) (vH X S)
          let v202 : Vec F S256x3 .i32 ← Prog.lift (.load R.a21 (Rect.unit (s := S256x3) ![0, 0] S256x3.size inb_S256x3_S256x3_0_0).toLoadRect (View.loadsAt_vmem h_S256x3))
          Prog.lift (.store R.a21 (Rect.unit (s := S256x3) ![0, 0] S256x3.size inb_S256x3_S256x3_0_0) v201 Finset.univ (View.stores_vmem_bits_univ h_S256x3 rfl) (.inl rfl))
          pure ⟨⟩) K := by
  rw [k0_part7_eq_skeleton]; unfold k0_part7_skel
  unfold ownsIns ownsScr anyOuts ownsOuts
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩⟩, ⟨⟨%d19, %f19, -, H19⟩, ⟨%d20, %f20, -, H20⟩, ⟨%d21, %f21, -, H21⟩⟩, Hk⟩
  obtain rfl := R.h1.eq_unread hf1; obtain rfl := R.h2.eq_unread hf2; obtain rfl := R.h3.eq_unread hf3; obtain rfl := R.h4.eq_unread hf4; obtain rfl := R.h5.eq_unread hf5; obtain rfl := R.h6.eq_unread hf6; obtain rfl := R.h7.eq_unread hf7; obtain rfl := R.h8.eq_unread hf8; obtain rfl := R.h9.eq_unread hf9; obtain rfl := R.h10.eq_unread hf10; obtain rfl := R.h11.eq_unread hf11; obtain rfl := R.h12.eq_unread hf12; obtain rfl := R.h13.eq_unread hf13; obtain rfl := R.h14.eq_unread hf14; obtain rfl := R.h15.eq_unread hf15; obtain rfl := R.h16.eq_unread hf16; obtain rfl := R.h17.eq_unread hf17; obtain rfl := R.h18.eq_unread hf18
  obtain rfl := R.h22.eq_unread hf22; obtain rfl := R.h23.eq_unread hf23; obtain rfl := R.h24.eq_unread hf24; obtain rfl := R.h25.eq_unread hf25; obtain rfl := R.h26.eq_unread hf26; obtain rfl := R.h27.eq_unread hf27; obtain rfl := R.h28.eq_unread hf28; obtain rfl := R.h29.eq_unread hf29; obtain rfl := R.h30.eq_unread hf30; obtain rfl := R.h31.eq_unread hf31; obtain rfl := R.h32.eq_unread hf32; obtain rfl := R.h33.eq_unread hf33; obtain rfl := R.h34.eq_unread hf34; obtain rfl := R.h35.eq_unread hf35; obtain rfl := R.h36.eq_unread hf36
  sl_exec
  sl_step
  sl_unfold_words
  simp only [load_all]
  iapply Hk
  isplitl [H1 H2 H3 H4 H5 H6 H7 H8 H9 H10 H11 H12 H13 H14 H15 H16 H17 H18]
  · isplitl [H1]
    · iexists _; isplitr; · ipureintro; exact R.h1.read_unread _
      iexact H1
    isplitl [H2]
    · iexists _; isplitr; · ipureintro; exact R.h2.read_unread _
      iexact H2
    isplitl [H3]
    · iexists _; isplitr; · ipureintro; exact R.h3.read_unread _
      iexact H3
    isplitl [H4]
    · iexists _; isplitr; · ipureintro; exact R.h4.read_unread _
      iexact H4
    isplitl [H5]
    · iexists _; isplitr; · ipureintro; exact R.h5.read_unread _
      iexact H5
    isplitl [H6]
    · iexists _; isplitr; · ipureintro; exact R.h6.read_unread _
      iexact H6
    isplitl [H7]
    · iexists _; isplitr; · ipureintro; exact R.h7.read_unread _
      iexact H7
    isplitl [H8]
    · iexists _; isplitr; · ipureintro; exact R.h8.read_unread _
      iexact H8
    isplitl [H9]
    · iexists _; isplitr; · ipureintro; exact R.h9.read_unread _
      iexact H9
    isplitl [H10]
    · iexists _; isplitr; · ipureintro; exact R.h10.read_unread _
      iexact H10
    isplitl [H11]
    · iexists _; isplitr; · ipureintro; exact R.h11.read_unread _
      iexact H11
    isplitl [H12]
    · iexists _; isplitr; · ipureintro; exact R.h12.read_unread _
      iexact H12
    isplitl [H13]
    · iexists _; isplitr; · ipureintro; exact R.h13.read_unread _
      iexact H13
    isplitl [H14]
    · iexists _; isplitr; · ipureintro; exact R.h14.read_unread _
      iexact H14
    isplitl [H15]
    · iexists _; isplitr; · ipureintro; exact R.h15.read_unread _
      iexact H15
    isplitl [H16]
    · iexists _; isplitr; · ipureintro; exact R.h16.read_unread _
      iexact H16
    isplitl [H17]
    · iexists _; isplitr; · ipureintro; exact R.h17.read_unread _
      iexact H17
    iexists _; isplitr; · ipureintro; exact R.h18.read_unread _
    iexact H18
  isplitl [H22 H23 H24 H25 H26 H27 H28 H29 H30 H31 H32 H33 H34 H35 H36]
  · isplitl [H22]
    · iexists _; isplitr; · ipureintro; exact R.h22.read_unread _
      iexact H22
    isplitl [H23]
    · iexists _; isplitr; · ipureintro; exact R.h23.read_unread _
      iexact H23
    isplitl [H24]
    · iexists _; isplitr; · ipureintro; exact R.h24.read_unread _
      iexact H24
    isplitl [H25]
    · iexists _; isplitr; · ipureintro; exact R.h25.read_unread _
      iexact H25
    isplitl [H26]
    · iexists _; isplitr; · ipureintro; exact R.h26.read_unread _
      iexact H26
    isplitl [H27]
    · iexists _; isplitr; · ipureintro; exact R.h27.read_unread _
      iexact H27
    isplitl [H28]
    · iexists _; isplitr; · ipureintro; exact R.h28.read_unread _
      iexact H28
    isplitl [H29]
    · iexists _; isplitr; · ipureintro; exact R.h29.read_unread _
      iexact H29
    isplitl [H30]
    · iexists _; isplitr; · ipureintro; exact R.h30.read_unread _
      iexact H30
    isplitl [H31]
    · iexists _; isplitr; · ipureintro; exact R.h31.read_unread _
      iexact H31
    isplitl [H32]
    · iexists _; isplitr; · ipureintro; exact R.h32.read_unread _
      iexact H32
    isplitl [H33]
    · iexists _; isplitr; · ipureintro; exact R.h33.read_unread _
      iexact H33
    isplitl [H34]
    · iexists _; isplitr; · ipureintro; exact R.h34.read_unread _
      iexact H34
    isplitl [H35]
    · iexists _; isplitr; · ipureintro; exact R.h35.read_unread _
      iexact H35
    iexists _; isplitr; · ipureintro; exact R.h36.read_unread _
    iexact H36
  isplitl [H19]
  · iexists _; isplitr; swap; · iexact H19
    ipureintro; refine (store_all _ _ _ _ _).trans ?_; rfl
  isplitl [H20]
  · iexists _; isplitr; swap; · iexact H20
    ipureintro; refine (store_all _ _ _ _ _).trans ?_; rfl
  iexists _; isplitr; swap; · iexact H21
  ipureintro; refine (store_all _ _ _ _ _).trans ?_; rfl

end Cert.KernelIdeal.Body

end
-- ==== Proof.Point.lean ====
/- The whole body at the first point and at a later one. -/
module

public import proofs.«01_k».proof.Proof.Prep
public import proofs.«01_k».proof.Proof.Stages
public import Idealize.ShloMosaic.Lib.WholeRead
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The rest of the body after the encoder: the parts in order. -/
theorem wp_rest (c : Dev nD) (i : grid0.Coords) (R : Refs) (X : Ins F) (S : Scr F) (E : Set ℕ) (K : PUnit → sProp 𝕄) :
    iprop(ownsIns c R X ∗ ownsScr c R S ∗ anyOuts c R
        ∗ (iprop(ownsIns c R X ∗ ownsScr c R S ∗ ownsOuts c R (outs X S)) -∗ K ⟨⟩))
      ⊢ wp frame (wpE (defs₀ (F := F)) Variants.none c none) E (restP i R ⟨X.x0, vZc X S⟩) K := by
  unfold restP
  dsimp only
  rw [wp_bind]
  iintro ⟨HI, HS, HO, Hk⟩
  iapply (wp_part4 c i R X S E _)
  isplitl [HI]; · iexact HI
  isplitl [HS]; · iexact HS
  iintro ⟨HI, HS⟩
  dsimp only
  rw [wp_bind]
  iapply (wp_part5 c i R X S E _)
  isplitl [HI]; · iexact HI
  isplitl [HS]; · iexact HS
  iintro ⟨HI, HS⟩
  dsimp only
  rw [wp_bind]
  iapply (wp_part6 c i R X S E _)
  isplitl [HI]; · iexact HI
  isplitl [HS]; · iexact HS
  iintro ⟨HI, HS⟩
  dsimp only
  iapply (wp_part7 c i R X S E K)
  isplitl [HI]; · iexact HI
  isplitl [HS]; · iexact HS
  isplitl [HO]; · iexact HO
  iexact Hk

/-- The body at the first point: the scratch may hold anything. -/
theorem wp_first (c : Dev nD) (i : grid0.Coords) (hi : cond0_0 i) (R : Refs) (X : Ins F) (E : Set ℕ) (K : PUnit → sProp 𝕄) :
    iprop(ownsIns c R X ∗ anyScr c R ∗ anyOuts c R
        ∗ (iprop(ownsIns c R X ∗ ownsScr c R (prep X) ∗ ownsOuts c R (outs X (prep X))) -∗ K ⟨⟩))
      ⊢ wp frame (wpE (defs₀ (F := F)) Variants.none c none) E (bodyP i R) K := by
  rw [wp_body, if_pos hi]
  iintro ⟨HI, HS, HO, Hk⟩
  iapply (wp_prep c i R X E _)
  isplitl [HI]; · iexact HI
  isplitl [HS]; · iexact HS
  iintro ⟨HI, HS⟩
  iapply (wp_enc c i R X (prep X) E _)
  isplitl [HI]; · iexact HI
  isplitl [HS]; · iexact HS
  iintro ⟨HI, HS⟩
  iapply (wp_rest c i R X (prep X) E K)
  isplitl [HI]; · iexact HI
  isplitl [HS]; · iexact HS
  isplitl [HO]; · iexact HO
  iexact Hk

/-- The body at a later point: the scratch holds what the first point left, and keeps it. -/
theorem wp_later (c : Dev nD) (i : grid0.Coords) (hi : ¬ cond0_0 i) (R : Refs) (X : Ins F) (S : Scr F) (E : Set ℕ) (K : PUnit → sProp 𝕄) :
    iprop(ownsIns c R X ∗ ownsScr c R S ∗ anyOuts c R
        ∗ (iprop(ownsIns c R X ∗ ownsScr c R S ∗ ownsOuts c R (outs X S)) -∗ K ⟨⟩))
      ⊢ wp frame (wpE (defs₀ (F := F)) Variants.none c none) E (bodyP i R) K := by
  rw [wp_body, if_neg hi]
  iintro ⟨HI, HS, HO, Hk⟩
  sl_step
  iapply (wp_enc c i R X S E _)
  isplitl [HI]; · iexact HI
  isplitl [HS]; · iexact HS
  iintro ⟨HI, HS⟩
  iapply (wp_rest c i R X S E K)
  isplitl [HI]; · iexact HI
  isplitl [HS]; · iexact HS
  isplitl [HO]; · iexact HO
  iexact Hk

end Cert.KernelIdeal.Body

end
-- ==== Proof.Run.lean ====
/- The kernel's launch: what every point of the grid keeps, the run of @main it gives, and the arrays it leaves. -/
module

public import proofs.«01_k».proof.Proof.Point

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is called with at point `t`. -/
def refsAt (t : Fin cfg0.N) : Refs :=
  { a1 := ms0_0 t, h1 := hs0_0 t,
    a2 := ms0_1 t, h2 := hs0_1 t,
    a3 := ms0_2 t, h3 := hs0_2 t,
    a4 := ms0_3 t, h4 := hs0_3 t,
    a5 := ms0_4 t, h5 := hs0_4 t,
    a6 := ms0_5 t, h6 := hs0_5 t,
    a7 := ms0_6 t, h7 := hs0_6 t,
    a8 := ms0_7 t, h8 := hs0_7 t,
    a9 := ms0_8 t, h9 := hs0_8 t,
    a10 := ms0_9 t, h10 := hs0_9 t,
    a11 := ms0_10 t, h11 := hs0_10 t,
    a12 := ms0_11 t, h12 := hs0_11 t,
    a13 := ms0_12 t, h13 := hs0_12 t,
    a14 := ms0_13 t, h14 := hs0_13 t,
    a15 := ms0_14 t, h15 := hs0_14 t,
    a16 := ms0_15 t, h16 := hs0_15 t,
    a17 := ms0_16 t, h17 := hs0_16 t,
    a18 := ms0_17 t, h18 := hs0_17 t,
    a19 := ms0_18 t, h19 := hs0_18 t,
    a20 := ms0_19 t, h20 := hs0_19 t,
    a21 := ms0_20 t, h21 := hs0_20 t,
    a22 := scM0_0, h22 := Memref.isWhole_whole _,
    a23 := scM0_1, h23 := Memref.isWhole_whole _,
    a24 := scM0_2, h24 := Memref.isWhole_whole _,
    a25 := scM0_3, h25 := Memref.isWhole_whole _,
    a26 := scM0_4, h26 := Memref.isWhole_whole _,
    a27 := scM0_5, h27 := Memref.isWhole_whole _,
    a28 := scM0_6, h28 := Memref.isWhole_whole _,
    a29 := scM0_7, h29 := Memref.isWhole_whole _,
    a30 := scM0_8, h30 := Memref.isWhole_whole _,
    a31 := scM0_9, h31 := Memref.isWhole_whole _,
    a32 := scM0_10, h32 := Memref.isWhole_whole _,
    a33 := scM0_11, h33 := Memref.isWhole_whole _,
    a34 := scM0_12, h34 := Memref.isWhole_whole _,
    a35 := scM0_13, h35 := Memref.isWhole_whole _,
    a36 := scM0_14, h36 := Memref.isWhole_whole _ }

/-- The input blocks at point `t`. -/
def insAt (c : Dev nD) (t : Fin cfg0.N) : Ins F :=
  { x0 := iblk m c 0 t, x1 := iblk m c 1 t, x2 := iblk m c 2 t, x3 := iblk m c 3 t, x4 := iblk m c 4 t, x5 := iblk m c 5 t, x6 := iblk m c 6 t, x7 := iblk m c 7 t, x8 := iblk m c 8 t, x9 := iblk m c 9 t, x10 := iblk m c 10 t, x11 := iblk m c 11 t, x12 := iblk m c 12 t, x13 := iblk m c 13 t, x14 := iblk m c 14 t, x15 := iblk m c 15 t, x16 := iblk m c 16 t, x17 := iblk m c 17 t }

/-- The first point. -/
def pt0 : Fin cfg0.N := ⟨0, lt_of_lt_of_eq (by decide : 0 < 16) N_0.symm⟩

/-- The scratch after the first point, and after every later one. -/
def scrAll (c : Dev nD) : Scr F := prep (insAt m c pt0)

/-- The output blocks made at point `t`. -/
def outsAt (c : Dev nD) (t : Fin cfg0.N) : Outs F := outs (insAt m c t) (scrAll m c)

/-- What holds before point `n`: before the first the scratch holds anything, afterwards the prepared tables. -/
def PhiS (c : Dev nD) : (n : ℕ) → n ≤ cfg0.N → sProp 𝕄
  | 0, _ => Pipeline.ΦA spec0 c
  | n + 1, _ => iprop(ownsScr c (refsAt pt0) (scrAll m c) ∗ (∃ r, prngReg c r))

/-- Before the first point the scratch may hold anything. -/
theorem PhiS_zero (c : Dev nD) (n : ℕ) (h : n ≤ cfg0.N) (hz : n = 0) : PhiS m c n h = Pipeline.ΦA spec0 c := by
  subst hz; rfl

/-- Before every later point the scratch holds the prepared tables. -/
theorem PhiS_pos (c : Dev nD) (n : ℕ) (h : n ≤ cfg0.N) (hz : n ≠ 0) :
    PhiS m c n h = iprop(ownsScr c (refsAt pt0) (scrAll m c) ∗ (∃ r, prngReg c r)) := by
  cases n with
  | zero => exact absurd rfl hz
  | succ n => rfl

/-- The proof data of the one pipeline: inputs keep their blocks, outputs end at `outsAt`. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t).o0
    | ⟨19, _⟩ => (outsAt m c t).o1
    | ⟨20, _⟩ => (outsAt m c t).o2
    | ⟨_ + 21, h⟩ => absurd h (Nat.not_lt.2 (Nat.le_add_left _ _))
  Φ t := PhiS m c t.val (Nat.le_of_lt_succ t.isLt)
  q _ := fullShare
  owed _ := 0

/-- The arrays the pipeline starts from are those the host leaves. -/
theorem A_eq (c : Dev nD) (w : Fin cfg0.W) : (dats m 0 c).A w = V m c (Pipeline.arrRef spec0 w) := by
  dsimp only [dats]

/-- What holds before point `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- After a point the buffer of the input holds its block still. -/
theorem after_0 (c : Dev nD) (t : Fin cfg0.N) : (dats m 0 c).after 0 t = iblk m c 0 t := by dsimp only [dats]
/-- After a point the buffer of the first encoder matrix holds its block still. -/
theorem after_1 (c : Dev nD) (t : Fin cfg0.N) : (dats m 0 c).after 1 t = iblk m c 1 t := by dsimp only [dats]
/-- After a point the buffer of the first encoder bias holds its block still. -/
theorem after_2 (c : Dev nD) (t : Fin cfg0.N) : (dats m 0 c).after 2 t = iblk m c 2 t := by dsimp only [dats]
/-- After a point the buffer of the second encoder matrix holds its block still. -/
theorem after_3 (c : Dev nD) (t : Fin cfg0.N) : (dats m 0 c).after 3 t = iblk m c 3 t := by dsimp only [dats]
/-- After a point the buffer of the second encoder bias holds its block still. -/
theorem after_4 (c : Dev nD) (t : Fin cfg0.N) : (dats m 0 c).after 4 t = iblk m c 4 t := by dsimp only [dats]
/-- After a point the buffer of the third encoder matrix holds its block still. -/
theorem after_5 (c : Dev nD) (t : Fin cfg0.N) : (dats m 0 c).after 5 t = iblk m c 5 t := by dsimp only [dats]
/-- After a point the buffer of the third encoder bias holds its block still. -/
theorem after_6 (c : Dev nD) (t : Fin cfg0.N) : (dats m 0 c).after 6 t = iblk m c 6 t := by dsimp only [dats]
/-- After a point the buffer of the first decoder matrix holds its block still. -/
theorem after_7 (c : Dev nD) (t : Fin cfg0.N) : (dats m 0 c).after 7 t = iblk m c 7 t := by dsimp only [dats]
/-- After a point the buffer of the first decoder bias holds its block still. -/
theorem after_8 (c : Dev nD) (t : Fin cfg0.N) : (dats m 0 c).after 8 t = iblk m c 8 t := by dsimp only [dats]
/-- After a point the buffer of the second decoder matrix holds its block still. -/
theorem after_9 (c : Dev nD) (t : Fin cfg0.N) : (dats m 0 c).after 9 t = iblk m c 9 t := by dsimp only [dats]
/-- After a point the buffer of the second decoder bias holds its block still. -/
theorem after_10 (c : Dev nD) (t : Fin cfg0.N) : (dats m 0 c).after 10 t = iblk m c 10 t := by dsimp only [dats]
/-- After a point the buffer of the third decoder matrix holds its block still. -/
theorem after_11 (c : Dev nD) (t : Fin cfg0.N) : (dats m 0 c).after 11 t = iblk m c 11 t := by dsimp only [dats]
/-- After a point the buffer of the third decoder bias holds its block still. -/
theorem after_12 (c : Dev nD) (t : Fin cfg0.N) : (dats m 0 c).after 12 t = iblk m c 12 t := by dsimp only [dats]
/-- After a point the buffer of the norm's scale holds its block still. -/
theorem after_13 (c : Dev nD) (t : Fin cfg0.N) : (dats m 0 c).after 13 t = iblk m c 13 t := by dsimp only [dats]
/-- After a point the buffer of the norm's shift holds its block still. -/
theorem after_14 (c : Dev nD) (t : Fin cfg0.N) : (dats m 0 c).after 14 t = iblk m c 14 t := by dsimp only [dats]
/-- After a point the buffer of the first codebook holds its block still. -/
theorem after_15 (c : Dev nD) (t : Fin cfg0.N) : (dats m 0 c).after 15 t = iblk m c 15 t := by dsimp only [dats]
/-- After a point the buffer of the second codebook holds its block still. -/
theorem after_16 (c : Dev nD) (t : Fin cfg0.N) : (dats m 0 c).after 16 t = iblk m c 16 t := by dsimp only [dats]
/-- After a point the buffer of the third codebook holds its block still. -/
theorem after_17 (c : Dev nD) (t : Fin cfg0.N) : (dats m 0 c).after 17 t = iblk m c 17 t := by dsimp only [dats]
/-- After a point the buffer of the decoded rows holds the block made there. -/
theorem after_18 (c : Dev nD) (t : Fin cfg0.N) : (dats m 0 c).after 18 t = (outsAt m c t).o0 := by dsimp only [dats]
/-- After a point the buffer of the losses holds the block made there. -/
theorem after_19 (c : Dev nD) (t : Fin cfg0.N) : (dats m 0 c).after 19 t = (outsAt m c t).o1 := by dsimp only [dats]
/-- After a point the buffer of the codeword numbers holds the block made there. -/
theorem after_20 (c : Dev nD) (t : Fin cfg0.N) : (dats m 0 c).after 20 t = (outsAt m c t).o2 := by dsimp only [dats]
/-- Before a point the buffer of the input holds its block. -/
theorem before_0 (c : Dev nD) (t : Fin cfg0.N) (d) : (dats m 0 c).before 0 t d = iblk m c 0 t :=
  before0_0_of m (dats m 0 c) (A_eq m c 0) (after_0 m c) t d
/-- Before a point the buffer of the first encoder matrix holds its block. -/
theorem before_1 (c : Dev nD) (t : Fin cfg0.N) (d) : (dats m 0 c).before 1 t d = iblk m c 1 t :=
  before0_1_of m (dats m 0 c) (A_eq m c 1) (after_1 m c) t d
/-- Before a point the buffer of the first encoder bias holds its block. -/
theorem before_2 (c : Dev nD) (t : Fin cfg0.N) (d) : (dats m 0 c).before 2 t d = iblk m c 2 t :=
  before0_2_of m (dats m 0 c) (A_eq m c 2) (after_2 m c) t d
/-- Before a point the buffer of the second encoder matrix holds its block. -/
theorem before_3 (c : Dev nD) (t : Fin cfg0.N) (d) : (dats m 0 c).before 3 t d = iblk m c 3 t :=
  before0_3_of m (dats m 0 c) (A_eq m c 3) (after_3 m c) t d
/-- Before a point the buffer of the second encoder bias holds its block. -/
theorem before_4 (c : Dev nD) (t : Fin cfg0.N) (d) : (dats m 0 c).before 4 t d = iblk m c 4 t :=
  before0_4_of m (dats m 0 c) (A_eq m c 4) (after_4 m c) t d
/-- Before a point the buffer of the third encoder matrix holds its block. -/
theorem before_5 (c : Dev nD) (t : Fin cfg0.N) (d) : (dats m 0 c).before 5 t d = iblk m c 5 t :=
  before0_5_of m (dats m 0 c) (A_eq m c 5) (after_5 m c) t d
/-- Before a point the buffer of the third encoder bias holds its block. -/
theorem before_6 (c : Dev nD) (t : Fin cfg0.N) (d) : (dats m 0 c).before 6 t d = iblk m c 6 t :=
  before0_6_of m (dats m 0 c) (A_eq m c 6) (after_6 m c) t d
/-- Before a point the buffer of the first decoder matrix holds its block. -/
theorem before_7 (c : Dev nD) (t : Fin cfg0.N) (d) : (dats m 0 c).before 7 t d = iblk m c 7 t :=
  before0_7_of m (dats m 0 c) (A_eq m c 7) (after_7 m c) t d
/-- Before a point the buffer of the first decoder bias holds its block. -/
theorem before_8 (c : Dev nD) (t : Fin cfg0.N) (d) : (dats m 0 c).before 8 t d = iblk m c 8 t :=
  before0_8_of m (dats m 0 c) (A_eq m c 8) (after_8 m c) t d
/-- Before a point the buffer of the second decoder matrix holds its block. -/
theorem before_9 (c : Dev nD) (t : Fin cfg0.N) (d) : (dats m 0 c).before 9 t d = iblk m c 9 t :=
  before0_9_of m (dats m 0 c) (A_eq m c 9) (after_9 m c) t d
/-- Before a point the buffer of the second decoder bias holds its block. -/
theorem before_10 (c : Dev nD) (t : Fin cfg0.N) (d) : (dats m 0 c).before 10 t d = iblk m c 10 t :=
  before0_10_of m (dats m 0 c) (A_eq m c 10) (after_10 m c) t d
/-- Before a point the buffer of the third decoder matrix holds its block. -/
theorem before_11 (c : Dev nD) (t : Fin cfg0.N) (d) : (dats m 0 c).before 11 t d = iblk m c 11 t :=
  before0_11_of m (dats m 0 c) (A_eq m c 11) (after_11 m c) t d
/-- Before a point the buffer of the third decoder bias holds its block. -/
theorem before_12 (c : Dev nD) (t : Fin cfg0.N) (d) : (dats m 0 c).before 12 t d = iblk m c 12 t :=
  before0_12_of m (dats m 0 c) (A_eq m c 12) (after_12 m c) t d
/-- Before a point the buffer of the norm's scale holds its block. -/
theorem before_13 (c : Dev nD) (t : Fin cfg0.N) (d) : (dats m 0 c).before 13 t d = iblk m c 13 t :=
  before0_13_of m (dats m 0 c) (A_eq m c 13) (after_13 m c) t d
/-- Before a point the buffer of the norm's shift holds its block. -/
theorem before_14 (c : Dev nD) (t : Fin cfg0.N) (d) : (dats m 0 c).before 14 t d = iblk m c 14 t :=
  before0_14_of m (dats m 0 c) (A_eq m c 14) (after_14 m c) t d
/-- Before a point the buffer of the first codebook holds its block. -/
theorem before_15 (c : Dev nD) (t : Fin cfg0.N) (d) : (dats m 0 c).before 15 t d = iblk m c 15 t :=
  before0_15_of m (dats m 0 c) (A_eq m c 15) (after_15 m c) t d
/-- Before a point the buffer of the second codebook holds its block. -/
theorem before_16 (c : Dev nD) (t : Fin cfg0.N) (d) : (dats m 0 c).before 16 t d = iblk m c 16 t :=
  before0_16_of m (dats m 0 c) (A_eq m c 16) (after_16 m c) t d
/-- Before a point the buffer of the third codebook holds its block. -/
theorem before_17 (c : Dev nD) (t : Fin cfg0.N) (d) : (dats m 0 c).before 17 t d = iblk m c 17 t :=
  before0_17_of m (dats m 0 c) (A_eq m c 17) (after_17 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 28800000 in
/-- The body at any point takes what the point before left to what this one leaves. -/
theorem sound_body (c : Dev nD) (t : Fin cfg0.N) :
    bodyPre m c t ⊢ wp frame (wpE (defs₀ (F := F)) Variants.none c none) Set.univ (bodyAt0 t) (fun _ => bodyPost m c t) := by
  rw [show (bodyAt0 t : Prog (TpuEff nD τ sig (Elt F) Λ₀ .tc) PUnit) = bodyP (grid0.coords t) (refsAt t) from rfl]
  unfold bodyPre bodyPost
  simp only [before_0, before_1, before_2, before_3, before_4, before_5, before_6, before_7, before_8, before_9, before_10, before_11, before_12, before_13, before_14, before_15, before_16, before_17]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20]
  rw [show (dats m 0 c).Φ t.succ = PhiS m c (t.val + 1) t.isLt from rfl, PhiS_pos m c _ _ (Nat.succ_ne_zero _), PhiS_castSucc m c t]
  have hN : t.val < 16 := lt_of_lt_of_eq t.isLt (show cfg0.N = 16 from N_0)
  by_cases hz : t.val = 0
  · obtain rfl : t = pt0 := Fin.ext hz
    rw [PhiS_zero m c _ _ hz, PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (wp_first c (grid0.coords pt0) ((hcond0_0 pt0).mpr rfl) (refsAt pt0) (insAt m c pt0) Set.univ _)
    isplitl [H0 H1 H2 H3 H4 H5 H6 H7 H8 H9 H10 H11 H12 H13 H14 H15 H16 H17]
    · unfold ownsIns; dsimp only [refsAt, insAt]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    isplitl [HS]
    · unfold anyScr; dsimp only [refsAt]; iexact HS
    isplitl [H18 H19 H20]
    · unfold anyOuts; dsimp only [refsAt]
      isplitl [H18]; · iexists _; iexact H18
      isplitl [H19]; · iexists _; iexact H19
      iexists _; iexact H20
    iintro ⟨HI, HS, HO⟩
    isplitl [HS Hg]
    · isplitl [HS]; · iexact HS
      iexact Hg
    isplitl [Ho]; · iexact Ho
    unfold ownsIns ownsOuts; dsimp only [refsAt, insAt]
    icases HI with ⟨H0, H1, H2, H3, H4, H5, H6, H7, H8, H9, H10, H11, H12, H13, H14, H15, H16, H17⟩
    icases HO with ⟨H18, H19, H20⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (wp_later c (grid0.coords t) (fun h => hz (by have := (hcond0_0 t).mp h; omega)) (refsAt t) (insAt m c t) (scrAll m c) Set.univ _)
    isplitl [H0 H1 H2 H3 H4 H5 H6 H7 H8 H9 H10 H11 H12 H13 H14 H15 H16 H17]
    · unfold ownsIns; dsimp only [refsAt, insAt]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    isplitl [HS]; · iexact HS
    isplitl [H18 H19 H20]
    · unfold anyOuts; dsimp only [refsAt]
      isplitl [H18]; · iexists _; iexact H18
      isplitl [H19]; · iexists _; iexact H19
      iexists _; iexact H20
    iintro ⟨HI, HS, HO⟩
    isplitl [HS Hg]
    · isplitl [HS]; · iexact HS
      iexact Hg
    isplitl [Ho]; · iexact Ho
    unfold ownsIns ownsOuts; dsimp only [refsAt, insAt]
    icases HI with ⟨H0, H1, H2, H3, H4, H5, H6, H7, H8, H9, H10, H11, H12, H13, H14, H15, H16, H17⟩
    icases HO with ⟨H18, H19, H20⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- The body that the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body keeps its contract at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch starts from gives what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  unfold ownsScr; dsimp only [refsAt]
  iintro ⟨⟨HS0, HS1, HS2, HS3, HS4, HS5, HS6, HS7, HS8, HS9, HS10, HS11, HS12, HS13, HS14⟩, Hg⟩
  isplitl [HS0 HS1 HS2 HS3 HS4 HS5 HS6 HS7 HS8 HS9 HS10 HS11 HS12 HS13 HS14]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    iexists _; iexact HS14
  iexact Hg

set_option backward.isDefEq.respectTransparency.types false in
set_option maxHeartbeats 800000 in
/-- The launch: every run of @main ends with the pipeline's arrays at what the data say, and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments are as the run found them. -/
abbrev Kept (m' : (ℓ : Loc nD τ sig) → Buf (Elt F) ℓ) : Prop := ∀ c : Dev nD,
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)
  ∧ m' ((c.tc : Thread nD τ).loc main_arg14) = m ((c.tc : Thread nD τ).loc main_arg14)
  ∧ m' ((c.tc : Thread nD τ).loc main_arg15) = m ((c.tc : Thread nD τ).loc main_arg15)
  ∧ m' ((c.tc : Thread nD τ).loc main_arg16) = m ((c.tc : Thread nD τ).loc main_arg16)
  ∧ m' ((c.tc : Thread nD τ).loc main_arg17) = m ((c.tc : Thread nD τ).loc main_arg17)

/-- The pipeline's post keeps the arguments: a staged one by its window's being an input, the others by their being in no window. -/
theorem kept {r} (h : Pipeline.FramePost cfgs (dats m) 0 (Pipeline.afterTail₀ cfgs (dats m) 0 (V0 m) [hostOps1]) r) : Kept m r.2.mem := fun c =>
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).2 main_arg4 (Pipeline.mem_restRefs_of main_arg4 (by decide) (by decide))).trans (W_main_arg4 m (dats m) c),
    ((h c).1 5).trans (((dats m 0 c).arrAt_in 5 rfl _).trans ((A_eq m c 5).trans (V_main_arg5 m c))),
    ((h c).2 main_arg6 (Pipeline.mem_restRefs_of main_arg6 (by decide) (by decide))).trans (W_main_arg6 m (dats m) c),
    ((h c).1 7).trans (((dats m 0 c).arrAt_in 7 rfl _).trans ((A_eq m c 7).trans (V_main_arg7 m c))),
    ((h c).2 main_arg8 (Pipeline.mem_restRefs_of main_arg8 (by decide) (by decide))).trans (W_main_arg8 m (dats m) c),
    ((h c).1 9).trans (((dats m 0 c).arrAt_in 9 rfl _).trans ((A_eq m c 9).trans (V_main_arg9 m c))),
    ((h c).2 main_arg10 (Pipeline.mem_restRefs_of main_arg10 (by decide) (by decide))).trans (W_main_arg10 m (dats m) c),
    ((h c).1 11).trans (((dats m 0 c).arrAt_in 11 rfl _).trans ((A_eq m c 11).trans (V_main_arg11 m c))),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).1 15).trans (((dats m 0 c).arrAt_in 15 rfl _).trans ((A_eq m c 15).trans (V_main_arg15 m c))),
    ((h c).1 16).trans (((dats m 0 c).arrAt_in 16 rfl _).trans ((A_eq m c 16).trans (V_main_arg16 m c))),
    ((h c).1 17).trans (((dats m 0 c).arrAt_in 17 rfl _).trans ((A_eq m c 17).trans (V_main_arg17 m c)))⟩

/-- The run leaves the arguments as they were, and every counter at zero. -/
theorem quiet : θ_run defs (onTc (τ := τ) (main (F := F))) ⟨m, fun _ => 0, ρ⟩ (fun r => Kept m r.2.mem ∧ r.2.sem = fun _ => 0) :=
  (θ_run defs _ _).mono (fun _ h => ⟨kept m h.1, h.2⟩) (run_quiescent m ρ)

end Cert.KernelIdeal.Body

end
-- ==== Proof.RefRun.lean ====
/- The reference program as one list of host operations, its run, and one equation per operation on the contents the
   run leaves: each buffer's final contents are the operation's function of its operands' final contents, because every
   buffer is written once and read only afterwards. -/
module

public import proofs.«01_k».proof.Proof.Gen.ReferenceIdeal
public import Idealize.ShloMosaic.Lib.StableHlo.Run
public import Idealize.ShloMosaic.Lib.Pipeline.Frame

@[expose] public section

set_option Elab.async false
set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## A line of operations read at one of its operations -/

section Line

variable {τ : Topo} {sig : RefSig} {Val : EltTy → Type}
variable {ops : List (HloOp τ sig Val)} {outs : List (Ref sig .tc)}

/-- The line is its first operations and then the others. -/
theorem after_take_drop (ops : List (HloOp τ sig Val)) (k : ℕ) (V : Valuation τ sig Val) :
    after ops V = after (ops.drop k) (after (ops.take k) V) := by
  induction k generalizing ops V with
  | zero => rfl
  | succ k ih =>
    cases ops with
    | nil => rfl
    | cons op ops => exact ih ops (op.result V)

/-- What the operations from the `k`-th on do not write keeps what the first `k` left. -/
theorem after_take (hw : ops.map HloOp.writes = outs.map fun r => {Proc.devRef (τ := τ) .tc r}) (k : ℕ)
    {r : Ref sig .tc} (hr : r ∉ outs.drop k) (V : Valuation τ sig Val) :
    after (ops.take k) V (Proc.devRef .tc r) = after ops V (Proc.devRef .tc r) := by
  rw [after_take_drop ops k V]
  exact (after_of_writes_sub _ _ (forall_writes_sub_of_map (by rw [List.map_drop, List.map_drop, hw])) hr).symm

/-- The `k`-th operation's result stands at the end if no later operation writes it. -/
theorem after_at (hw : ops.map HloOp.writes = outs.map fun r => {Proc.devRef (τ := τ) .tc r}) {k : ℕ}
    {op : HloOp τ sig Val} (hk : ops[k]? = some op) {r : Ref sig .tc} (hr : r ∉ outs.drop (k + 1)) (V : Valuation τ sig Val) :
    after ops V (Proc.devRef .tc r) = op.result (after (ops.take k) V) (Proc.devRef .tc r) := by
  rw [← after_take hw (k + 1) hr V, List.take_succ, hk, after_take_drop _ k V]
  have hl : k < ops.length := (List.getElem?_eq_some_iff.mp hk).1
  have h1 : (ops.take k ++ (some op).toList).take k = ops.take k := by
    rw [List.take_append_of_le_length (by rw [List.length_take]; omega), List.take_take, min_self]
  have h2 : (ops.take k ++ (some op).toList).drop k = [op] := by
    rw [List.drop_append, List.drop_of_length_le (by rw [List.length_take]; omega), List.length_take, Nat.min_eq_left hl.le,
      Nat.sub_self]; rfl
  rw [h1, h2]; rfl

end Line

variable {F : FTy → Type} [FloatOps F]

/-- The operations of @main's part 1, in order. -/
def ops0 : List (HloOp τ sig (Elt F)) :=
  [ binary main_arg0 main_arg1 main_v0 ((fun l r => Host.dotGeneral dot_S4096x768_S768x512_S4096x512_1_0_0_1_n_n none l r) : (⟨S4096x768, .f32⟩ : BufTy).Contents (Elt F) → (⟨S768x512, .f32⟩ : BufTy).Contents (Elt F) → (⟨S4096x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S4096x512 ![0, 1] bcast_S1x512_S4096x512_0_1 : (⟨S1x512, .f32⟩ : BufTy).Contents (Elt F) → (⟨S4096x512, .f32⟩ : BufTy).Contents (Elt F)),
    binary main_v0 main_v2 main_v3 (addf : (⟨S4096x512, .f32⟩ : BufTy).Contents (Elt F) → (⟨S4096x512, .f32⟩ : BufTy).Contents (Elt F) → (⟨S4096x512, .f32⟩ : BufTy).Contents (Elt F)),
    nullary main_call0_cst (constant S_ .f32 0x00000000#32),
    unary main_call0_cst main_call0_v0 (broadcastInDim S4096x512 ![] bcast_S_S4096x512 : (⟨S_, .f32⟩ : BufTy).Contents (Elt F) → (⟨S4096x512, .f32⟩ : BufTy).Contents (Elt F)),
    binary main_v3 main_call0_v0 main_v4 (maximumf : (⟨S4096x512, .f32⟩ : BufTy).Contents (Elt F) → (⟨S4096x512, .f32⟩ : BufTy).Contents (Elt F) → (⟨S4096x512, .f32⟩ : BufTy).Contents (Elt F)),
    binary main_v4 main_arg3 main_v5 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg4 main_v6 (broadcastInDim S1x256 ![1] bcast_S256_S1x256_1 : (⟨S256, .f32⟩ : BufTy).Contents (Elt F) → (⟨S1x256, .f32⟩ : BufTy).Contents (Elt F)),
    unary main_v6 main_v7 (broadcastInDim S4096x256 ![0, 1] bcast_S1x256_S4096x256_0_1 : (⟨S1x256, .f32⟩ : BufTy).Contents (Elt F) → (⟨S4096x256, .f32⟩ : BufTy).Contents (Elt F)),
    binary main_v5 main_v7 main_v8 (addf : (⟨S4096x256, .f32⟩ : BufTy).Contents (Elt F) → (⟨S4096x256, .f32⟩ : BufTy).Contents (Elt F) → (⟨S4096x256, .f32⟩ : BufTy).Contents (Elt F)),
    nullary main_call1_cst (constant S_ .f32 0x00000000#32),
    unary main_call1_cst main_call1_v0 (broadcastInDim S4096x256 ![] bcast_S_S4096x256 : (⟨S_, .f32⟩ : BufTy).Contents (Elt F) → (⟨S4096x256, .f32⟩ : BufTy).Contents (Elt F)),
    binary main_v8 main_call1_v0 main_v9 (maximumf : (⟨S4096x256, .f32⟩ : BufTy).Contents (Elt F) → (⟨S4096x256, .f32⟩ : BufTy).Contents (Elt F) → (⟨S4096x256, .f32⟩ : BufTy).Contents (Elt F)),
    binary main_v9 main_arg5 main_v10 ((fun l r => Host.dotGeneral dot_S4096x256_S256x32_S4096x32_1_0_0_1_n_n none l r) : (⟨S4096x256, .f32⟩ : BufTy).Contents (Elt F) → (⟨S256x32, .f32⟩ : BufTy).Contents (Elt F) → (⟨S4096x32, .f32⟩ : BufTy).Contents (Elt F)),
    unary main_arg6 main_v11 (broadcastInDim S1x32 ![1] bcast_S32_S1x32_1 : (⟨S32, .f32⟩ : BufTy).Contents (Elt F) → (⟨S1x32, .f32⟩ : BufTy).Contents (Elt F)),
    unary main_v11 main_v12 (broadcastInDim S4096x32 ![0, 1] bcast_S1x32_S4096x32_0_1 : (⟨S1x32, .f32⟩ : BufTy).Contents (Elt F) → (⟨S4096x32, .f32⟩ : BufTy).Contents (Elt F)),
    binary main_v10 main_v12 main_v13 (addf : (⟨S4096x32, .f32⟩ : BufTy).Contents (Elt F) → (⟨S4096x32, .f32⟩ : BufTy).Contents (Elt F) → (⟨S4096x32, .f32⟩ : BufTy).Contents (Elt F)),
    nullary main_cst (constant S_ .f32 0x00000000#32),
    binary main_v13 main_cst main_v14 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    unary main_v14 main_v15 (broadcastInDim S4096x1 ![0] bcast_S4096_S4096x1_0 : (⟨S4096, .f32⟩ : BufTy).Contents (Elt F) → (⟨S4096x1, .f32⟩ : BufTy).Contents (Elt F)),
    nullary main_cst_0 (constant S_ .f32 0x42000000#32),
    unary main_cst_0 main_v16 (broadcastInDim S4096x1 ![] bcast_S_S4096x1 : (⟨S_, .f32⟩ : BufTy).Contents (Elt F) → (⟨S4096x1, .f32⟩ : BufTy).Contents (Elt F)),
    binary main_v15 main_v16 main_v17 (Host.divf : (⟨S4096x1, .f32⟩ : BufTy).Contents (Elt F) → (⟨S4096x1, .f32⟩ : BufTy).Contents (Elt F) → (⟨S4096x1, .f32⟩ : BufTy).Contents (Elt F)),
    nullary main_c (constantI S_ 32 0#32),
    nullary main_call2_cst (constant S_ .f32 0x00000000#32),
    binary main_v13 main_call2_cst main_call2_v0 (fun x v => Host.reduceAdd x v reducesTo_S4096x32_S4096_d1 h_S_ : (⟨S4096x32, .f32⟩ : BufTy).Contents (Elt F) → (⟨S_, .f32⟩ : BufTy).Contents (Elt F) → (⟨S4096, .f32⟩ : BufTy).Contents (Elt F)),
    unary main_call2_v0 main_call2_v1 (broadcastInDim S4096x1 ![0] bcast_S4096_S4096x1_0 : (⟨S4096, .f32⟩ : BufTy).Contents (Elt F) → (⟨S4096x1, .f32⟩ : BufTy).Contents (Elt F)),
    nullary main_call2_cst_0 (constant S_ .f32 0x42000000#32),
    unary main_call2_cst_0 main_call2_v2 (broadcastInDim S4096x1 ![] bcast_S_S4096x1 : (⟨S_, .f32⟩ : BufTy).Contents (Elt F) → (⟨S4096x1, .f32⟩ : BufTy).Contents (Elt F)),
    binary main_call2_v1 main_call2_v2 main_call2_v3 (Host.divf : (⟨S4096x1, .f32⟩ : BufTy).Contents (Elt F) → (⟨S4096x1, .f32⟩ : BufTy).Contents (Elt F) → (⟨S4096x1, .f32⟩ : BufTy).Contents (Elt F)),
    unary main_call2_v3 main_call2_v4 (broadcastInDim S4096x32 ![0, 1] bcast_S4096x1_S4096x32_0_1 : (⟨S4096x1, .f32⟩ : BufTy).Contents (Elt F) → (⟨S4096x32, .f32⟩ : BufTy).Contents (Elt F)),
    binary main_v13 main_call2_v4 main_call2_v5 (subf : (⟨S4096x32, .f32⟩ : BufTy).Contents (Elt F) → (⟨S4096x32, .f32⟩ : BufTy).Contents (Elt F) → (⟨S4096x32, .f32⟩ : BufTy).Contents (Elt F)),
    binary main_call2_v5 main_call2_v5 main_call2_v6 (mulf : (⟨S4096x32, .f32⟩ : BufTy).Contents (Elt F) → (⟨S4096x32, .f32⟩ : BufTy).Contents (Elt F) → (⟨S4096x32, .f32⟩ : BufTy).Contents (Elt F)),
    unary main_c main_call2_v7 (sitofp .f32 : (⟨S_, .i32⟩ : BufTy).Contents (Elt F) → (⟨S_, .f32⟩ : BufTy).Contents (Elt F)),
    nullary main_call2_cst_1 (constant S_ .f32 0x42000000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 (fun x v => Host.reduceAdd x v reducesTo_S4096x32_S4096_d1 h_S_ : (⟨S4096x32, .f32⟩ : BufTy).Contents (Elt F) → (⟨S_, .f32⟩ : BufTy).Contents (Elt F) → (⟨S4096, .f32⟩ : BufTy).Contents (Elt F)),
    unary main_call2_v9 main_call2_v10 (broadcastInDim S4096x1 ![0] bcast_S4096_S4096x1_0 : (⟨S4096, .f32⟩ : BufTy).Contents (Elt F) → (⟨S4096x1, .f32⟩ : BufTy).Contents (Elt F)),
    unary main_call2_v8 main_call2_v11 (broadcastInDim S4096x1 ![] bcast_S_S4096x1 : (⟨S_, .f32⟩ : BufTy).Contents (Elt F) → (⟨S4096x1, .f32⟩ : BufTy).Contents (Elt F)),
    binary main_call2_v10 main_call2_v11 main_call2_v12 (Host.divf : (⟨S4096x1, .f32⟩ : BufTy).Contents (Elt F) → (⟨S4096x1, .f32⟩ : BufTy).Contents (Elt F) → (⟨S4096x1, .f32⟩ : BufTy).Contents (Elt F)),
    nullary main_call2_cst_3 (constant S_ .f32 0x00000000#32),
    binary main_call2_v8 main_call2_cst_3 main_call2_v13 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S4096x1 ![] bcast_S_S4096x1 : (⟨S_, .f32⟩ : BufTy).Contents (Elt F) → (⟨S4096x1, .f32⟩ : BufTy).Contents (Elt F)),
    ternary main_call2_v13 main_call2_v12 main_call2_call0_v1 main_v18 (fun p a b => select (broadcastInDim S4096x1 ![] bcast_S_S4096x1 p) a b : (⟨S_, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    unary main_v17 main_v19 (broadcastInDim S4096x32 ![0, 1] bcast_S4096x1_S4096x32_0_1 : (⟨S4096x1, .f32⟩ : BufTy).Contents (Elt F) → (⟨S4096x32, .f32⟩ : BufTy).Contents (Elt F)),
    binary main_v13 main_v19 main_v20 (subf : (⟨S4096x32, .f32⟩ : BufTy).Contents (Elt F) → (⟨S4096x32, .f32⟩ : BufTy).Contents (Elt F) → (⟨S4096x32, .f32⟩ : BufTy).Contents (Elt F)),
    nullary main_cst_1 (constant S_ .f32 0x3727C5AC#32),
    unary main_cst_1 main_v21 (broadcastInDim S4096x1 ![] bcast_S_S4096x1 : (⟨S_, .f32⟩ : BufTy).Contents (Elt F) → (⟨S4096x1, .f32⟩ : BufTy).Contents (Elt F)),
    binary main_v18 main_v21 main_v22 (addf : (⟨S4096x1, .f32⟩ : BufTy).Contents (Elt F) → (⟨S4096x1, .f32⟩ : BufTy).Contents (Elt F) → (⟨S4096x1, .f32⟩ : BufTy).Contents (Elt F)),
    unary main_v22 main_v23 (Host.sqrt : (⟨S4096x1, .f32⟩ : BufTy).Contents (Elt F) → (⟨S4096x1, .f32⟩ : BufTy).Contents (Elt F)),
    unary main_v23 main_v24 (broadcastInDim S4096x32 ![0, 1] bcast_S4096x1_S4096x32_0_1 : (⟨S4096x1, .f32⟩ : BufTy).Contents (Elt F) → (⟨S4096x32, .f32⟩ : BufTy).Contents (Elt F)),
    binary main_v20 main_v24 main_v25 (Host.divf : (⟨S4096x32, .f32⟩ : BufTy).Contents (Elt F) → (⟨S4096x32, .f32⟩ : BufTy).Contents (Elt F) → (⟨S4096x32, .f32⟩ : BufTy).Contents (Elt F)),
    unary main_arg13 main_v26 (broadcastInDim S1x32 ![1] bcast_S32_S1x32_1 : (⟨S32, .f32⟩ : BufTy).Contents (Elt F) → (⟨S1x32, .f32⟩ : BufTy).Contents (Elt F)),
    unary main_v26 main_v27 (broadcastInDim S4096x32 ![0, 1] bcast_S1x32_S4096x32_0_1 : (⟨S1x32, .f32⟩ : BufTy).Contents (Elt F) → (⟨S4096x32, .f32⟩ : BufTy).Contents (Elt F)),
    binary main_v25 main_v27 main_v28 (mulf : (⟨S4096x32, .f32⟩ : BufTy).Contents (Elt F) → (⟨S4096x32, .f32⟩ : BufTy).Contents (Elt F) → (⟨S4096x32, .f32⟩ : BufTy).Contents (Elt F)),
    unary main_arg14 main_v29 (broadcastInDim S1x32 ![1] bcast_S32_S1x32_1 : (⟨S32, .f32⟩ : BufTy).Contents (Elt F) → (⟨S1x32, .f32⟩ : BufTy).Contents (Elt F)),
    unary main_v29 main_v30 (broadcastInDim S4096x32 ![0, 1] bcast_S1x32_S4096x32_0_1 : (⟨S1x32, .f32⟩ : BufTy).Contents (Elt F) → (⟨S4096x32, .f32⟩ : BufTy).Contents (Elt F)),
    binary main_v28 main_v30 main_v31 (addf : (⟨S4096x32, .f32⟩ : BufTy).Contents (Elt F) → (⟨S4096x32, .f32⟩ : BufTy).Contents (Elt F) → (⟨S4096x32, .f32⟩ : BufTy).Contents (Elt F)),
    nullary main_cst_2 (constant S_ .f32 0x00000000#32),
    unary main_cst_2 main_v32 (broadcastInDim S4096x32 ![] bcast_S_S4096x32 : (⟨S_, .f32⟩ : BufTy).Contents (Elt F) → (⟨S4096x32, .f32⟩ : BufTy).Contents (Elt F)),
    binary main_v31 main_v31 main_v33 (mulf : (⟨S4096x32, .f32⟩ : BufTy).Contents (Elt F) → (⟨S4096x32, .f32⟩ : BufTy).Contents (Elt F) → (⟨S4096x32, .f32⟩ : BufTy).Contents (Elt F)),
    nullary main_cst_3 (constant S_ .f32 0x00000000#32),
    binary main_v33 main_cst_3 main_v34 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    unary main_v34 main_v35 (broadcastInDim S4096x1 ![0] bcast_S4096_S4096x1_0 : (⟨S4096, .f32⟩ : BufTy).Contents (Elt F) → (⟨S4096x1, .f32⟩ : BufTy).Contents (Elt F)),
    unary main_arg15 main_v36 ((transpose S32x8192 [1, 0] · transposes_S8192x32_S32x8192_1_0) : (⟨S8192x32, .f32⟩ : BufTy).Contents (Elt F) → (⟨S32x8192, .f32⟩ : BufTy).Contents (Elt F)),
    binary main_v31 main_v36 main_v37 ((fun l r => Host.dotGeneral dot_S4096x32_S32x8192_S4096x8192_1_0_0_1_n_n none l r) : (⟨S4096x32, .f32⟩ : BufTy).Contents (Elt F) → (⟨S32x8192, .f32⟩ : BufTy).Contents (Elt F) → (⟨S4096x8192, .f32⟩ : BufTy).Contents (Elt F)),
    nullary main_cst_4 (constant S_ .f32 0x40000000#32),
    unary main_cst_4 main_v38 (broadcastInDim S4096x8192 ![] bcast_S_S4096x8192 : (⟨S_, .f32⟩ : BufTy).Contents (Elt F) → (⟨S4096x8192, .f32⟩ : BufTy).Contents (Elt F)),
    binary main_v38 main_v37 main_v39 (mulf : (⟨S4096x8192, .f32⟩ : BufTy).Contents (Elt F) → (⟨S4096x8192, .f32⟩ : BufTy).Contents (Elt F) → (⟨S4096x8192, .f32⟩ : BufTy).Contents (Elt F)),
    unary main_v35 main_v40 (broadcastInDim S4096x8192 ![0, 1] bcast_S4096x1_S4096x8192_0_1 : (⟨S4096x1, .f32⟩ : BufTy).Contents (Elt F) → (⟨S4096x8192, .f32⟩ : BufTy).Contents (Elt F)),
    binary main_v40 main_v39 main_v41 (subf : (⟨S4096x8192, .f32⟩ : BufTy).Contents (Elt F) → (⟨S4096x8192, .f32⟩ : BufTy).Contents (Elt F) → (⟨S4096x8192, .f32⟩ : BufTy).Contents (Elt F)),
    binary main_arg15 main_arg15 main_v42 (mulf : (⟨S8192x32, .f32⟩ : BufTy).Contents (Elt F) → (⟨S8192x32, .f32⟩ : BufTy).Contents (Elt F) → (⟨S8192x32, .f32⟩ : BufTy).Contents (Elt F)),
    nullary main_cst_5 (constant S_ .f32 0x00000000#32),
    binary main_v42 main_cst_5 main_v43 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v43 main_v44 (broadcastInDim S1x8192 ![1] bcast_S8192_S1x8192_1 : (⟨S8192, .f32⟩ : BufTy).Contents (Elt F) → (⟨S1x8192, .f32⟩ : BufTy).Contents (Elt F)),
    unary main_v44 main_v45 (broadcastInDim S4096x8192 ![0, 1] bcast_S1x8192_S4096x8192_0_1 : (⟨S1x8192, .f32⟩ : BufTy).Contents (Elt F) → (⟨S4096x8192, .f32⟩ : BufTy).Contents (Elt F)),
    binary main_v41 main_v45 main_v46 (addf : (⟨S4096x8192, .f32⟩ : BufTy).Contents (Elt F) → (⟨S4096x8192, .f32⟩ : BufTy).Contents (Elt F) → (⟨S4096x8192, .f32⟩ : BufTy).Contents (Elt F)),
    nullary main_call3_v0 (iotaInDim S4096x8192 32 1),
    nullary main_call3_cst (constant S_ .f32 0x7F800000#32),
    nullary main_call3_c (constantI S_ 32 0#32),
    quaternary main_v46 main_call3_v0 main_call3_cst main_call3_c main_call3_v1_0 (fun x y u v j => (Host.argReduce reducer_argmin_f32_i32 x y u v reducesTo_S4096x8192_S4096_d1 h_S_ j).1 : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .f32⟩ : BufTy).Contents (Elt F)),
    quaternary main_v46 main_call3_v0 main_call3_cst main_call3_c main_v47 (fun x y u v j => (Host.argReduce reducer_argmin_f32_i32 x y u v reducesTo_S4096x8192_S4096_d1 h_S_ j).2 : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .i32⟩ : BufTy).Contents (Elt F)),
    nullary main_call4_c (constantI S_ 32 0#32),
    unary main_call4_c main_call4_v0 (broadcastInDim S4096 ![] bcast_S_S4096 : (⟨S_, .i32⟩ : BufTy).Contents (Elt F) → (⟨S4096, .i32⟩ : BufTy).Contents (Elt F)),
    binary main_v47 main_call4_v0 main_call4_v1 (cmpi .slt : (⟨S4096, .i32⟩ : BufTy).Contents (Elt F) → (⟨S4096, .i32⟩ : BufTy).Contents (Elt F) → (⟨S4096, .i1⟩ : BufTy).Contents (Elt F)),
    nullary main_call4_c_0 (constantI S_ 32 8192#32),
    unary main_call4_c_0 main_call4_v2 (broadcastInDim S4096 ![] bcast_S_S4096 : (⟨S_, .i32⟩ : BufTy).Contents (Elt F) → (⟨S4096, .i32⟩ : BufTy).Contents (Elt F)),
    binary main_v47 main_call4_v2 main_call4_v3 (addi : (⟨S4096, .i32⟩ : BufTy).Contents (Elt F) → (⟨S4096, .i32⟩ : BufTy).Contents (Elt F) → (⟨S4096, .i32⟩ : BufTy).Contents (Elt F)),
    ternary main_call4_v1 main_call4_v3 main_v47 main_call4_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_call4_v4 main_call4_v5 (broadcastInDim S4096x1 ![0] bcast_S4096_S4096x1_0 : (⟨S4096, .i32⟩ : BufTy).Contents (Elt F) → (⟨S4096x1, .i32⟩ : BufTy).Contents (Elt F)),
    nullary main_call4_c_1 (constantI S1 32 8191#32),
    nullary main_call4_c_2 (constantI S_ 32 0#32),
    unary main_call4_c_2 main_call4_v6 (broadcastInDim S4096x1 ![] bcast_S_S4096x1 : (⟨S_, .i32⟩ : BufTy).Contents (Elt F) → (⟨S4096x1, .i32⟩ : BufTy).Contents (Elt F)),
    binary main_call4_v5 main_call4_v6 main_call4_v7 (cmpi .sge : (⟨S4096x1, .i32⟩ : BufTy).Contents (Elt F) → (⟨S4096x1, .i32⟩ : BufTy).Contents (Elt F) → (⟨S4096x1, .i1⟩ : BufTy).Contents (Elt F)),
    unary main_call4_c_1 main_call4_v8 (broadcastInDim S1x1 ![1] bcast_S1_S1x1_1 : (⟨S1, .i32⟩ : BufTy).Contents (Elt F) → (⟨S1x1, .i32⟩ : BufTy).Contents (Elt F)),
    unary main_call4_v8 main_call4_v9 (broadcastInDim S4096x1 ![0, 1] bcast_S1x1_S4096x1_0_1 : (⟨S1x1, .i32⟩ : BufTy).Contents (Elt F) → (⟨S4096x1, .i32⟩ : BufTy).Contents (Elt F)),
    binary main_call4_v5 main_call4_v9 main_call4_v10 (cmpi .sle : (⟨S4096x1, .i32⟩ : BufTy).Contents (Elt F) → (⟨S4096x1, .i32⟩ : BufTy).Contents (Elt F) → (⟨S4096x1, .i1⟩ : BufTy).Contents (Elt F)),
    binary main_call4_v7 main_call4_v10 main_call4_v11 (andi : (⟨S4096x1, .i1⟩ : BufTy).Contents (Elt F) → (⟨S4096x1, .i1⟩ : BufTy).Contents (Elt F) → (⟨S4096x1, .i1⟩ : BufTy).Contents (Elt F)),
    nullary main_call4_c_3 (constantI S_ 1 1#1),
    binary main_call4_v11 main_call4_c_3 main_call4_v12 (fun x v => Host.reduce IntOp.andi x v reducesTo_S4096x1_S4096_d1 h_S_ : (⟨S4096x1, .i1⟩ : BufTy).Contents (Elt F) → (⟨S_, .i1⟩ : BufTy).Contents (Elt F) → (⟨S4096, .i1⟩ : BufTy).Contents (Elt F)),
    binary main_arg15 main_call4_v5 main_call4_v13 (fun x i => Host.gather gather_S8192x32_S4096x1_S4096x32_1_0_n_n_0_1_132 x i : (⟨S8192x32, .f32⟩ : BufTy).Contents (Elt F) → (⟨S4096x1, .i32⟩ : BufTy).Contents (Elt F) → (⟨S4096x32, .f32⟩ : BufTy).Contents (Elt F)),
    unary main_call4_v12 main_call4_v14 (broadcastInDim S4096x32 ![0] bcast_S4096_S4096x32_0 : (⟨S4096, .i1⟩ : BufTy).Contents (Elt F) → (⟨S4096x32, .i1⟩ : BufTy).Contents (Elt F)),
    nullary main_call4_cst (constant S_ .f32 0x7FC00000#32),
    unary main_call4_cst main_call4_v15 (broadcastInDim S4096x32 ![] bcast_S_S4096x32 : (⟨S_, .f32⟩ : BufTy).Contents (Elt F) → (⟨S4096x32, .f32⟩ : BufTy).Contents (Elt F)),
    ternary main_call4_v14 main_call4_v13 main_call4_v15 main_v48 (select : (⟨S4096x32, .i1⟩ : BufTy).Contents (Elt F) → (⟨S4096x32, .f32⟩ : BufTy).Contents (Elt F) → (⟨S4096x32, .f32⟩ : BufTy).Contents (Elt F) → (⟨S4096x32, .f32⟩ : BufTy).Contents (Elt F)),
    binary main_v31 main_v48 main_v49 (subf : (⟨S4096x32, .f32⟩ : BufTy).Contents (Elt F) → (⟨S4096x32, .f32⟩ : BufTy).Contents (Elt F) → (⟨S4096x32, .f32⟩ : BufTy).Contents (Elt F)),
    binary main_v49 main_v49 main_v50 (mulf : (⟨S4096x32, .f32⟩ : BufTy).Contents (Elt F) → (⟨S4096x32, .f32⟩ : BufTy).Contents (Elt F) → (⟨S4096x32, .f32⟩ : BufTy).Contents (Elt F)),
    nullary main_cst_6 (constant S_ .f32 0x00000000#32) ]

/-- The buffers they write, in order. -/
def outs0 : List (Ref sig .tc) :=
  [ main_v0, main_v1, main_v2, main_v3, main_call0_cst, main_call0_v0, main_v4, main_v5, main_v6, main_v7, main_v8, main_call1_cst, main_call1_v0, main_v9, main_v10, main_v11, main_v12, main_v13, main_cst, main_v14, main_v15, main_cst_0, main_v16, main_v17, main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v18, main_v19, main_v20, main_cst_1, main_v21, main_v22, main_v23, main_v24, main_v25, main_v26, main_v27, main_v28, main_v29, main_v30, main_v31, main_cst_2, main_v32, main_v33, main_cst_3, main_v34, main_v35, main_v36, main_v37, main_cst_4, main_v38, main_v39, main_v40, main_v41, main_v42, main_cst_5, main_v43, main_v44, main_v45, main_v46, main_call3_v0, main_call3_cst, main_call3_c, main_call3_v1_0, main_v47, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v48, main_v49, main_v50, main_cst_6 ]

/-- The operations of @main's part 2, in order. -/
def ops1 : List (HloOp τ sig (Elt F)) :=
  [ binary main_v50 main_cst_6 main_v51 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    nullary main_cst_7 (constant S_ .f32 0x42000000#32),
    unary main_cst_7 main_v52 (broadcastInDim S4096 ![] bcast_S_S4096 : (⟨S_, .f32⟩ : BufTy).Contents (Elt F) → (⟨S4096, .f32⟩ : BufTy).Contents (Elt F)),
    binary main_v51 main_v52 main_v53 (Host.divf : (⟨S4096, .f32⟩ : BufTy).Contents (Elt F) → (⟨S4096, .f32⟩ : BufTy).Contents (Elt F) → (⟨S4096, .f32⟩ : BufTy).Contents (Elt F)),
    binary main_v31 main_v48 main_v54 (subf : (⟨S4096x32, .f32⟩ : BufTy).Contents (Elt F) → (⟨S4096x32, .f32⟩ : BufTy).Contents (Elt F) → (⟨S4096x32, .f32⟩ : BufTy).Contents (Elt F)),
    binary main_v54 main_v54 main_v55 (mulf : (⟨S4096x32, .f32⟩ : BufTy).Contents (Elt F) → (⟨S4096x32, .f32⟩ : BufTy).Contents (Elt F) → (⟨S4096x32, .f32⟩ : BufTy).Contents (Elt F)),
    nullary main_cst_8 (constant S_ .f32 0x00000000#32),
    binary main_v55 main_cst_8 main_v56 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    nullary main_cst_9 (constant S_ .f32 0x42000000#32),
    unary main_cst_9 main_v57 (broadcastInDim S4096 ![] bcast_S_S4096 : (⟨S_, .f32⟩ : BufTy).Contents (Elt F) → (⟨S4096, .f32⟩ : BufTy).Contents (Elt F)),
    binary main_v56 main_v57 main_v58 (Host.divf : (⟨S4096, .f32⟩ : BufTy).Contents (Elt F) → (⟨S4096, .f32⟩ : BufTy).Contents (Elt F) → (⟨S4096, .f32⟩ : BufTy).Contents (Elt F)),
    nullary main_cst_10 (constant S_ .f32 0x3E800000#32),
    unary main_cst_10 main_v59 (broadcastInDim S4096 ![] bcast_S_S4096 : (⟨S_, .f32⟩ : BufTy).Contents (Elt F) → (⟨S4096, .f32⟩ : BufTy).Contents (Elt F)),
    binary main_v59 main_v58 main_v60 (mulf : (⟨S4096, .f32⟩ : BufTy).Contents (Elt F) → (⟨S4096, .f32⟩ : BufTy).Contents (Elt F) → (⟨S4096, .f32⟩ : BufTy).Contents (Elt F)),
    binary main_v53 main_v60 main_v61 (addf : (⟨S4096, .f32⟩ : BufTy).Contents (Elt F) → (⟨S4096, .f32⟩ : BufTy).Contents (Elt F) → (⟨S4096, .f32⟩ : BufTy).Contents (Elt F)),
    binary main_v48 main_v31 main_v62 (subf : (⟨S4096x32, .f32⟩ : BufTy).Contents (Elt F) → (⟨S4096x32, .f32⟩ : BufTy).Contents (Elt F) → (⟨S4096x32, .f32⟩ : BufTy).Contents (Elt F)),
    binary main_v31 main_v62 main_v63 (addf : (⟨S4096x32, .f32⟩ : BufTy).Contents (Elt F) → (⟨S4096x32, .f32⟩ : BufTy).Contents (Elt F) → (⟨S4096x32, .f32⟩ : BufTy).Contents (Elt F)),
    binary main_v31 main_v63 main_v64 (subf : (⟨S4096x32, .f32⟩ : BufTy).Contents (Elt F) → (⟨S4096x32, .f32⟩ : BufTy).Contents (Elt F) → (⟨S4096x32, .f32⟩ : BufTy).Contents (Elt F)),
    binary main_v32 main_v63 main_v65 (addf : (⟨S4096x32, .f32⟩ : BufTy).Contents (Elt F) → (⟨S4096x32, .f32⟩ : BufTy).Contents (Elt F) → (⟨S4096x32, .f32⟩ : BufTy).Contents (Elt F)),
    binary main_v64 main_v64 main_v66 (mulf : (⟨S4096x32, .f32⟩ : BufTy).Contents (Elt F) → (⟨S4096x32, .f32⟩ : BufTy).Contents (Elt F) → (⟨S4096x32, .f32⟩ : BufTy).Contents (Elt F)),
    nullary main_cst_11 (constant S_ .f32 0x00000000#32),
    binary main_v66 main_cst_11 main_v67 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    unary main_v67 main_v68 (broadcastInDim S4096x1 ![0] bcast_S4096_S4096x1_0 : (⟨S4096, .f32⟩ : BufTy).Contents (Elt F) → (⟨S4096x1, .f32⟩ : BufTy).Contents (Elt F)),
    unary main_arg16 main_v69 ((transpose S32x8192 [1, 0] · transposes_S8192x32_S32x8192_1_0) : (⟨S8192x32, .f32⟩ : BufTy).Contents (Elt F) → (⟨S32x8192, .f32⟩ : BufTy).Contents (Elt F)),
    binary main_v64 main_v69 main_v70 ((fun l r => Host.dotGeneral dot_S4096x32_S32x8192_S4096x8192_1_0_0_1_n_n none l r) : (⟨S4096x32, .f32⟩ : BufTy).Contents (Elt F) → (⟨S32x8192, .f32⟩ : BufTy).Contents (Elt F) → (⟨S4096x8192, .f32⟩ : BufTy).Contents (Elt F)),
    nullary main_cst_12 (constant S_ .f32 0x40000000#32),
    unary main_cst_12 main_v71 (broadcastInDim S4096x8192 ![] bcast_S_S4096x8192 : (⟨S_, .f32⟩ : BufTy).Contents (Elt F) → (⟨S4096x8192, .f32⟩ : BufTy).Contents (Elt F)),
    binary main_v71 main_v70 main_v72 (mulf : (⟨S4096x8192, .f32⟩ : BufTy).Contents (Elt F) → (⟨S4096x8192, .f32⟩ : BufTy).Contents (Elt F) → (⟨S4096x8192, .f32⟩ : BufTy).Contents (Elt F)),
    unary main_v68 main_v73 (broadcastInDim S4096x8192 ![0, 1] bcast_S4096x1_S4096x8192_0_1 : (⟨S4096x1, .f32⟩ : BufTy).Contents (Elt F) → (⟨S4096x8192, .f32⟩ : BufTy).Contents (Elt F)),
    binary main_v73 main_v72 main_v74 (subf : (⟨S4096x8192, .f32⟩ : BufTy).Contents (Elt F) → (⟨S4096x8192, .f32⟩ : BufTy).Contents (Elt F) → (⟨S4096x8192, .f32⟩ : BufTy).Contents (Elt F)),
    binary main_arg16 main_arg16 main_v75 (mulf : (⟨S8192x32, .f32⟩ : BufTy).Contents (Elt F) → (⟨S8192x32, .f32⟩ : BufTy).Contents (Elt F) → (⟨S8192x32, .f32⟩ : BufTy).Contents (Elt F)),
    nullary main_cst_13 (constant S_ .f32 0x00000000#32),
    binary main_v75 main_cst_13 main_v76 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v76 main_v77 (broadcastInDim S1x8192 ![1] bcast_S8192_S1x8192_1 : (⟨S8192, .f32⟩ : BufTy).Contents (Elt F) → (⟨S1x8192, .f32⟩ : BufTy).Contents (Elt F)),
    unary main_v77 main_v78 (broadcastInDim S4096x8192 ![0, 1] bcast_S1x8192_S4096x8192_0_1 : (⟨S1x8192, .f32⟩ : BufTy).Contents (Elt F) → (⟨S4096x8192, .f32⟩ : BufTy).Contents (Elt F)),
    binary main_v74 main_v78 main_v79 (addf : (⟨S4096x8192, .f32⟩ : BufTy).Contents (Elt F) → (⟨S4096x8192, .f32⟩ : BufTy).Contents (Elt F) → (⟨S4096x8192, .f32⟩ : BufTy).Contents (Elt F)),
    nullary main_call5_v0 (iotaInDim S4096x8192 32 1),
    nullary main_call5_cst (constant S_ .f32 0x7F800000#32),
    nullary main_call5_c (constantI S_ 32 0#32),
    quaternary main_v79 main_call5_v0 main_call5_cst main_call5_c main_call5_v1_0 (fun x y u v j => (Host.argReduce reducer_argmin_f32_i32 x y u v reducesTo_S4096x8192_S4096_d1 h_S_ j).1 : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .f32⟩ : BufTy).Contents (Elt F)),
    quaternary main_v79 main_call5_v0 main_call5_cst main_call5_c main_v80 (fun x y u v j => (Host.argReduce reducer_argmin_f32_i32 x y u v reducesTo_S4096x8192_S4096_d1 h_S_ j).2 : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .i32⟩ : BufTy).Contents (Elt F)),
    nullary main_call6_c (constantI S_ 32 0#32),
    unary main_call6_c main_call6_v0 (broadcastInDim S4096 ![] bcast_S_S4096 : (⟨S_, .i32⟩ : BufTy).Contents (Elt F) → (⟨S4096, .i32⟩ : BufTy).Contents (Elt F)),
    binary main_v80 main_call6_v0 main_call6_v1 (cmpi .slt : (⟨S4096, .i32⟩ : BufTy).Contents (Elt F) → (⟨S4096, .i32⟩ : BufTy).Contents (Elt F) → (⟨S4096, .i1⟩ : BufTy).Contents (Elt F)),
    nullary main_call6_c_0 (constantI S_ 32 8192#32),
    unary main_call6_c_0 main_call6_v2 (broadcastInDim S4096 ![] bcast_S_S4096 : (⟨S_, .i32⟩ : BufTy).Contents (Elt F) → (⟨S4096, .i32⟩ : BufTy).Contents (Elt F)),
    binary main_v80 main_call6_v2 main_call6_v3 (addi : (⟨S4096, .i32⟩ : BufTy).Contents (Elt F) → (⟨S4096, .i32⟩ : BufTy).Contents (Elt F) → (⟨S4096, .i32⟩ : BufTy).Contents (Elt F)),
    ternary main_call6_v1 main_call6_v3 main_v80 main_call6_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_call6_v4 main_call6_v5 (broadcastInDim S4096x1 ![0] bcast_S4096_S4096x1_0 : (⟨S4096, .i32⟩ : BufTy).Contents (Elt F) → (⟨S4096x1, .i32⟩ : BufTy).Contents (Elt F)),
    nullary main_call6_c_1 (constantI S1 32 8191#32),
    nullary main_call6_c_2 (constantI S_ 32 0#32),
    unary main_call6_c_2 main_call6_v6 (broadcastInDim S4096x1 ![] bcast_S_S4096x1 : (⟨S_, .i32⟩ : BufTy).Contents (Elt F) → (⟨S4096x1, .i32⟩ : BufTy).Contents (Elt F)),
    binary main_call6_v5 main_call6_v6 main_call6_v7 (cmpi .sge : (⟨S4096x1, .i32⟩ : BufTy).Contents (Elt F) → (⟨S4096x1, .i32⟩ : BufTy).Contents (Elt F) → (⟨S4096x1, .i1⟩ : BufTy).Contents (Elt F)),
    unary main_call6_c_1 main_call6_v8 (broadcastInDim S1x1 ![1] bcast_S1_S1x1_1 : (⟨S1, .i32⟩ : BufTy).Contents (Elt F) → (⟨S1x1, .i32⟩ : BufTy).Contents (Elt F)),
    unary main_call6_v8 main_call6_v9 (broadcastInDim S4096x1 ![0, 1] bcast_S1x1_S4096x1_0_1 : (⟨S1x1, .i32⟩ : BufTy).Contents (Elt F) → (⟨S4096x1, .i32⟩ : BufTy).Contents (Elt F)),
    binary main_call6_v5 main_call6_v9 main_call6_v10 (cmpi .sle : (⟨S4096x1, .i32⟩ : BufTy).Contents (Elt F) → (⟨S4096x1, .i32⟩ : BufTy).Contents (Elt F) → (⟨S4096x1, .i1⟩ : BufTy).Contents (Elt F)),
    binary main_call6_v7 main_call6_v10 main_call6_v11 (andi : (⟨S4096x1, .i1⟩ : BufTy).Contents (Elt F) → (⟨S4096x1, .i1⟩ : BufTy).Contents (Elt F) → (⟨S4096x1, .i1⟩ : BufTy).Contents (Elt F)),
    nullary main_call6_c_3 (constantI S_ 1 1#1),
    binary main_call6_v11 main_call6_c_3 main_call6_v12 (fun x v => Host.reduce IntOp.andi x v reducesTo_S4096x1_S4096_d1 h_S_ : (⟨S4096x1, .i1⟩ : BufTy).Contents (Elt F) → (⟨S_, .i1⟩ : BufTy).Contents (Elt F) → (⟨S4096, .i1⟩ : BufTy).Contents (Elt F)),
    binary main_arg16 main_call6_v5 main_call6_v13 (fun x i => Host.gather gather_S8192x32_S4096x1_S4096x32_1_0_n_n_0_1_132 x i : (⟨S8192x32, .f32⟩ : BufTy).Contents (Elt F) → (⟨S4096x1, .i32⟩ : BufTy).Contents (Elt F) → (⟨S4096x32, .f32⟩ : BufTy).Contents (Elt F)),
    unary main_call6_v12 main_call6_v14 (broadcastInDim S4096x32 ![0] bcast_S4096_S4096x32_0 : (⟨S4096, .i1⟩ : BufTy).Contents (Elt F) → (⟨S4096x32, .i1⟩ : BufTy).Contents (Elt F)),
    nullary main_call6_cst (constant S_ .f32 0x7FC00000#32),
    unary main_call6_cst main_call6_v15 (broadcastInDim S4096x32 ![] bcast_S_S4096x32 : (⟨S_, .f32⟩ : BufTy).Contents (Elt F) → (⟨S4096x32, .f32⟩ : BufTy).Contents (Elt F)),
    ternary main_call6_v14 main_call6_v13 main_call6_v15 main_v81 (select : (⟨S4096x32, .i1⟩ : BufTy).Contents (Elt F) → (⟨S4096x32, .f32⟩ : BufTy).Contents (Elt F) → (⟨S4096x32, .f32⟩ : BufTy).Contents (Elt F) → (⟨S4096x32, .f32⟩ : BufTy).Contents (Elt F)),
    binary main_v64 main_v81 main_v82 (subf : (⟨S4096x32, .f32⟩ : BufTy).Contents (Elt F) → (⟨S4096x32, .f32⟩ : BufTy).Contents (Elt F) → (⟨S4096x32, .f32⟩ : BufTy).Contents (Elt F)),
    binary main_v82 main_v82 main_v83 (mulf : (⟨S4096x32, .f32⟩ : BufTy).Contents (Elt F) → (⟨S4096x32, .f32⟩ : BufTy).Contents (Elt F) → (⟨S4096x32, .f32⟩ : BufTy).Contents (Elt F)),
    nullary main_cst_14 (constant S_ .f32 0x00000000#32),
    binary main_v83 main_cst_14 main_v84 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    nullary main_cst_15 (constant S_ .f32 0x42000000#32),
    unary main_cst_15 main_v85 (broadcastInDim S4096 ![] bcast_S_S4096 : (⟨S_, .f32⟩ : BufTy).Contents (Elt F) → (⟨S4096, .f32⟩ : BufTy).Contents (Elt F)),
    binary main_v84 main_v85 main_v86 (Host.divf : (⟨S4096, .f32⟩ : BufTy).Contents (Elt F) → (⟨S4096, .f32⟩ : BufTy).Contents (Elt F) → (⟨S4096, .f32⟩ : BufTy).Contents (Elt F)),
    binary main_v64 main_v81 main_v87 (subf : (⟨S4096x32, .f32⟩ : BufTy).Contents (Elt F) → (⟨S4096x32, .f32⟩ : BufTy).Contents (Elt F) → (⟨S4096x32, .f32⟩ : BufTy).Contents (Elt F)),
    binary main_v87 main_v87 main_v88 (mulf : (⟨S4096x32, .f32⟩ : BufTy).Contents (Elt F) → (⟨S4096x32, .f32⟩ : BufTy).Contents (Elt F) → (⟨S4096x32, .f32⟩ : BufTy).Contents (Elt F)),
    nullary main_cst_16 (constant S_ .f32 0x00000000#32),
    binary main_v88 main_cst_16 main_v89 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    nullary main_cst_17 (constant S_ .f32 0x42000000#32),
    unary main_cst_17 main_v90 (broadcastInDim S4096 ![] bcast_S_S4096 : (⟨S_, .f32⟩ : BufTy).Contents (Elt F) → (⟨S4096, .f32⟩ : BufTy).Contents (Elt F)),
    binary main_v89 main_v90 main_v91 (Host.divf : (⟨S4096, .f32⟩ : BufTy).Contents (Elt F) → (⟨S4096, .f32⟩ : BufTy).Contents (Elt F) → (⟨S4096, .f32⟩ : BufTy).Contents (Elt F)),
    nullary main_cst_18 (constant S_ .f32 0x3E800000#32),
    unary main_cst_18 main_v92 (broadcastInDim S4096 ![] bcast_S_S4096 : (⟨S_, .f32⟩ : BufTy).Contents (Elt F) → (⟨S4096, .f32⟩ : BufTy).Contents (Elt F)),
    binary main_v92 main_v91 main_v93 (mulf : (⟨S4096, .f32⟩ : BufTy).Contents (Elt F) → (⟨S4096, .f32⟩ : BufTy).Contents (Elt F) → (⟨S4096, .f32⟩ : BufTy).Contents (Elt F)),
    binary main_v86 main_v93 main_v94 (addf : (⟨S4096, .f32⟩ : BufTy).Contents (Elt F) → (⟨S4096, .f32⟩ : BufTy).Contents (Elt F) → (⟨S4096, .f32⟩ : BufTy).Contents (Elt F)),
    binary main_v81 main_v64 main_v95 (subf : (⟨S4096x32, .f32⟩ : BufTy).Contents (Elt F) → (⟨S4096x32, .f32⟩ : BufTy).Contents (Elt F) → (⟨S4096x32, .f32⟩ : BufTy).Contents (Elt F)),
    binary main_v64 main_v95 main_v96 (addf : (⟨S4096x32, .f32⟩ : BufTy).Contents (Elt F) → (⟨S4096x32, .f32⟩ : BufTy).Contents (Elt F) → (⟨S4096x32, .f32⟩ : BufTy).Contents (Elt F)),
    binary main_v64 main_v96 main_v97 (subf : (⟨S4096x32, .f32⟩ : BufTy).Contents (Elt F) → (⟨S4096x32, .f32⟩ : BufTy).Contents (Elt F) → (⟨S4096x32, .f32⟩ : BufTy).Contents (Elt F)),
    binary main_v65 main_v96 main_v98 (addf : (⟨S4096x32, .f32⟩ : BufTy).Contents (Elt F) → (⟨S4096x32, .f32⟩ : BufTy).Contents (Elt F) → (⟨S4096x32, .f32⟩ : BufTy).Contents (Elt F)) ]

/-- The buffers they write, in order. -/
def outs1 : List (Ref sig .tc) :=
  [ main_v51, main_cst_7, main_v52, main_v53, main_v54, main_v55, main_cst_8, main_v56, main_cst_9, main_v57, main_v58, main_cst_10, main_v59, main_v60, main_v61, main_v62, main_v63, main_v64, main_v65, main_v66, main_cst_11, main_v67, main_v68, main_v69, main_v70, main_cst_12, main_v71, main_v72, main_v73, main_v74, main_v75, main_cst_13, main_v76, main_v77, main_v78, main_v79, main_call5_v0, main_call5_cst, main_call5_c, main_call5_v1_0, main_v80, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v81, main_v82, main_v83, main_cst_14, main_v84, main_cst_15, main_v85, main_v86, main_v87, main_v88, main_cst_16, main_v89, main_cst_17, main_v90, main_v91, main_cst_18, main_v92, main_v93, main_v94, main_v95, main_v96, main_v97, main_v98 ]

/-- The operations of @main's part 3, in order. -/
def ops2 : List (HloOp τ sig (Elt F)) :=
  [ binary main_v97 main_v97 main_v99 (mulf : (⟨S4096x32, .f32⟩ : BufTy).Contents (Elt F) → (⟨S4096x32, .f32⟩ : BufTy).Contents (Elt F) → (⟨S4096x32, .f32⟩ : BufTy).Contents (Elt F)),
    nullary main_cst_19 (constant S_ .f32 0x00000000#32),
    binary main_v99 main_cst_19 main_v100 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    unary main_v100 main_v101 (broadcastInDim S4096x1 ![0] bcast_S4096_S4096x1_0 : (⟨S4096, .f32⟩ : BufTy).Contents (Elt F) → (⟨S4096x1, .f32⟩ : BufTy).Contents (Elt F)),
    unary main_arg17 main_v102 ((transpose S32x8192 [1, 0] · transposes_S8192x32_S32x8192_1_0) : (⟨S8192x32, .f32⟩ : BufTy).Contents (Elt F) → (⟨S32x8192, .f32⟩ : BufTy).Contents (Elt F)),
    binary main_v97 main_v102 main_v103 ((fun l r => Host.dotGeneral dot_S4096x32_S32x8192_S4096x8192_1_0_0_1_n_n none l r) : (⟨S4096x32, .f32⟩ : BufTy).Contents (Elt F) → (⟨S32x8192, .f32⟩ : BufTy).Contents (Elt F) → (⟨S4096x8192, .f32⟩ : BufTy).Contents (Elt F)),
    nullary main_cst_20 (constant S_ .f32 0x40000000#32),
    unary main_cst_20 main_v104 (broadcastInDim S4096x8192 ![] bcast_S_S4096x8192 : (⟨S_, .f32⟩ : BufTy).Contents (Elt F) → (⟨S4096x8192, .f32⟩ : BufTy).Contents (Elt F)),
    binary main_v104 main_v103 main_v105 (mulf : (⟨S4096x8192, .f32⟩ : BufTy).Contents (Elt F) → (⟨S4096x8192, .f32⟩ : BufTy).Contents (Elt F) → (⟨S4096x8192, .f32⟩ : BufTy).Contents (Elt F)),
    unary main_v101 main_v106 (broadcastInDim S4096x8192 ![0, 1] bcast_S4096x1_S4096x8192_0_1 : (⟨S4096x1, .f32⟩ : BufTy).Contents (Elt F) → (⟨S4096x8192, .f32⟩ : BufTy).Contents (Elt F)),
    binary main_v106 main_v105 main_v107 (subf : (⟨S4096x8192, .f32⟩ : BufTy).Contents (Elt F) → (⟨S4096x8192, .f32⟩ : BufTy).Contents (Elt F) → (⟨S4096x8192, .f32⟩ : BufTy).Contents (Elt F)),
    binary main_arg17 main_arg17 main_v108 (mulf : (⟨S8192x32, .f32⟩ : BufTy).Contents (Elt F) → (⟨S8192x32, .f32⟩ : BufTy).Contents (Elt F) → (⟨S8192x32, .f32⟩ : BufTy).Contents (Elt F)),
    nullary main_cst_21 (constant S_ .f32 0x00000000#32),
    binary main_v108 main_cst_21 main_v109 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v109 main_v110 (broadcastInDim S1x8192 ![1] bcast_S8192_S1x8192_1 : (⟨S8192, .f32⟩ : BufTy).Contents (Elt F) → (⟨S1x8192, .f32⟩ : BufTy).Contents (Elt F)),
    unary main_v110 main_v111 (broadcastInDim S4096x8192 ![0, 1] bcast_S1x8192_S4096x8192_0_1 : (⟨S1x8192, .f32⟩ : BufTy).Contents (Elt F) → (⟨S4096x8192, .f32⟩ : BufTy).Contents (Elt F)),
    binary main_v107 main_v111 main_v112 (addf : (⟨S4096x8192, .f32⟩ : BufTy).Contents (Elt F) → (⟨S4096x8192, .f32⟩ : BufTy).Contents (Elt F) → (⟨S4096x8192, .f32⟩ : BufTy).Contents (Elt F)),
    nullary main_call7_v0 (iotaInDim S4096x8192 32 1),
    nullary main_call7_cst (constant S_ .f32 0x7F800000#32),
    nullary main_call7_c (constantI S_ 32 0#32),
    quaternary main_v112 main_call7_v0 main_call7_cst main_call7_c main_call7_v1_0 (fun x y u v j => (Host.argReduce reducer_argmin_f32_i32 x y u v reducesTo_S4096x8192_S4096_d1 h_S_ j).1 : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .f32⟩ : BufTy).Contents (Elt F)),
    quaternary main_v112 main_call7_v0 main_call7_cst main_call7_c main_v113 (fun x y u v j => (Host.argReduce reducer_argmin_f32_i32 x y u v reducesTo_S4096x8192_S4096_d1 h_S_ j).2 : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .i32⟩ : BufTy).Contents (Elt F)),
    nullary main_call8_c (constantI S_ 32 0#32),
    unary main_call8_c main_call8_v0 (broadcastInDim S4096 ![] bcast_S_S4096 : (⟨S_, .i32⟩ : BufTy).Contents (Elt F) → (⟨S4096, .i32⟩ : BufTy).Contents (Elt F)),
    binary main_v113 main_call8_v0 main_call8_v1 (cmpi .slt : (⟨S4096, .i32⟩ : BufTy).Contents (Elt F) → (⟨S4096, .i32⟩ : BufTy).Contents (Elt F) → (⟨S4096, .i1⟩ : BufTy).Contents (Elt F)),
    nullary main_call8_c_0 (constantI S_ 32 8192#32),
    unary main_call8_c_0 main_call8_v2 (broadcastInDim S4096 ![] bcast_S_S4096 : (⟨S_, .i32⟩ : BufTy).Contents (Elt F) → (⟨S4096, .i32⟩ : BufTy).Contents (Elt F)),
    binary main_v113 main_call8_v2 main_call8_v3 (addi : (⟨S4096, .i32⟩ : BufTy).Contents (Elt F) → (⟨S4096, .i32⟩ : BufTy).Contents (Elt F) → (⟨S4096, .i32⟩ : BufTy).Contents (Elt F)),
    ternary main_call8_v1 main_call8_v3 main_v113 main_call8_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_call8_v4 main_call8_v5 (broadcastInDim S4096x1 ![0] bcast_S4096_S4096x1_0 : (⟨S4096, .i32⟩ : BufTy).Contents (Elt F) → (⟨S4096x1, .i32⟩ : BufTy).Contents (Elt F)),
    nullary main_call8_c_1 (constantI S1 32 8191#32),
    nullary main_call8_c_2 (constantI S_ 32 0#32),
    unary main_call8_c_2 main_call8_v6 (broadcastInDim S4096x1 ![] bcast_S_S4096x1 : (⟨S_, .i32⟩ : BufTy).Contents (Elt F) → (⟨S4096x1, .i32⟩ : BufTy).Contents (Elt F)),
    binary main_call8_v5 main_call8_v6 main_call8_v7 (cmpi .sge : (⟨S4096x1, .i32⟩ : BufTy).Contents (Elt F) → (⟨S4096x1, .i32⟩ : BufTy).Contents (Elt F) → (⟨S4096x1, .i1⟩ : BufTy).Contents (Elt F)),
    unary main_call8_c_1 main_call8_v8 (broadcastInDim S1x1 ![1] bcast_S1_S1x1_1 : (⟨S1, .i32⟩ : BufTy).Contents (Elt F) → (⟨S1x1, .i32⟩ : BufTy).Contents (Elt F)),
    unary main_call8_v8 main_call8_v9 (broadcastInDim S4096x1 ![0, 1] bcast_S1x1_S4096x1_0_1 : (⟨S1x1, .i32⟩ : BufTy).Contents (Elt F) → (⟨S4096x1, .i32⟩ : BufTy).Contents (Elt F)),
    binary main_call8_v5 main_call8_v9 main_call8_v10 (cmpi .sle : (⟨S4096x1, .i32⟩ : BufTy).Contents (Elt F) → (⟨S4096x1, .i32⟩ : BufTy).Contents (Elt F) → (⟨S4096x1, .i1⟩ : BufTy).Contents (Elt F)),
    binary main_call8_v7 main_call8_v10 main_call8_v11 (andi : (⟨S4096x1, .i1⟩ : BufTy).Contents (Elt F) → (⟨S4096x1, .i1⟩ : BufTy).Contents (Elt F) → (⟨S4096x1, .i1⟩ : BufTy).Contents (Elt F)),
    nullary main_call8_c_3 (constantI S_ 1 1#1),
    binary main_call8_v11 main_call8_c_3 main_call8_v12 (fun x v => Host.reduce IntOp.andi x v reducesTo_S4096x1_S4096_d1 h_S_ : (⟨S4096x1, .i1⟩ : BufTy).Contents (Elt F) → (⟨S_, .i1⟩ : BufTy).Contents (Elt F) → (⟨S4096, .i1⟩ : BufTy).Contents (Elt F)),
    binary main_arg17 main_call8_v5 main_call8_v13 (fun x i => Host.gather gather_S8192x32_S4096x1_S4096x32_1_0_n_n_0_1_132 x i : (⟨S8192x32, .f32⟩ : BufTy).Contents (Elt F) → (⟨S4096x1, .i32⟩ : BufTy).Contents (Elt F) → (⟨S4096x32, .f32⟩ : BufTy).Contents (Elt F)),
    unary main_call8_v12 main_call8_v14 (broadcastInDim S4096x32 ![0] bcast_S4096_S4096x32_0 : (⟨S4096, .i1⟩ : BufTy).Contents (Elt F) → (⟨S4096x32, .i1⟩ : BufTy).Contents (Elt F)),
    nullary main_call8_cst (constant S_ .f32 0x7FC00000#32),
    unary main_call8_cst main_call8_v15 (broadcastInDim S4096x32 ![] bcast_S_S4096x32 : (⟨S_, .f32⟩ : BufTy).Contents (Elt F) → (⟨S4096x32, .f32⟩ : BufTy).Contents (Elt F)),
    ternary main_call8_v14 main_call8_v13 main_call8_v15 main_v114 (select : (⟨S4096x32, .i1⟩ : BufTy).Contents (Elt F) → (⟨S4096x32, .f32⟩ : BufTy).Contents (Elt F) → (⟨S4096x32, .f32⟩ : BufTy).Contents (Elt F) → (⟨S4096x32, .f32⟩ : BufTy).Contents (Elt F)),
    binary main_v97 main_v114 main_v115 (subf : (⟨S4096x32, .f32⟩ : BufTy).Contents (Elt F) → (⟨S4096x32, .f32⟩ : BufTy).Contents (Elt F) → (⟨S4096x32, .f32⟩ : BufTy).Contents (Elt F)),
    binary main_v115 main_v115 main_v116 (mulf : (⟨S4096x32, .f32⟩ : BufTy).Contents (Elt F) → (⟨S4096x32, .f32⟩ : BufTy).Contents (Elt F) → (⟨S4096x32, .f32⟩ : BufTy).Contents (Elt F)),
    nullary main_cst_22 (constant S_ .f32 0x00000000#32),
    binary main_v116 main_cst_22 main_v117 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    nullary main_cst_23 (constant S_ .f32 0x42000000#32),
    unary main_cst_23 main_v118 (broadcastInDim S4096 ![] bcast_S_S4096 : (⟨S_, .f32⟩ : BufTy).Contents (Elt F) → (⟨S4096, .f32⟩ : BufTy).Contents (Elt F)),
    binary main_v117 main_v118 main_v119 (Host.divf : (⟨S4096, .f32⟩ : BufTy).Contents (Elt F) → (⟨S4096, .f32⟩ : BufTy).Contents (Elt F) → (⟨S4096, .f32⟩ : BufTy).Contents (Elt F)),
    binary main_v97 main_v114 main_v120 (subf : (⟨S4096x32, .f32⟩ : BufTy).Contents (Elt F) → (⟨S4096x32, .f32⟩ : BufTy).Contents (Elt F) → (⟨S4096x32, .f32⟩ : BufTy).Contents (Elt F)),
    binary main_v120 main_v120 main_v121 (mulf : (⟨S4096x32, .f32⟩ : BufTy).Contents (Elt F) → (⟨S4096x32, .f32⟩ : BufTy).Contents (Elt F) → (⟨S4096x32, .f32⟩ : BufTy).Contents (Elt F)),
    nullary main_cst_24 (constant S_ .f32 0x00000000#32),
    binary main_v121 main_cst_24 main_v122 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    nullary main_cst_25 (constant S_ .f32 0x42000000#32),
    unary main_cst_25 main_v123 (broadcastInDim S4096 ![] bcast_S_S4096 : (⟨S_, .f32⟩ : BufTy).Contents (Elt F) → (⟨S4096, .f32⟩ : BufTy).Contents (Elt F)),
    binary main_v122 main_v123 main_v124 (Host.divf : (⟨S4096, .f32⟩ : BufTy).Contents (Elt F) → (⟨S4096, .f32⟩ : BufTy).Contents (Elt F) → (⟨S4096, .f32⟩ : BufTy).Contents (Elt F)),
    nullary main_cst_26 (constant S_ .f32 0x3E800000#32),
    unary main_cst_26 main_v125 (broadcastInDim S4096 ![] bcast_S_S4096 : (⟨S_, .f32⟩ : BufTy).Contents (Elt F) → (⟨S4096, .f32⟩ : BufTy).Contents (Elt F)),
    binary main_v125 main_v124 main_v126 (mulf : (⟨S4096, .f32⟩ : BufTy).Contents (Elt F) → (⟨S4096, .f32⟩ : BufTy).Contents (Elt F) → (⟨S4096, .f32⟩ : BufTy).Contents (Elt F)),
    binary main_v119 main_v126 main_v127 (addf : (⟨S4096, .f32⟩ : BufTy).Contents (Elt F) → (⟨S4096, .f32⟩ : BufTy).Contents (Elt F) → (⟨S4096, .f32⟩ : BufTy).Contents (Elt F)),
    binary main_v114 main_v97 main_v128 (subf : (⟨S4096x32, .f32⟩ : BufTy).Contents (Elt F) → (⟨S4096x32, .f32⟩ : BufTy).Contents (Elt F) → (⟨S4096x32, .f32⟩ : BufTy).Contents (Elt F)),
    binary main_v97 main_v128 main_v129 (addf : (⟨S4096x32, .f32⟩ : BufTy).Contents (Elt F) → (⟨S4096x32, .f32⟩ : BufTy).Contents (Elt F) → (⟨S4096x32, .f32⟩ : BufTy).Contents (Elt F)),
    binary main_v97 main_v129 main_v130 (subf : (⟨S4096x32, .f32⟩ : BufTy).Contents (Elt F) → (⟨S4096x32, .f32⟩ : BufTy).Contents (Elt F) → (⟨S4096x32, .f32⟩ : BufTy).Contents (Elt F)),
    binary main_v98 main_v129 main_v131 (addf : (⟨S4096x32, .f32⟩ : BufTy).Contents (Elt F) → (⟨S4096x32, .f32⟩ : BufTy).Contents (Elt F) → (⟨S4096x32, .f32⟩ : BufTy).Contents (Elt F)),
    binary main_v131 main_arg7 main_v132 ((fun l r => Host.dotGeneral dot_S4096x32_S32x256_S4096x256_1_0_0_1_n_n none l r) : (⟨S4096x32, .f32⟩ : BufTy).Contents (Elt F) → (⟨S32x256, .f32⟩ : BufTy).Contents (Elt F) → (⟨S4096x256, .f32⟩ : BufTy).Contents (Elt F)),
    unary main_arg8 main_v133 (broadcastInDim S1x256 ![1] bcast_S256_S1x256_1 : (⟨S256, .f32⟩ : BufTy).Contents (Elt F) → (⟨S1x256, .f32⟩ : BufTy).Contents (Elt F)),
    unary main_v133 main_v134 (broadcastInDim S4096x256 ![0, 1] bcast_S1x256_S4096x256_0_1 : (⟨S1x256, .f32⟩ : BufTy).Contents (Elt F) → (⟨S4096x256, .f32⟩ : BufTy).Contents (Elt F)),
    binary main_v132 main_v134 main_v135 (addf : (⟨S4096x256, .f32⟩ : BufTy).Contents (Elt F) → (⟨S4096x256, .f32⟩ : BufTy).Contents (Elt F) → (⟨S4096x256, .f32⟩ : BufTy).Contents (Elt F)),
    nullary main_call9_cst (constant S_ .f32 0x00000000#32),
    unary main_call9_cst main_call9_v0 (broadcastInDim S4096x256 ![] bcast_S_S4096x256 : (⟨S_, .f32⟩ : BufTy).Contents (Elt F) → (⟨S4096x256, .f32⟩ : BufTy).Contents (Elt F)),
    binary main_v135 main_call9_v0 main_v136 (maximumf : (⟨S4096x256, .f32⟩ : BufTy).Contents (Elt F) → (⟨S4096x256, .f32⟩ : BufTy).Contents (Elt F) → (⟨S4096x256, .f32⟩ : BufTy).Contents (Elt F)),
    binary main_v136 main_arg9 main_v137 ((fun l r => Host.dotGeneral dot_S4096x256_S256x512_S4096x512_1_0_0_1_n_n none l r) : (⟨S4096x256, .f32⟩ : BufTy).Contents (Elt F) → (⟨S256x512, .f32⟩ : BufTy).Contents (Elt F) → (⟨S4096x512, .f32⟩ : BufTy).Contents (Elt F)),
    unary main_arg10 main_v138 (broadcastInDim S1x512 ![1] bcast_S512_S1x512_1 : (⟨S512, .f32⟩ : BufTy).Contents (Elt F) → (⟨S1x512, .f32⟩ : BufTy).Contents (Elt F)),
    unary main_v138 main_v139 (broadcastInDim S4096x512 ![0, 1] bcast_S1x512_S4096x512_0_1 : (⟨S1x512, .f32⟩ : BufTy).Contents (Elt F) → (⟨S4096x512, .f32⟩ : BufTy).Contents (Elt F)),
    binary main_v137 main_v139 main_v140 (addf : (⟨S4096x512, .f32⟩ : BufTy).Contents (Elt F) → (⟨S4096x512, .f32⟩ : BufTy).Contents (Elt F) → (⟨S4096x512, .f32⟩ : BufTy).Contents (Elt F)),
    nullary main_call10_cst (constant S_ .f32 0x00000000#32),
    unary main_call10_cst main_call10_v0 (broadcastInDim S4096x512 ![] bcast_S_S4096x512 : (⟨S_, .f32⟩ : BufTy).Contents (Elt F) → (⟨S4096x512, .f32⟩ : BufTy).Contents (Elt F)),
    binary main_v140 main_call10_v0 main_v141 (maximumf : (⟨S4096x512, .f32⟩ : BufTy).Contents (Elt F) → (⟨S4096x512, .f32⟩ : BufTy).Contents (Elt F) → (⟨S4096x512, .f32⟩ : BufTy).Contents (Elt F)),
    binary main_v141 main_arg11 main_v142 ((fun l r => Host.dotGeneral dot_S4096x512_S512x768_S4096x768_1_0_0_1_n_n none l r) : (⟨S4096x512, .f32⟩ : BufTy).Contents (Elt F) → (⟨S512x768, .f32⟩ : BufTy).Contents (Elt F) → (⟨S4096x768, .f32⟩ : BufTy).Contents (Elt F)),
    unary main_arg12 main_v143 (broadcastInDim S1x768 ![1] bcast_S768_S1x768_1 : (⟨S768, .f32⟩ : BufTy).Contents (Elt F) → (⟨S1x768, .f32⟩ : BufTy).Contents (Elt F)),
    unary main_v143 main_v144 (broadcastInDim S4096x768 ![0, 1] bcast_S1x768_S4096x768_0_1 : (⟨S1x768, .f32⟩ : BufTy).Contents (Elt F) → (⟨S4096x768, .f32⟩ : BufTy).Contents (Elt F)),
    binary main_v142 main_v144 main_v145 (addf : (⟨S4096x768, .f32⟩ : BufTy).Contents (Elt F) → (⟨S4096x768, .f32⟩ : BufTy).Contents (Elt F) → (⟨S4096x768, .f32⟩ : BufTy).Contents (Elt F)),
    binary main_v145 main_arg0 main_v146 (subf : (⟨S4096x768, .f32⟩ : BufTy).Contents (Elt F) → (⟨S4096x768, .f32⟩ : BufTy).Contents (Elt F) → (⟨S4096x768, .f32⟩ : BufTy).Contents (Elt F)),
    binary main_v146 main_v146 main_v147 (mulf : (⟨S4096x768, .f32⟩ : BufTy).Contents (Elt F) → (⟨S4096x768, .f32⟩ : BufTy).Contents (Elt F) → (⟨S4096x768, .f32⟩ : BufTy).Contents (Elt F)),
    nullary main_cst_27 (constant S_ .f32 0x00000000#32),
    binary main_v147 main_cst_27 main_v148 ((fun x v => Host.reduceAdd x v reducesTo_S4096x768_S4096_d1 h_S_) : (⟨S4096x768, .f32⟩ : BufTy).Contents (Elt F) → (⟨S_, .f32⟩ : BufTy).Contents (Elt F) → (⟨S4096, .f32⟩ : BufTy).Contents (Elt F)),
    nullary main_cst_28 (constant S_ .f32 0x44400000#32) ]

/-- The buffers they write, in order. -/
def outs2 : List (Ref sig .tc) :=
  [ main_v99, main_cst_19, main_v100, main_v101, main_v102, main_v103, main_cst_20, main_v104, main_v105, main_v106, main_v107, main_v108, main_cst_21, main_v109, main_v110, main_v111, main_v112, main_call7_v0, main_call7_cst, main_call7_c, main_call7_v1_0, main_v113, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v114, main_v115, main_v116, main_cst_22, main_v117, main_cst_23, main_v118, main_v119, main_v120, main_v121, main_cst_24, main_v122, main_cst_25, main_v123, main_v124, main_cst_26, main_v125, main_v126, main_v127, main_v128, main_v129, main_v130, main_v131, main_v132, main_v133, main_v134, main_v135, main_call9_cst, main_call9_v0, main_v136, main_v137, main_v138, main_v139, main_v140, main_call10_cst, main_call10_v0, main_v141, main_v142, main_v143, main_v144, main_v145, main_v146, main_v147, main_cst_27, main_v148, main_cst_28 ]

/-- The operations of @main's part 4, in order. -/
def ops3 : List (HloOp τ sig (Elt F)) :=
  [ unary main_cst_28 main_v149 (broadcastInDim S4096 ![] bcast_S_S4096 : (⟨S_, .f32⟩ : BufTy).Contents (Elt F) → (⟨S4096, .f32⟩ : BufTy).Contents (Elt F)),
    binary main_v148 main_v149 main_v150 (Host.divf : (⟨S4096, .f32⟩ : BufTy).Contents (Elt F) → (⟨S4096, .f32⟩ : BufTy).Contents (Elt F) → (⟨S4096, .f32⟩ : BufTy).Contents (Elt F)),
    unary main_v61 main_v151 (broadcastInDim S4096x1 ![0] bcast_S4096_S4096x1_0 : (⟨S4096, .f32⟩ : BufTy).Contents (Elt F) → (⟨S4096x1, .f32⟩ : BufTy).Contents (Elt F)),
    unary main_v94 main_v152 (broadcastInDim S4096x1 ![0] bcast_S4096_S4096x1_0 : (⟨S4096, .f32⟩ : BufTy).Contents (Elt F) → (⟨S4096x1, .f32⟩ : BufTy).Contents (Elt F)),
    unary main_v127 main_v153 (broadcastInDim S4096x1 ![0] bcast_S4096_S4096x1_0 : (⟨S4096, .f32⟩ : BufTy).Contents (Elt F) → (⟨S4096x1, .f32⟩ : BufTy).Contents (Elt F)),
    nary ![main_v151, main_v152, main_v153] main_v154 (fun u => (concatenate S4096x3 1 [⟨S4096x1, (u 0 : (⟨S4096x1, .f32⟩ : BufTy).Contents (Elt F))⟩, ⟨S4096x1, (u 1 : (⟨S4096x1, .f32⟩ : BufTy).Contents (Elt F))⟩, ⟨S4096x1, (u 2 : (⟨S4096x1, .f32⟩ : BufTy).Contents (Elt F))⟩] concatenates_S4096x1_S4096x1_S4096x1_S4096x3_d1 : (⟨S4096x3, .f32⟩ : BufTy).Contents (Elt F))),
    nullary main_cst_29 (constant S_ .f32 0x00000000#32),
    binary main_v154 main_cst_29 main_v155 ((fun x v => Host.reduceAdd x v reducesTo_S4096x3_S4096_d1 h_S_) : (⟨S4096x3, .f32⟩ : BufTy).Contents (Elt F) → (⟨S_, .f32⟩ : BufTy).Contents (Elt F) → (⟨S4096, .f32⟩ : BufTy).Contents (Elt F)),
    binary main_v155 main_v150 main_v156 (addf : (⟨S4096, .f32⟩ : BufTy).Contents (Elt F) → (⟨S4096, .f32⟩ : BufTy).Contents (Elt F) → (⟨S4096, .f32⟩ : BufTy).Contents (Elt F)),
    unary main_v47 main_v157 (broadcastInDim S4096x1 ![0] bcast_S4096_S4096x1_0 : (⟨S4096, .i32⟩ : BufTy).Contents (Elt F) → (⟨S4096x1, .i32⟩ : BufTy).Contents (Elt F)),
    unary main_v80 main_v158 (broadcastInDim S4096x1 ![0] bcast_S4096_S4096x1_0 : (⟨S4096, .i32⟩ : BufTy).Contents (Elt F) → (⟨S4096x1, .i32⟩ : BufTy).Contents (Elt F)),
    unary main_v113 main_v159 (broadcastInDim S4096x1 ![0] bcast_S4096_S4096x1_0 : (⟨S4096, .i32⟩ : BufTy).Contents (Elt F) → (⟨S4096x1, .i32⟩ : BufTy).Contents (Elt F)),
    nary ![main_v157, main_v158, main_v159] main_v160 (fun u => (concatenate S4096x3 1 [⟨S4096x1, (u 0 : (⟨S4096x1, .i32⟩ : BufTy).Contents (Elt F))⟩, ⟨S4096x1, (u 1 : (⟨S4096x1, .i32⟩ : BufTy).Contents (Elt F))⟩, ⟨S4096x1, (u 2 : (⟨S4096x1, .i32⟩ : BufTy).Contents (Elt F))⟩] concatenates_S4096x1_S4096x1_S4096x1_S4096x3_d1 : (⟨S4096x3, .i32⟩ : BufTy).Contents (Elt F))) ]

/-- The buffers they write, in order. -/
def outs3 : List (Ref sig .tc) :=
  [ main_v149, main_v150, main_v151, main_v152, main_v153, main_v154, main_cst_29, main_v155, main_v156, main_v157, main_v158, main_v159, main_v160 ]

/-- Every operation of @main, in order. -/
def ops : List (HloOp τ sig (Elt F)) := ops0 ++ (ops1 ++ (ops2 ++ ops3))

/-- The buffers they write, in order. -/
def outs : List (Ref sig .tc) := outs0 ++ (outs1 ++ (outs2 ++ outs3))

set_option maxHeartbeats 4000000 in
/-- Part 1 of @main is its list run. -/
theorem part0_eq (c : Dev nD) : main_part0 (F := F) c = seq ops0 := rfl

set_option maxHeartbeats 4000000 in
/-- Part 2 of @main is its list run. -/
theorem part1_eq (c : Dev nD) : main_part1 (F := F) c = seq ops1 := rfl

set_option maxHeartbeats 4000000 in
/-- Part 3 of @main is its list run. -/
theorem part2_eq (c : Dev nD) : main_part2 (F := F) c = seq ops2 := rfl

set_option maxHeartbeats 4000000 in
/-- Part 4 of @main is its list run. -/
theorem part3_eq (c : Dev nD) : main_part3 (F := F) c = seq ops3 := rfl

/-- @main is the whole list run. -/
theorem main_eq (c : Dev nD) : main (F := F) c = seq ops := by
  simp only [ops, seq_append, ← part0_eq c, ← part1_eq c, ← part2_eq c, ← part3_eq c]
  rfl

/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide

/-- Part 1 writes the listed buffers. -/
theorem writes0 : (ops0 : List (HloOp τ sig (Elt F))).map HloOp.writes = outs0.map fun r => {Proc.devRef (τ := τ) .tc r} := rfl
/-- Part 1 makes no fresh buffer. -/
theorem fresh0 : (ops0 : List (HloOp τ sig (Elt F))).Forall fun op => op.fresh = ∅ := forall_fresh_of_map rfl
/-- Part 1 stays within the TensorCore's buffers. -/
theorem sub0 : (ops0 : List (HloOp τ sig (Elt F))).Forall fun op => op.bufs ⊆ tcRefs τ sig := by
  simp only [ops0, List.Forall, nullary_bufs_sub, unary_bufs_sub, binary_bufs_sub, ternary_bufs_sub, quaternary_bufs_sub, nary_bufs_sub, and_self]

/-- Part 2 writes the listed buffers. -/
theorem writes1 : (ops1 : List (HloOp τ sig (Elt F))).map HloOp.writes = outs1.map fun r => {Proc.devRef (τ := τ) .tc r} := rfl
/-- Part 2 makes no fresh buffer. -/
theorem fresh1 : (ops1 : List (HloOp τ sig (Elt F))).Forall fun op => op.fresh = ∅ := forall_fresh_of_map rfl
/-- Part 2 stays within the TensorCore's buffers. -/
theorem sub1 : (ops1 : List (HloOp τ sig (Elt F))).Forall fun op => op.bufs ⊆ tcRefs τ sig := by
  simp only [ops1, List.Forall, nullary_bufs_sub, unary_bufs_sub, binary_bufs_sub, ternary_bufs_sub, quaternary_bufs_sub, nary_bufs_sub, and_self]

/-- Part 3 writes the listed buffers. -/
theorem writes2 : (ops2 : List (HloOp τ sig (Elt F))).map HloOp.writes = outs2.map fun r => {Proc.devRef (τ := τ) .tc r} := rfl
/-- Part 3 makes no fresh buffer. -/
theorem fresh2 : (ops2 : List (HloOp τ sig (Elt F))).Forall fun op => op.fresh = ∅ := forall_fresh_of_map rfl
/-- Part 3 stays within the TensorCore's buffers. -/
theorem sub2 : (ops2 : List (HloOp τ sig (Elt F))).Forall fun op => op.bufs ⊆ tcRefs τ sig := by
  simp only [ops2, List.Forall, nullary_bufs_sub, unary_bufs_sub, binary_bufs_sub, ternary_bufs_sub, quaternary_bufs_sub, nary_bufs_sub, and_self]

/-- Part 4 writes the listed buffers. -/
theorem writes3 : (ops3 : List (HloOp τ sig (Elt F))).map HloOp.writes = outs3.map fun r => {Proc.devRef (τ := τ) .tc r} := rfl
/-- Part 4 makes no fresh buffer. -/
theorem fresh3 : (ops3 : List (HloOp τ sig (Elt F))).Forall fun op => op.fresh = ∅ := forall_fresh_of_map rfl
/-- Part 4 stays within the TensorCore's buffers. -/
theorem sub3 : (ops3 : List (HloOp τ sig (Elt F))).Forall fun op => op.bufs ⊆ tcRefs τ sig := by
  simp only [ops3, List.Forall, nullary_bufs_sub, unary_bufs_sub, binary_bufs_sub, ternary_bufs_sub, quaternary_bufs_sub, nary_bufs_sub, and_self]

/-- The list writes the listed buffers. -/
theorem writes_eq : (ops : List (HloOp τ sig (Elt F))).map HloOp.writes = outs.map fun r => {Proc.devRef (τ := τ) .tc r} := by
  simp only [ops, outs, List.map_append, writes0, writes1, writes2, writes3]

/-- The list makes no fresh buffer. -/
theorem ops_fresh : ∀ op ∈ (ops : List (HloOp τ sig (Elt F))), op.fresh = ∅ := by
  intro op h
  simp only [ops, List.mem_append] at h
  rcases h with h | h | h | h
  exacts [List.forall_iff_forall_mem.mp fresh0 op h, List.forall_iff_forall_mem.mp fresh1 op h,
    List.forall_iff_forall_mem.mp fresh2 op h, List.forall_iff_forall_mem.mp fresh3 op h]

/-- The list stays within the TensorCore's buffers. -/
theorem ops_sub : (ops : List (HloOp τ sig (Elt F))).Forall fun op => op.bufs ⊆ tcRefs τ sig := by
  simp only [ops, List.forall_append]
  exact ⟨sub0, sub1, sub2, sub3⟩

/-- The contents of a buffer after the whole list. -/
def fin (V : Valuation τ sig (Elt F)) (r : Ref sig .tc) : r.ty.Contents (Elt F) := after ops V (Proc.devRef .tc r)

/-- Every weakly fair execution terminates with every buffer at its contents after the list. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin (launchContents m d) b :=
  run_seq scopedRefs_eq scopedSems_eq defs main (fun _ => ops) main_eq (fun _ => ops_sub) m ρ fun _ => ops_fresh

/-! ## One equation per kind of operation -/

variable (V : Valuation τ sig (Elt F))

/-- A buffer the list does not write keeps its contents. -/
theorem fin_keep {r : Ref sig .tc} (hr : r ∉ outs) : fin V r = V (Proc.devRef .tc r) :=
  (after_take (k := 0) writes_eq hr V).symm

/-- An operation without operands. -/
theorem fin_nullary (k : ℕ) {y : Ref sig .tc} {v : y.ty.Contents (Elt F)} {hy}
    (hk : (ops : List (HloOp τ sig (Elt F)))[k]? = some (nullary y v hy)) (h : y ∉ outs.drop (k + 1)) : fin V y = v :=
  (after_at writes_eq hk h V).trans (nullary_result y v hy _)

/-- An operation of one operand. -/
theorem fin_unary (k : ℕ) {a y : Ref sig .tc} {f : a.ty.Contents (Elt F) → y.ty.Contents (Elt F)} {ha hy}
    (hk : (ops : List (HloOp τ sig (Elt F)))[k]? = some (unary a y f ha hy)) (h : y ∉ outs.drop (k + 1) ∧ a ∉ outs.drop k) :
    fin V y = f (fin V a) := by
  refine (after_at writes_eq hk h.1 V).trans ((unary_result a y f ha hy _).trans ?_)
  rw [after_take writes_eq k h.2 V]; rfl

/-- An operation of two operands. -/
theorem fin_binary (k : ℕ) {a b y : Ref sig .tc} {f : a.ty.Contents (Elt F) → b.ty.Contents (Elt F) → y.ty.Contents (Elt F)} {ha hb hy}
    (hk : (ops : List (HloOp τ sig (Elt F)))[k]? = some (binary a b y f ha hb hy))
    (h : y ∉ outs.drop (k + 1) ∧ a ∉ outs.drop k ∧ b ∉ outs.drop k) : fin V y = f (fin V a) (fin V b) := by
  refine (after_at writes_eq hk h.1 V).trans ((binary_result a b y f ha hb hy _).trans ?_)
  rw [after_take writes_eq k h.2.1 V, after_take writes_eq k h.2.2 V]; rfl

/-- An operation of three operands. -/
theorem fin_ternary (k : ℕ) {a b c y : Ref sig .tc}
    {f : a.ty.Contents (Elt F) → b.ty.Contents (Elt F) → c.ty.Contents (Elt F) → y.ty.Contents (Elt F)} {ha hb hc hy}
    (hk : (ops : List (HloOp τ sig (Elt F)))[k]? = some (ternary a b c y f ha hb hc hy))
    (h : y ∉ outs.drop (k + 1) ∧ a ∉ outs.drop k ∧ b ∉ outs.drop k ∧ c ∉ outs.drop k) :
    fin V y = f (fin V a) (fin V b) (fin V c) := by
  refine (after_at writes_eq hk h.1 V).trans ((ternary_result a b c y f ha hb hc hy _).trans ?_)
  rw [after_take writes_eq k h.2.1 V, after_take writes_eq k h.2.2.1 V, after_take writes_eq k h.2.2.2 V]; rfl

/-- An operation of four operands. -/
theorem fin_quaternary (k : ℕ) {a b c e y : Ref sig .tc}
    {f : a.ty.Contents (Elt F) → b.ty.Contents (Elt F) → c.ty.Contents (Elt F) → e.ty.Contents (Elt F) → y.ty.Contents (Elt F)}
    {ha hb hc he hy}
    (hk : (ops : List (HloOp τ sig (Elt F)))[k]? = some (quaternary a b c e y f ha hb hc he hy))
    (h : y ∉ outs.drop (k + 1) ∧ a ∉ outs.drop k ∧ b ∉ outs.drop k ∧ c ∉ outs.drop k ∧ e ∉ outs.drop k) :
    fin V y = f (fin V a) (fin V b) (fin V c) (fin V e) := by
  refine (after_at writes_eq hk h.1 V).trans ((quaternary_result a b c e y f ha hb hc he hy _).trans ?_)
  rw [after_take writes_eq k h.2.1 V, after_take writes_eq k h.2.2.1 V, after_take writes_eq k h.2.2.2.1 V,
    after_take writes_eq k h.2.2.2.2 V]; rfl

/-- An operation of a family of operands. -/
theorem fin_nary (k : ℕ) {n : ℕ} {xs : Fin n → Ref sig .tc} {y : Ref sig .tc}
    {f : ((i : Fin n) → (xs i).ty.Contents (Elt F)) → y.ty.Contents (Elt F)} {hx hy}
    (hk : (ops : List (HloOp τ sig (Elt F)))[k]? = some (nary xs y f hx hy))
    (h : y ∉ outs.drop (k + 1) ∧ ∀ i, xs i ∉ outs.drop k) : fin V y = f fun i => fin V (xs i) := by
  refine (after_at writes_eq hk h.1 V).trans ((nary_result xs y f hx hy _).trans ?_)
  exact congrArg f (funext fun i => after_take writes_eq k (h.2 i) V)

end Cert.ReferenceIdeal.RefRun
-- ==== Proof.RefEqs.lean ====
/- One equation per operation of the reference on the contents its run leaves. -/
module

public import proofs.«01_k».proof.Proof.RefRun

@[expose] public section

set_option Elab.async false
set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

/-! ## The buffers' contents by name -/

/-- `main_arg0` at the end. -/
def arg0 : FVec F S4096x768 .f32 := fin V main_arg0
/-- `main_arg1` at the end. -/
def arg1 : FVec F S768x512 .f32 := fin V main_arg1
/-- `main_arg2` at the end. -/
def arg2 : FVec F S512 .f32 := fin V main_arg2
/-- `main_arg3` at the end. -/
def arg3 : FVec F S512x256 .f32 := fin V main_arg3
/-- `main_arg4` at the end. -/
def arg4 : FVec F S256 .f32 := fin V main_arg4
/-- `main_arg5` at the end. -/
def arg5 : FVec F S256x32 .f32 := fin V main_arg5
/-- `main_arg6` at the end. -/
def arg6 : FVec F S32 .f32 := fin V main_arg6
/-- `main_arg7` at the end. -/
def arg7 : FVec F S32x256 .f32 := fin V main_arg7
/-- `main_arg8` at the end. -/
def arg8 : FVec F S256 .f32 := fin V main_arg8
/-- `main_arg9` at the end. -/
def arg9 : FVec F S256x512 .f32 := fin V main_arg9
/-- `main_arg10` at the end. -/
def arg10 : FVec F S512 .f32 := fin V main_arg10
/-- `main_arg11` at the end. -/
def arg11 : FVec F S512x768 .f32 := fin V main_arg11
/-- `main_arg12` at the end. -/
def arg12 : FVec F S768 .f32 := fin V main_arg12
/-- `main_arg13` at the end. -/
def arg13 : FVec F S32 .f32 := fin V main_arg13
/-- `main_arg14` at the end. -/
def arg14 : FVec F S32 .f32 := fin V main_arg14
/-- `main_arg15` at the end. -/
def arg15 : FVec F S8192x32 .f32 := fin V main_arg15
/-- `main_arg16` at the end. -/
def arg16 : FVec F S8192x32 .f32 := fin V main_arg16
/-- `main_arg17` at the end. -/
def arg17 : FVec F S8192x32 .f32 := fin V main_arg17
/-- `main_v0` at the end. -/
def v0 : FVec F S4096x512 .f32 := fin V main_v0
/-- `main_v1` at the end. -/
def v1 : FVec F S1x512 .f32 := fin V main_v1
/-- `main_v2` at the end. -/
def v2 : FVec F S4096x512 .f32 := fin V main_v2
/-- `main_v3` at the end. -/
def v3 : FVec F S4096x512 .f32 := fin V main_v3
/-- `main_call0_cst` at the end. -/
def call0_cst : FVec F S_ .f32 := fin V main_call0_cst
/-- `main_call0_v0` at the end. -/
def call0_v0 : FVec F S4096x512 .f32 := fin V main_call0_v0
/-- `main_v4` at the end. -/
def v4 : FVec F S4096x512 .f32 := fin V main_v4
/-- `main_v5` at the end. -/
def v5 : FVec F S4096x256 .f32 := fin V main_v5
/-- `main_v6` at the end. -/
def v6 : FVec F S1x256 .f32 := fin V main_v6
/-- `main_v7` at the end. -/
def v7 : FVec F S4096x256 .f32 := fin V main_v7
/-- `main_v8` at the end. -/
def v8 : FVec F S4096x256 .f32 := fin V main_v8
/-- `main_call1_cst` at the end. -/
def call1_cst : FVec F S_ .f32 := fin V main_call1_cst
/-- `main_call1_v0` at the end. -/
def call1_v0 : FVec F S4096x256 .f32 := fin V main_call1_v0
/-- `main_v9` at the end. -/
def v9 : FVec F S4096x256 .f32 := fin V main_v9
/-- `main_v10` at the end. -/
def v10 : FVec F S4096x32 .f32 := fin V main_v10
/-- `main_v11` at the end. -/
def v11 : FVec F S1x32 .f32 := fin V main_v11
/-- `main_v12` at the end. -/
def v12 : FVec F S4096x32 .f32 := fin V main_v12
/-- `main_v13` at the end. -/
def v13 : FVec F S4096x32 .f32 := fin V main_v13
/-- `main_cst` at the end. -/
def cst : FVec F S_ .f32 := fin V main_cst
/-- `main_v14` at the end. -/
def v14 : FVec F S4096 .f32 := fin V main_v14
/-- `main_v15` at the end. -/
def v15 : FVec F S4096x1 .f32 := fin V main_v15
/-- `main_cst_0` at the end. -/
def cst_0 : FVec F S_ .f32 := fin V main_cst_0
/-- `main_v16` at the end. -/
def v16 : FVec F S4096x1 .f32 := fin V main_v16
/-- `main_v17` at the end. -/
def v17 : FVec F S4096x1 .f32 := fin V main_v17
/-- `main_c` at the end. -/
def c : IVec S_ 32 := fin V main_c
/-- `main_call2_cst` at the end. -/
def call2_cst : FVec F S_ .f32 := fin V main_call2_cst
/-- `main_call2_v0` at the end. -/
def call2_v0 : FVec F S4096 .f32 := fin V main_call2_v0
/-- `main_call2_v1` at the end. -/
def call2_v1 : FVec F S4096x1 .f32 := fin V main_call2_v1
/-- `main_call2_cst_0` at the end. -/
def call2_cst_0 : FVec F S_ .f32 := fin V main_call2_cst_0
/-- `main_call2_v2` at the end. -/
def call2_v2 : FVec F S4096x1 .f32 := fin V main_call2_v2
/-- `main_call2_v3` at the end. -/
def call2_v3 : FVec F S4096x1 .f32 := fin V main_call2_v3
/-- `main_call2_v4` at the end. -/
def call2_v4 : FVec F S4096x32 .f32 := fin V main_call2_v4
/-- `main_call2_v5` at the end. -/
def call2_v5 : FVec F S4096x32 .f32 := fin V main_call2_v5
/-- `main_call2_v6` at the end. -/
def call2_v6 : FVec F S4096x32 .f32 := fin V main_call2_v6
/-- `main_call2_v7` at the end. -/
def call2_v7 : FVec F S_ .f32 := fin V main_call2_v7
/-- `main_call2_cst_1` at the end. -/
def call2_cst_1 : FVec F S_ .f32 := fin V main_call2_cst_1
/-- `main_call2_v8` at the end. -/
def call2_v8 : FVec F S_ .f32 := fin V main_call2_v8
/-- `main_call2_cst_2` at the end. -/
def call2_cst_2 : FVec F S_ .f32 := fin V main_call2_cst_2
/-- `main_call2_v9` at the end. -/
def call2_v9 : FVec F S4096 .f32 := fin V main_call2_v9
/-- `main_call2_v10` at the end. -/
def call2_v10 : FVec F S4096x1 .f32 := fin V main_call2_v10
/-- `main_call2_v11` at the end. -/
def call2_v11 : FVec F S4096x1 .f32 := fin V main_call2_v11
/-- `main_call2_v12` at the end. -/
def call2_v12 : FVec F S4096x1 .f32 := fin V main_call2_v12
/-- `main_call2_cst_3` at the end. -/
def call2_cst_3 : FVec F S_ .f32 := fin V main_call2_cst_3
/-- `main_call2_v13` at the end. -/
def call2_v13 : IVec S_ 1 := fin V main_call2_v13
/-- `main_call2_cst_4` at the end. -/
def call2_cst_4 : FVec F S_ .f32 := fin V main_call2_cst_4
/-- `main_call2_call0_v0` at the end. -/
def call2_call0_v0 : FVec F S_ .f32 := fin V main_call2_call0_v0
/-- `main_call2_call0_v1` at the end. -/
def call2_call0_v1 : FVec F S4096x1 .f32 := fin V main_call2_call0_v1
/-- `main_v18` at the end. -/
def v18 : FVec F S4096x1 .f32 := fin V main_v18
/-- `main_v19` at the end. -/
def v19 : FVec F S4096x32 .f32 := fin V main_v19
/-- `main_v20` at the end. -/
def v20 : FVec F S4096x32 .f32 := fin V main_v20
/-- `main_cst_1` at the end. -/
def cst_1 : FVec F S_ .f32 := fin V main_cst_1
/-- `main_v21` at the end. -/
def v21 : FVec F S4096x1 .f32 := fin V main_v21
/-- `main_v22` at the end. -/
def v22 : FVec F S4096x1 .f32 := fin V main_v22
/-- `main_v23` at the end. -/
def v23 : FVec F S4096x1 .f32 := fin V main_v23
/-- `main_v24` at the end. -/
def v24 : FVec F S4096x32 .f32 := fin V main_v24
/-- `main_v25` at the end. -/
def v25 : FVec F S4096x32 .f32 := fin V main_v25
/-- `main_v26` at the end. -/
def v26 : FVec F S1x32 .f32 := fin V main_v26
/-- `main_v27` at the end. -/
def v27 : FVec F S4096x32 .f32 := fin V main_v27
/-- `main_v28` at the end. -/
def v28 : FVec F S4096x32 .f32 := fin V main_v28
/-- `main_v29` at the end. -/
def v29 : FVec F S1x32 .f32 := fin V main_v29
/-- `main_v30` at the end. -/
def v30 : FVec F S4096x32 .f32 := fin V main_v30
/-- `main_v31` at the end. -/
def v31 : FVec F S4096x32 .f32 := fin V main_v31
/-- `main_cst_2` at the end. -/
def cst_2 : FVec F S_ .f32 := fin V main_cst_2
/-- `main_v32` at the end. -/
def v32 : FVec F S4096x32 .f32 := fin V main_v32
/-- `main_v33` at the end. -/
def v33 : FVec F S4096x32 .f32 := fin V main_v33
/-- `main_cst_3` at the end. -/
def cst_3 : FVec F S_ .f32 := fin V main_cst_3
/-- `main_v34` at the end. -/
def v34 : FVec F S4096 .f32 := fin V main_v34
/-- `main_v35` at the end. -/
def v35 : FVec F S4096x1 .f32 := fin V main_v35
/-- `main_v36` at the end. -/
def v36 : FVec F S32x8192 .f32 := fin V main_v36
/-- `main_v37` at the end. -/
def v37 : FVec F S4096x8192 .f32 := fin V main_v37
/-- `main_cst_4` at the end. -/
def cst_4 : FVec F S_ .f32 := fin V main_cst_4
/-- `main_v38` at the end. -/
def v38 : FVec F S4096x8192 .f32 := fin V main_v38
/-- `main_v39` at the end. -/
def v39 : FVec F S4096x8192 .f32 := fin V main_v39
/-- `main_v40` at the end. -/
def v40 : FVec F S4096x8192 .f32 := fin V main_v40
/-- `main_v41` at the end. -/
def v41 : FVec F S4096x8192 .f32 := fin V main_v41
/-- `main_v42` at the end. -/
def v42 : FVec F S8192x32 .f32 := fin V main_v42
/-- `main_cst_5` at the end. -/
def cst_5 : FVec F S_ .f32 := fin V main_cst_5
/-- `main_v43` at the end. -/
def v43 : FVec F S8192 .f32 := fin V main_v43
/-- `main_v44` at the end. -/
def v44 : FVec F S1x8192 .f32 := fin V main_v44
/-- `main_v45` at the end. -/
def v45 : FVec F S4096x8192 .f32 := fin V main_v45
/-- `main_v46` at the end. -/
def v46 : FVec F S4096x8192 .f32 := fin V main_v46
/-- `main_call3_v0` at the end. -/
def call3_v0 : IVec S4096x8192 32 := fin V main_call3_v0
/-- `main_call3_cst` at the end. -/
def call3_cst : FVec F S_ .f32 := fin V main_call3_cst
/-- `main_call3_c` at the end. -/
def call3_c : IVec S_ 32 := fin V main_call3_c
/-- `main_call3_v1_0` at the end. -/
def call3_v1_0 : FVec F S4096 .f32 := fin V main_call3_v1_0
/-- `main_v47` at the end. -/
def v47 : IVec S4096 32 := fin V main_v47
/-- `main_call4_c` at the end. -/
def call4_c : IVec S_ 32 := fin V main_call4_c
/-- `main_call4_v0` at the end. -/
def call4_v0 : IVec S4096 32 := fin V main_call4_v0
/-- `main_call4_v1` at the end. -/
def call4_v1 : IVec S4096 1 := fin V main_call4_v1
/-- `main_call4_c_0` at the end. -/
def call4_c_0 : IVec S_ 32 := fin V main_call4_c_0
/-- `main_call4_v2` at the end. -/
def call4_v2 : IVec S4096 32 := fin V main_call4_v2
/-- `main_call4_v3` at the end. -/
def call4_v3 : IVec S4096 32 := fin V main_call4_v3
/-- `main_call4_v4` at the end. -/
def call4_v4 : IVec S4096 32 := fin V main_call4_v4
/-- `main_call4_v5` at the end. -/
def call4_v5 : IVec S4096x1 32 := fin V main_call4_v5
/-- `main_call4_c_1` at the end. -/
def call4_c_1 : IVec S1 32 := fin V main_call4_c_1
/-- `main_call4_c_2` at the end. -/
def call4_c_2 : IVec S_ 32 := fin V main_call4_c_2
/-- `main_call4_v6` at the end. -/
def call4_v6 : IVec S4096x1 32 := fin V main_call4_v6
/-- `main_call4_v7` at the end. -/
def call4_v7 : IVec S4096x1 1 := fin V main_call4_v7
/-- `main_call4_v8` at the end. -/
def call4_v8 : IVec S1x1 32 := fin V main_call4_v8
/-- `main_call4_v9` at the end. -/
def call4_v9 : IVec S4096x1 32 := fin V main_call4_v9
/-- `main_call4_v10` at the end. -/
def call4_v10 : IVec S4096x1 1 := fin V main_call4_v10
/-- `main_call4_v11` at the end. -/
def call4_v11 : IVec S4096x1 1 := fin V main_call4_v11
/-- `main_call4_c_3` at the end. -/
def call4_c_3 : IVec S_ 1 := fin V main_call4_c_3
/-- `main_call4_v12` at the end. -/
def call4_v12 : IVec S4096 1 := fin V main_call4_v12
/-- `main_call4_v13` at the end. -/
def call4_v13 : FVec F S4096x32 .f32 := fin V main_call4_v13
/-- `main_call4_v14` at the end. -/
def call4_v14 : IVec S4096x32 1 := fin V main_call4_v14
/-- `main_call4_cst` at the end. -/
def call4_cst : FVec F S_ .f32 := fin V main_call4_cst
/-- `main_call4_v15` at the end. -/
def call4_v15 : FVec F S4096x32 .f32 := fin V main_call4_v15
/-- `main_v48` at the end. -/
def v48 : FVec F S4096x32 .f32 := fin V main_v48
/-- `main_v49` at the end. -/
def v49 : FVec F S4096x32 .f32 := fin V main_v49
/-- `main_v50` at the end. -/
def v50 : FVec F S4096x32 .f32 := fin V main_v50
/-- `main_cst_6` at the end. -/
def cst_6 : FVec F S_ .f32 := fin V main_cst_6
/-- `main_v51` at the end. -/
def v51 : FVec F S4096 .f32 := fin V main_v51
/-- `main_cst_7` at the end. -/
def cst_7 : FVec F S_ .f32 := fin V main_cst_7
/-- `main_v52` at the end. -/
def v52 : FVec F S4096 .f32 := fin V main_v52
/-- `main_v53` at the end. -/
def v53 : FVec F S4096 .f32 := fin V main_v53
/-- `main_v54` at the end. -/
def v54 : FVec F S4096x32 .f32 := fin V main_v54
/-- `main_v55` at the end. -/
def v55 : FVec F S4096x32 .f32 := fin V main_v55
/-- `main_cst_8` at the end. -/
def cst_8 : FVec F S_ .f32 := fin V main_cst_8
/-- `main_v56` at the end. -/
def v56 : FVec F S4096 .f32 := fin V main_v56
/-- `main_cst_9` at the end. -/
def cst_9 : FVec F S_ .f32 := fin V main_cst_9
/-- `main_v57` at the end. -/
def v57 : FVec F S4096 .f32 := fin V main_v57
/-- `main_v58` at the end. -/
def v58 : FVec F S4096 .f32 := fin V main_v58
/-- `main_cst_10` at the end. -/
def cst_10 : FVec F S_ .f32 := fin V main_cst_10
/-- `main_v59` at the end. -/
def v59 : FVec F S4096 .f32 := fin V main_v59
/-- `main_v60` at the end. -/
def v60 : FVec F S4096 .f32 := fin V main_v60
/-- `main_v61` at the end. -/
def v61 : FVec F S4096 .f32 := fin V main_v61
/-- `main_v62` at the end. -/
def v62 : FVec F S4096x32 .f32 := fin V main_v62
/-- `main_v63` at the end. -/
def v63 : FVec F S4096x32 .f32 := fin V main_v63
/-- `main_v64` at the end. -/
def v64 : FVec F S4096x32 .f32 := fin V main_v64
/-- `main_v65` at the end. -/
def v65 : FVec F S4096x32 .f32 := fin V main_v65
/-- `main_v66` at the end. -/
def v66 : FVec F S4096x32 .f32 := fin V main_v66
/-- `main_cst_11` at the end. -/
def cst_11 : FVec F S_ .f32 := fin V main_cst_11
/-- `main_v67` at the end. -/
def v67 : FVec F S4096 .f32 := fin V main_v67
/-- `main_v68` at the end. -/
def v68 : FVec F S4096x1 .f32 := fin V main_v68
/-- `main_v69` at the end. -/
def v69 : FVec F S32x8192 .f32 := fin V main_v69
/-- `main_v70` at the end. -/
def v70 : FVec F S4096x8192 .f32 := fin V main_v70
/-- `main_cst_12` at the end. -/
def cst_12 : FVec F S_ .f32 := fin V main_cst_12
/-- `main_v71` at the end. -/
def v71 : FVec F S4096x8192 .f32 := fin V main_v71
/-- `main_v72` at the end. -/
def v72 : FVec F S4096x8192 .f32 := fin V main_v72
/-- `main_v73` at the end. -/
def v73 : FVec F S4096x8192 .f32 := fin V main_v73
/-- `main_v74` at the end. -/
def v74 : FVec F S4096x8192 .f32 := fin V main_v74
/-- `main_v75` at the end. -/
def v75 : FVec F S8192x32 .f32 := fin V main_v75
/-- `main_cst_13` at the end. -/
def cst_13 : FVec F S_ .f32 := fin V main_cst_13
/-- `main_v76` at the end. -/
def v76 : FVec F S8192 .f32 := fin V main_v76
/-- `main_v77` at the end. -/
def v77 : FVec F S1x8192 .f32 := fin V main_v77
/-- `main_v78` at the end. -/
def v78 : FVec F S4096x8192 .f32 := fin V main_v78
/-- `main_v79` at the end. -/
def v79 : FVec F S4096x8192 .f32 := fin V main_v79
/-- `main_call5_v0` at the end. -/
def call5_v0 : IVec S4096x8192 32 := fin V main_call5_v0
/-- `main_call5_cst` at the end. -/
def call5_cst : FVec F S_ .f32 := fin V main_call5_cst
/-- `main_call5_c` at the end. -/
def call5_c : IVec S_ 32 := fin V main_call5_c
/-- `main_call5_v1_0` at the end. -/
def call5_v1_0 : FVec F S4096 .f32 := fin V main_call5_v1_0
/-- `main_v80` at the end. -/
def v80 : IVec S4096 32 := fin V main_v80
/-- `main_call6_c` at the end. -/
def call6_c : IVec S_ 32 := fin V main_call6_c
/-- `main_call6_v0` at the end. -/
def call6_v0 : IVec S4096 32 := fin V main_call6_v0
/-- `main_call6_v1` at the end. -/
def call6_v1 : IVec S4096 1 := fin V main_call6_v1
/-- `main_call6_c_0` at the end. -/
def call6_c_0 : IVec S_ 32 := fin V main_call6_c_0
/-- `main_call6_v2` at the end. -/
def call6_v2 : IVec S4096 32 := fin V main_call6_v2
/-- `main_call6_v3` at the end. -/
def call6_v3 : IVec S4096 32 := fin V main_call6_v3
/-- `main_call6_v4` at the end. -/
def call6_v4 : IVec S4096 32 := fin V main_call6_v4
/-- `main_call6_v5` at the end. -/
def call6_v5 : IVec S4096x1 32 := fin V main_call6_v5
/-- `main_call6_c_1` at the end. -/
def call6_c_1 : IVec S1 32 := fin V main_call6_c_1
/-- `main_call6_c_2` at the end. -/
def call6_c_2 : IVec S_ 32 := fin V main_call6_c_2
/-- `main_call6_v6` at the end. -/
def call6_v6 : IVec S4096x1 32 := fin V main_call6_v6
/-- `main_call6_v7` at the end. -/
def call6_v7 : IVec S4096x1 1 := fin V main_call6_v7
/-- `main_call6_v8` at the end. -/
def call6_v8 : IVec S1x1 32 := fin V main_call6_v8
/-- `main_call6_v9` at the end. -/
def call6_v9 : IVec S4096x1 32 := fin V main_call6_v9
/-- `main_call6_v10` at the end. -/
def call6_v10 : IVec S4096x1 1 := fin V main_call6_v10
/-- `main_call6_v11` at the end. -/
def call6_v11 : IVec S4096x1 1 := fin V main_call6_v11
/-- `main_call6_c_3` at the end. -/
def call6_c_3 : IVec S_ 1 := fin V main_call6_c_3
/-- `main_call6_v12` at the end. -/
def call6_v12 : IVec S4096 1 := fin V main_call6_v12
/-- `main_call6_v13` at the end. -/
def call6_v13 : FVec F S4096x32 .f32 := fin V main_call6_v13
/-- `main_call6_v14` at the end. -/
def call6_v14 : IVec S4096x32 1 := fin V main_call6_v14
/-- `main_call6_cst` at the end. -/
def call6_cst : FVec F S_ .f32 := fin V main_call6_cst
/-- `main_call6_v15` at the end. -/
def call6_v15 : FVec F S4096x32 .f32 := fin V main_call6_v15
/-- `main_v81` at the end. -/
def v81 : FVec F S4096x32 .f32 := fin V main_v81
/-- `main_v82` at the end. -/
def v82 : FVec F S4096x32 .f32 := fin V main_v82
/-- `main_v83` at the end. -/
def v83 : FVec F S4096x32 .f32 := fin V main_v83
/-- `main_cst_14` at the end. -/
def cst_14 : FVec F S_ .f32 := fin V main_cst_14
/-- `main_v84` at the end. -/
def v84 : FVec F S4096 .f32 := fin V main_v84
/-- `main_cst_15` at the end. -/
def cst_15 : FVec F S_ .f32 := fin V main_cst_15
/-- `main_v85` at the end. -/
def v85 : FVec F S4096 .f32 := fin V main_v85
/-- `main_v86` at the end. -/
def v86 : FVec F S4096 .f32 := fin V main_v86
/-- `main_v87` at the end. -/
def v87 : FVec F S4096x32 .f32 := fin V main_v87
/-- `main_v88` at the end. -/
def v88 : FVec F S4096x32 .f32 := fin V main_v88
/-- `main_cst_16` at the end. -/
def cst_16 : FVec F S_ .f32 := fin V main_cst_16
/-- `main_v89` at the end. -/
def v89 : FVec F S4096 .f32 := fin V main_v89
/-- `main_cst_17` at the end. -/
def cst_17 : FVec F S_ .f32 := fin V main_cst_17
/-- `main_v90` at the end. -/
def v90 : FVec F S4096 .f32 := fin V main_v90
/-- `main_v91` at the end. -/
def v91 : FVec F S4096 .f32 := fin V main_v91
/-- `main_cst_18` at the end. -/
def cst_18 : FVec F S_ .f32 := fin V main_cst_18
/-- `main_v92` at the end. -/
def v92 : FVec F S4096 .f32 := fin V main_v92
/-- `main_v93` at the end. -/
def v93 : FVec F S4096 .f32 := fin V main_v93
/-- `main_v94` at the end. -/
def v94 : FVec F S4096 .f32 := fin V main_v94
/-- `main_v95` at the end. -/
def v95 : FVec F S4096x32 .f32 := fin V main_v95
/-- `main_v96` at the end. -/
def v96 : FVec F S4096x32 .f32 := fin V main_v96
/-- `main_v97` at the end. -/
def v97 : FVec F S4096x32 .f32 := fin V main_v97
/-- `main_v98` at the end. -/
def v98 : FVec F S4096x32 .f32 := fin V main_v98
/-- `main_v99` at the end. -/
def v99 : FVec F S4096x32 .f32 := fin V main_v99
/-- `main_cst_19` at the end. -/
def cst_19 : FVec F S_ .f32 := fin V main_cst_19
/-- `main_v100` at the end. -/
def v100 : FVec F S4096 .f32 := fin V main_v100
/-- `main_v101` at the end. -/
def v101 : FVec F S4096x1 .f32 := fin V main_v101
/-- `main_v102` at the end. -/
def v102 : FVec F S32x8192 .f32 := fin V main_v102
/-- `main_v103` at the end. -/
def v103 : FVec F S4096x8192 .f32 := fin V main_v103
/-- `main_cst_20` at the end. -/
def cst_20 : FVec F S_ .f32 := fin V main_cst_20
/-- `main_v104` at the end. -/
def v104 : FVec F S4096x8192 .f32 := fin V main_v104
/-- `main_v105` at the end. -/
def v105 : FVec F S4096x8192 .f32 := fin V main_v105
/-- `main_v106` at the end. -/
def v106 : FVec F S4096x8192 .f32 := fin V main_v106
/-- `main_v107` at the end. -/
def v107 : FVec F S4096x8192 .f32 := fin V main_v107
/-- `main_v108` at the end. -/
def v108 : FVec F S8192x32 .f32 := fin V main_v108
/-- `main_cst_21` at the end. -/
def cst_21 : FVec F S_ .f32 := fin V main_cst_21
/-- `main_v109` at the end. -/
def v109 : FVec F S8192 .f32 := fin V main_v109
/-- `main_v110` at the end. -/
def v110 : FVec F S1x8192 .f32 := fin V main_v110
/-- `main_v111` at the end. -/
def v111 : FVec F S4096x8192 .f32 := fin V main_v111
/-- `main_v112` at the end. -/
def v112 : FVec F S4096x8192 .f32 := fin V main_v112
/-- `main_call7_v0` at the end. -/
def call7_v0 : IVec S4096x8192 32 := fin V main_call7_v0
/-- `main_call7_cst` at the end. -/
def call7_cst : FVec F S_ .f32 := fin V main_call7_cst
/-- `main_call7_c` at the end. -/
def call7_c : IVec S_ 32 := fin V main_call7_c
/-- `main_call7_v1_0` at the end. -/
def call7_v1_0 : FVec F S4096 .f32 := fin V main_call7_v1_0
/-- `main_v113` at the end. -/
def v113 : IVec S4096 32 := fin V main_v113
/-- `main_call8_c` at the end. -/
def call8_c : IVec S_ 32 := fin V main_call8_c
/-- `main_call8_v0` at the end. -/
def call8_v0 : IVec S4096 32 := fin V main_call8_v0
/-- `main_call8_v1` at the end. -/
def call8_v1 : IVec S4096 1 := fin V main_call8_v1
/-- `main_call8_c_0` at the end. -/
def call8_c_0 : IVec S_ 32 := fin V main_call8_c_0
/-- `main_call8_v2` at the end. -/
def call8_v2 : IVec S4096 32 := fin V main_call8_v2
/-- `main_call8_v3` at the end. -/
def call8_v3 : IVec S4096 32 := fin V main_call8_v3
/-- `main_call8_v4` at the end. -/
def call8_v4 : IVec S4096 32 := fin V main_call8_v4
/-- `main_call8_v5` at the end. -/
def call8_v5 : IVec S4096x1 32 := fin V main_call8_v5
/-- `main_call8_c_1` at the end. -/
def call8_c_1 : IVec S1 32 := fin V main_call8_c_1
/-- `main_call8_c_2` at the end. -/
def call8_c_2 : IVec S_ 32 := fin V main_call8_c_2
/-- `main_call8_v6` at the end. -/
def call8_v6 : IVec S4096x1 32 := fin V main_call8_v6
/-- `main_call8_v7` at the end. -/
def call8_v7 : IVec S4096x1 1 := fin V main_call8_v7
/-- `main_call8_v8` at the end. -/
def call8_v8 : IVec S1x1 32 := fin V main_call8_v8
/-- `main_call8_v9` at the end. -/
def call8_v9 : IVec S4096x1 32 := fin V main_call8_v9
/-- `main_call8_v10` at the end. -/
def call8_v10 : IVec S4096x1 1 := fin V main_call8_v10
/-- `main_call8_v11` at the end. -/
def call8_v11 : IVec S4096x1 1 := fin V main_call8_v11
/-- `main_call8_c_3` at the end. -/
def call8_c_3 : IVec S_ 1 := fin V main_call8_c_3
/-- `main_call8_v12` at the end. -/
def call8_v12 : IVec S4096 1 := fin V main_call8_v12
/-- `main_call8_v13` at the end. -/
def call8_v13 : FVec F S4096x32 .f32 := fin V main_call8_v13
/-- `main_call8_v14` at the end. -/
def call8_v14 : IVec S4096x32 1 := fin V main_call8_v14
/-- `main_call8_cst` at the end. -/
def call8_cst : FVec F S_ .f32 := fin V main_call8_cst
/-- `main_call8_v15` at the end. -/
def call8_v15 : FVec F S4096x32 .f32 := fin V main_call8_v15
/-- `main_v114` at the end. -/
def v114 : FVec F S4096x32 .f32 := fin V main_v114
/-- `main_v115` at the end. -/
def v115 : FVec F S4096x32 .f32 := fin V main_v115
/-- `main_v116` at the end. -/
def v116 : FVec F S4096x32 .f32 := fin V main_v116
/-- `main_cst_22` at the end. -/
def cst_22 : FVec F S_ .f32 := fin V main_cst_22
/-- `main_v117` at the end. -/
def v117 : FVec F S4096 .f32 := fin V main_v117
/-- `main_cst_23` at the end. -/
def cst_23 : FVec F S_ .f32 := fin V main_cst_23
/-- `main_v118` at the end. -/
def v118 : FVec F S4096 .f32 := fin V main_v118
/-- `main_v119` at the end. -/
def v119 : FVec F S4096 .f32 := fin V main_v119
/-- `main_v120` at the end. -/
def v120 : FVec F S4096x32 .f32 := fin V main_v120
/-- `main_v121` at the end. -/
def v121 : FVec F S4096x32 .f32 := fin V main_v121
/-- `main_cst_24` at the end. -/
def cst_24 : FVec F S_ .f32 := fin V main_cst_24
/-- `main_v122` at the end. -/
def v122 : FVec F S4096 .f32 := fin V main_v122
/-- `main_cst_25` at the end. -/
def cst_25 : FVec F S_ .f32 := fin V main_cst_25
/-- `main_v123` at the end. -/
def v123 : FVec F S4096 .f32 := fin V main_v123
/-- `main_v124` at the end. -/
def v124 : FVec F S4096 .f32 := fin V main_v124
/-- `main_cst_26` at the end. -/
def cst_26 : FVec F S_ .f32 := fin V main_cst_26
/-- `main_v125` at the end. -/
def v125 : FVec F S4096 .f32 := fin V main_v125
/-- `main_v126` at the end. -/
def v126 : FVec F S4096 .f32 := fin V main_v126
/-- `main_v127` at the end. -/
def v127 : FVec F S4096 .f32 := fin V main_v127
/-- `main_v128` at the end. -/
def v128 : FVec F S4096x32 .f32 := fin V main_v128
/-- `main_v129` at the end. -/
def v129 : FVec F S4096x32 .f32 := fin V main_v129
/-- `main_v130` at the end. -/
def v130 : FVec F S4096x32 .f32 := fin V main_v130
/-- `main_v131` at the end. -/
def v131 : FVec F S4096x32 .f32 := fin V main_v131
/-- `main_v132` at the end. -/
def v132 : FVec F S4096x256 .f32 := fin V main_v132
/-- `main_v133` at the end. -/
def v133 : FVec F S1x256 .f32 := fin V main_v133
/-- `main_v134` at the end. -/
def v134 : FVec F S4096x256 .f32 := fin V main_v134
/-- `main_v135` at the end. -/
def v135 : FVec F S4096x256 .f32 := fin V main_v135
/-- `main_call9_cst` at the end. -/
def call9_cst : FVec F S_ .f32 := fin V main_call9_cst
/-- `main_call9_v0` at the end. -/
def call9_v0 : FVec F S4096x256 .f32 := fin V main_call9_v0
/-- `main_v136` at the end. -/
def v136 : FVec F S4096x256 .f32 := fin V main_v136
/-- `main_v137` at the end. -/
def v137 : FVec F S4096x512 .f32 := fin V main_v137
/-- `main_v138` at the end. -/
def v138 : FVec F S1x512 .f32 := fin V main_v138
/-- `main_v139` at the end. -/
def v139 : FVec F S4096x512 .f32 := fin V main_v139
/-- `main_v140` at the end. -/
def v140 : FVec F S4096x512 .f32 := fin V main_v140
/-- `main_call10_cst` at the end. -/
def call10_cst : FVec F S_ .f32 := fin V main_call10_cst
/-- `main_call10_v0` at the end. -/
def call10_v0 : FVec F S4096x512 .f32 := fin V main_call10_v0
/-- `main_v141` at the end. -/
def v141 : FVec F S4096x512 .f32 := fin V main_v141
/-- `main_v142` at the end. -/
def v142 : FVec F S4096x768 .f32 := fin V main_v142
/-- `main_v143` at the end. -/
def v143 : FVec F S1x768 .f32 := fin V main_v143
/-- `main_v144` at the end. -/
def v144 : FVec F S4096x768 .f32 := fin V main_v144
/-- `main_v145` at the end. -/
def v145 : FVec F S4096x768 .f32 := fin V main_v145
/-- `main_v146` at the end. -/
def v146 : FVec F S4096x768 .f32 := fin V main_v146
/-- `main_v147` at the end. -/
def v147 : FVec F S4096x768 .f32 := fin V main_v147
/-- `main_cst_27` at the end. -/
def cst_27 : FVec F S_ .f32 := fin V main_cst_27
/-- `main_v148` at the end. -/
def v148 : FVec F S4096 .f32 := fin V main_v148
/-- `main_cst_28` at the end. -/
def cst_28 : FVec F S_ .f32 := fin V main_cst_28
/-- `main_v149` at the end. -/
def v149 : FVec F S4096 .f32 := fin V main_v149
/-- `main_v150` at the end. -/
def v150 : FVec F S4096 .f32 := fin V main_v150
/-- `main_v151` at the end. -/
def v151 : FVec F S4096x1 .f32 := fin V main_v151
/-- `main_v152` at the end. -/
def v152 : FVec F S4096x1 .f32 := fin V main_v152
/-- `main_v153` at the end. -/
def v153 : FVec F S4096x1 .f32 := fin V main_v153
/-- `main_v154` at the end. -/
def v154 : FVec F S4096x3 .f32 := fin V main_v154
/-- `main_cst_29` at the end. -/
def cst_29 : FVec F S_ .f32 := fin V main_cst_29
/-- `main_v155` at the end. -/
def v155 : FVec F S4096 .f32 := fin V main_v155
/-- `main_v156` at the end. -/
def v156 : FVec F S4096 .f32 := fin V main_v156
/-- `main_v157` at the end. -/
def v157 : IVec S4096x1 32 := fin V main_v157
/-- `main_v158` at the end. -/
def v158 : IVec S4096x1 32 := fin V main_v158
/-- `main_v159` at the end. -/
def v159 : IVec S4096x1 32 := fin V main_v159
/-- `main_v160` at the end. -/
def v160 : IVec S4096x3 32 := fin V main_v160

/-! ## The equations -/

/-- `main_arg0` is kept. -/
theorem arg0_eq : arg0 V = V (Proc.devRef .tc main_arg0) := fin_keep V (by decide +kernel)
/-- `main_arg1` is kept. -/
theorem arg1_eq : arg1 V = V (Proc.devRef .tc main_arg1) := fin_keep V (by decide +kernel)
/-- `main_arg2` is kept. -/
theorem arg2_eq : arg2 V = V (Proc.devRef .tc main_arg2) := fin_keep V (by decide +kernel)
/-- `main_arg3` is kept. -/
theorem arg3_eq : arg3 V = V (Proc.devRef .tc main_arg3) := fin_keep V (by decide +kernel)
/-- `main_arg4` is kept. -/
theorem arg4_eq : arg4 V = V (Proc.devRef .tc main_arg4) := fin_keep V (by decide +kernel)
/-- `main_arg5` is kept. -/
theorem arg5_eq : arg5 V = V (Proc.devRef .tc main_arg5) := fin_keep V (by decide +kernel)
/-- `main_arg6` is kept. -/
theorem arg6_eq : arg6 V = V (Proc.devRef .tc main_arg6) := fin_keep V (by decide +kernel)
/-- `main_arg7` is kept. -/
theorem arg7_eq : arg7 V = V (Proc.devRef .tc main_arg7) := fin_keep V (by decide +kernel)
/-- `main_arg8` is kept. -/
theorem arg8_eq : arg8 V = V (Proc.devRef .tc main_arg8) := fin_keep V (by decide +kernel)
/-- `main_arg9` is kept. -/
theorem arg9_eq : arg9 V = V (Proc.devRef .tc main_arg9) := fin_keep V (by decide +kernel)
/-- `main_arg10` is kept. -/
theorem arg10_eq : arg10 V = V (Proc.devRef .tc main_arg10) := fin_keep V (by decide +kernel)
/-- `main_arg11` is kept. -/
theorem arg11_eq : arg11 V = V (Proc.devRef .tc main_arg11) := fin_keep V (by decide +kernel)
/-- `main_arg12` is kept. -/
theorem arg12_eq : arg12 V = V (Proc.devRef .tc main_arg12) := fin_keep V (by decide +kernel)
/-- `main_arg13` is kept. -/
theorem arg13_eq : arg13 V = V (Proc.devRef .tc main_arg13) := fin_keep V (by decide +kernel)
/-- `main_arg14` is kept. -/
theorem arg14_eq : arg14 V = V (Proc.devRef .tc main_arg14) := fin_keep V (by decide +kernel)
/-- `main_arg15` is kept. -/
theorem arg15_eq : arg15 V = V (Proc.devRef .tc main_arg15) := fin_keep V (by decide +kernel)
/-- `main_arg16` is kept. -/
theorem arg16_eq : arg16 V = V (Proc.devRef .tc main_arg16) := fin_keep V (by decide +kernel)
/-- `main_arg17` is kept. -/
theorem arg17_eq : arg17 V = V (Proc.devRef .tc main_arg17) := fin_keep V (by decide +kernel)
/-- What `main_v0` holds. -/
theorem v0_eq : v0 V = Host.dotGeneral dot_S4096x768_S768x512_S4096x512_1_0_0_1_n_n none (arg0 V) (arg1 V) := fin_binary V 0 rfl (by decide +kernel)
/-- What `main_v1` holds. -/
theorem v1_eq : v1 V = broadcastInDim S1x512 ![1] bcast_S512_S1x512_1 (arg2 V) := fin_unary V 1 rfl (by decide +kernel)
/-- What `main_v2` holds. -/
theorem v2_eq : v2 V = broadcastInDim S4096x512 ![0, 1] bcast_S1x512_S4096x512_0_1 (v1 V) := fin_unary V 2 rfl (by decide +kernel)
/-- What `main_v3` holds. -/
theorem v3_eq : v3 V = addf (v0 V) (v2 V) := fin_binary V 3 rfl (by decide +kernel)
/-- What `main_call0_cst` holds. -/
theorem call0_cst_eq : call0_cst V = constant S_ .f32 0x00000000#32 := fin_nullary V 4 rfl (by decide +kernel)
/-- What `main_call0_v0` holds. -/
theorem call0_v0_eq : call0_v0 V = broadcastInDim S4096x512 ![] bcast_S_S4096x512 (call0_cst V) := fin_unary V 5 rfl (by decide +kernel)
/-- What `main_v4` holds. -/
theorem v4_eq : v4 V = maximumf (v3 V) (call0_v0 V) := fin_binary V 6 rfl (by decide +kernel)
/-- What `main_v5` holds. -/
theorem v5_eq : v5 V = Host.dotGeneral dot_S4096x512_S512x256_S4096x256_1_0_0_1_n_n none (v4 V) (arg3 V) := fin_binary V 7 rfl (by decide +kernel)
/-- What `main_v6` holds. -/
theorem v6_eq : v6 V = broadcastInDim S1x256 ![1] bcast_S256_S1x256_1 (arg4 V) := fin_unary V 8 rfl (by decide +kernel)
/-- What `main_v7` holds. -/
theorem v7_eq : v7 V = broadcastInDim S4096x256 ![0, 1] bcast_S1x256_S4096x256_0_1 (v6 V) := fin_unary V 9 rfl (by decide +kernel)
/-- What `main_v8` holds. -/
theorem v8_eq : v8 V = addf (v5 V) (v7 V) := fin_binary V 10 rfl (by decide +kernel)
/-- What `main_call1_cst` holds. -/
theorem call1_cst_eq : call1_cst V = constant S_ .f32 0x00000000#32 := fin_nullary V 11 rfl (by decide +kernel)
/-- What `main_call1_v0` holds. -/
theorem call1_v0_eq : call1_v0 V = broadcastInDim S4096x256 ![] bcast_S_S4096x256 (call1_cst V) := fin_unary V 12 rfl (by decide +kernel)
/-- What `main_v9` holds. -/
theorem v9_eq : v9 V = maximumf (v8 V) (call1_v0 V) := fin_binary V 13 rfl (by decide +kernel)
/-- What `main_v10` holds. -/
theorem v10_eq : v10 V = Host.dotGeneral dot_S4096x256_S256x32_S4096x32_1_0_0_1_n_n none (v9 V) (arg5 V) := fin_binary V 14 rfl (by decide +kernel)
/-- What `main_v11` holds. -/
theorem v11_eq : v11 V = broadcastInDim S1x32 ![1] bcast_S32_S1x32_1 (arg6 V) := fin_unary V 15 rfl (by decide +kernel)
/-- What `main_v12` holds. -/
theorem v12_eq : v12 V = broadcastInDim S4096x32 ![0, 1] bcast_S1x32_S4096x32_0_1 (v11 V) := fin_unary V 16 rfl (by decide +kernel)
/-- What `main_v13` holds. -/
theorem v13_eq : v13 V = addf (v10 V) (v12 V) := fin_binary V 17 rfl (by decide +kernel)
/-- What `main_cst` holds. -/
theorem cst_eq : cst V = constant S_ .f32 0x00000000#32 := fin_nullary V 18 rfl (by decide +kernel)
/-- What `main_v14` holds. -/
theorem v14_eq : v14 V = Host.reduceAdd (v13 V) (cst V) reducesTo_S4096x32_S4096_d1 h_S_ := fin_binary V 19 rfl (by decide +kernel)
/-- What `main_v15` holds. -/
theorem v15_eq : v15 V = broadcastInDim S4096x1 ![0] bcast_S4096_S4096x1_0 (v14 V) := fin_unary V 20 rfl (by decide +kernel)
/-- What `main_cst_0` holds. -/
theorem cst_0_eq : cst_0 V = constant S_ .f32 0x42000000#32 := fin_nullary V 21 rfl (by decide +kernel)
/-- What `main_v16` holds. -/
theorem v16_eq : v16 V = broadcastInDim S4096x1 ![] bcast_S_S4096x1 (cst_0 V) := fin_unary V 22 rfl (by decide +kernel)
/-- What `main_v17` holds. -/
theorem v17_eq : v17 V = Host.divf (v15 V) (v16 V) := fin_binary V 23 rfl (by decide +kernel)
/-- What `main_c` holds. -/
theorem c_eq : c V = constantI S_ 32 0#32 := fin_nullary V 24 rfl (by decide +kernel)
/-- What `main_call2_cst` holds. -/
theorem call2_cst_eq : call2_cst V = constant S_ .f32 0x00000000#32 := fin_nullary V 25 rfl (by decide +kernel)
/-- What `main_call2_v0` holds. -/
theorem call2_v0_eq : call2_v0 V = Host.reduceAdd (v13 V) (call2_cst V) reducesTo_S4096x32_S4096_d1 h_S_ := fin_binary V 26 rfl (by decide +kernel)
/-- What `main_call2_v1` holds. -/
theorem call2_v1_eq : call2_v1 V = broadcastInDim S4096x1 ![0] bcast_S4096_S4096x1_0 (call2_v0 V) := fin_unary V 27 rfl (by decide +kernel)
/-- What `main_call2_cst_0` holds. -/
theorem call2_cst_0_eq : call2_cst_0 V = constant S_ .f32 0x42000000#32 := fin_nullary V 28 rfl (by decide +kernel)
/-- What `main_call2_v2` holds. -/
theorem call2_v2_eq : call2_v2 V = broadcastInDim S4096x1 ![] bcast_S_S4096x1 (call2_cst_0 V) := fin_unary V 29 rfl (by decide +kernel)
/-- What `main_call2_v3` holds. -/
theorem call2_v3_eq : call2_v3 V = Host.divf (call2_v1 V) (call2_v2 V) := fin_binary V 30 rfl (by decide +kernel)
/-- What `main_call2_v4` holds. -/
theorem call2_v4_eq : call2_v4 V = broadcastInDim S4096x32 ![0, 1] bcast_S4096x1_S4096x32_0_1 (call2_v3 V) := fin_unary V 31 rfl (by decide +kernel)
/-- What `main_call2_v5` holds. -/
theorem call2_v5_eq : call2_v5 V = subf (v13 V) (call2_v4 V) := fin_binary V 32 rfl (by decide +kernel)
/-- What `main_call2_v6` holds. -/
theorem call2_v6_eq : call2_v6 V = mulf (call2_v5 V) (call2_v5 V) := fin_binary V 33 rfl (by decide +kernel)
/-- What `main_call2_v7` holds. -/
theorem call2_v7_eq : call2_v7 V = sitofp .f32 (c V) := fin_unary V 34 rfl (by decide +kernel)
/-- What `main_call2_cst_1` holds. -/
theorem call2_cst_1_eq : call2_cst_1 V = constant S_ .f32 0x42000000#32 := fin_nullary V 35 rfl (by decide +kernel)
/-- What `main_call2_v8` holds. -/
theorem call2_v8_eq : call2_v8 V = subf (call2_cst_1 V) (call2_v7 V) := fin_binary V 36 rfl (by decide +kernel)
/-- What `main_call2_cst_2` holds. -/
theorem call2_cst_2_eq : call2_cst_2 V = constant S_ .f32 0x00000000#32 := fin_nullary V 37 rfl (by decide +kernel)
/-- What `main_call2_v9` holds. -/
theorem call2_v9_eq : call2_v9 V = Host.reduceAdd (call2_v6 V) (call2_cst_2 V) reducesTo_S4096x32_S4096_d1 h_S_ := fin_binary V 38 rfl (by decide +kernel)
/-- What `main_call2_v10` holds. -/
theorem call2_v10_eq : call2_v10 V = broadcastInDim S4096x1 ![0] bcast_S4096_S4096x1_0 (call2_v9 V) := fin_unary V 39 rfl (by decide +kernel)
/-- What `main_call2_v11` holds. -/
theorem call2_v11_eq : call2_v11 V = broadcastInDim S4096x1 ![] bcast_S_S4096x1 (call2_v8 V) := fin_unary V 40 rfl (by decide +kernel)
/-- What `main_call2_v12` holds. -/
theorem call2_v12_eq : call2_v12 V = Host.divf (call2_v10 V) (call2_v11 V) := fin_binary V 41 rfl (by decide +kernel)
/-- What `main_call2_cst_3` holds. -/
theorem call2_cst_3_eq : call2_cst_3 V = constant S_ .f32 0x00000000#32 := fin_nullary V 42 rfl (by decide +kernel)
/-- What `main_call2_v13` holds. -/
theorem call2_v13_eq : call2_v13 V = cmpf .ogt (call2_v8 V) (call2_cst_3 V) := fin_binary V 43 rfl (by decide +kernel)
/-- What `main_call2_cst_4` holds. -/
theorem call2_cst_4_eq : call2_cst_4 V = constant S_ .f32 0x7FC00000#32 := fin_nullary V 44 rfl (by decide +kernel)
/-- What `main_call2_call0_v0` holds. -/
theorem call2_call0_v0_eq : call2_call0_v0 V = id (call2_cst_4 V) := fin_unary V 45 rfl (by decide +kernel)
/-- What `main_call2_call0_v1` holds. -/
theorem call2_call0_v1_eq : call2_call0_v1 V = broadcastInDim S4096x1 ![] bcast_S_S4096x1 (call2_call0_v0 V) := fin_unary V 46 rfl (by decide +kernel)
/-- What `main_v18` holds. -/
theorem v18_eq : v18 V = select (broadcastInDim S4096x1 ![] bcast_S_S4096x1 (call2_v13 V)) (call2_v12 V) (call2_call0_v1 V) := fin_ternary V 47 rfl (by decide +kernel)
/-- What `main_v19` holds. -/
theorem v19_eq : v19 V = broadcastInDim S4096x32 ![0, 1] bcast_S4096x1_S4096x32_0_1 (v17 V) := fin_unary V 48 rfl (by decide +kernel)
/-- What `main_v20` holds. -/
theorem v20_eq : v20 V = subf (v13 V) (v19 V) := fin_binary V 49 rfl (by decide +kernel)
/-- What `main_cst_1` holds. -/
theorem cst_1_eq : cst_1 V = constant S_ .f32 0x3727C5AC#32 := fin_nullary V 50 rfl (by decide +kernel)
/-- What `main_v21` holds. -/
theorem v21_eq : v21 V = broadcastInDim S4096x1 ![] bcast_S_S4096x1 (cst_1 V) := fin_unary V 51 rfl (by decide +kernel)
/-- What `main_v22` holds. -/
theorem v22_eq : v22 V = addf (v18 V) (v21 V) := fin_binary V 52 rfl (by decide +kernel)
/-- What `main_v23` holds. -/
theorem v23_eq : v23 V = Host.sqrt (v22 V) := fin_unary V 53 rfl (by decide +kernel)
/-- What `main_v24` holds. -/
theorem v24_eq : v24 V = broadcastInDim S4096x32 ![0, 1] bcast_S4096x1_S4096x32_0_1 (v23 V) := fin_unary V 54 rfl (by decide +kernel)
/-- What `main_v25` holds. -/
theorem v25_eq : v25 V = Host.divf (v20 V) (v24 V) := fin_binary V 55 rfl (by decide +kernel)
/-- What `main_v26` holds. -/
theorem v26_eq : v26 V = broadcastInDim S1x32 ![1] bcast_S32_S1x32_1 (arg13 V) := fin_unary V 56 rfl (by decide +kernel)
/-- What `main_v27` holds. -/
theorem v27_eq : v27 V = broadcastInDim S4096x32 ![0, 1] bcast_S1x32_S4096x32_0_1 (v26 V) := fin_unary V 57 rfl (by decide +kernel)
/-- What `main_v28` holds. -/
theorem v28_eq : v28 V = mulf (v25 V) (v27 V) := fin_binary V 58 rfl (by decide +kernel)
/-- What `main_v29` holds. -/
theorem v29_eq : v29 V = broadcastInDim S1x32 ![1] bcast_S32_S1x32_1 (arg14 V) := fin_unary V 59 rfl (by decide +kernel)
/-- What `main_v30` holds. -/
theorem v30_eq : v30 V = broadcastInDim S4096x32 ![0, 1] bcast_S1x32_S4096x32_0_1 (v29 V) := fin_unary V 60 rfl (by decide +kernel)
/-- What `main_v31` holds. -/
theorem v31_eq : v31 V = addf (v28 V) (v30 V) := fin_binary V 61 rfl (by decide +kernel)
/-- What `main_cst_2` holds. -/
theorem cst_2_eq : cst_2 V = constant S_ .f32 0x00000000#32 := fin_nullary V 62 rfl (by decide +kernel)
/-- What `main_v32` holds. -/
theorem v32_eq : v32 V = broadcastInDim S4096x32 ![] bcast_S_S4096x32 (cst_2 V) := fin_unary V 63 rfl (by decide +kernel)
/-- What `main_v33` holds. -/
theorem v33_eq : v33 V = mulf (v31 V) (v31 V) := fin_binary V 64 rfl (by decide +kernel)
/-- What `main_cst_3` holds. -/
theorem cst_3_eq : cst_3 V = constant S_ .f32 0x00000000#32 := fin_nullary V 65 rfl (by decide +kernel)
/-- What `main_v34` holds. -/
theorem v34_eq : v34 V = Host.reduceAdd (v33 V) (cst_3 V) reducesTo_S4096x32_S4096_d1 h_S_ := fin_binary V 66 rfl (by decide +kernel)
/-- What `main_v35` holds. -/
theorem v35_eq : v35 V = broadcastInDim S4096x1 ![0] bcast_S4096_S4096x1_0 (v34 V) := fin_unary V 67 rfl (by decide +kernel)
/-- What `main_v36` holds. -/
theorem v36_eq : v36 V = transpose S32x8192 [1, 0] (arg15 V) transposes_S8192x32_S32x8192_1_0 := fin_unary V 68 rfl (by decide +kernel)
/-- What `main_v37` holds. -/
theorem v37_eq : v37 V = Host.dotGeneral dot_S4096x32_S32x8192_S4096x8192_1_0_0_1_n_n none (v31 V) (v36 V) := fin_binary V 69 rfl (by decide +kernel)
/-- What `main_cst_4` holds. -/
theorem cst_4_eq : cst_4 V = constant S_ .f32 0x40000000#32 := fin_nullary V 70 rfl (by decide +kernel)
/-- What `main_v38` holds. -/
theorem v38_eq : v38 V = broadcastInDim S4096x8192 ![] bcast_S_S4096x8192 (cst_4 V) := fin_unary V 71 rfl (by decide +kernel)
/-- What `main_v39` holds. -/
theorem v39_eq : v39 V = mulf (v38 V) (v37 V) := fin_binary V 72 rfl (by decide +kernel)
/-- What `main_v40` holds. -/
theorem v40_eq : v40 V = broadcastInDim S4096x8192 ![0, 1] bcast_S4096x1_S4096x8192_0_1 (v35 V) := fin_unary V 73 rfl (by decide +kernel)
/-- What `main_v41` holds. -/
theorem v41_eq : v41 V = subf (v40 V) (v39 V) := fin_binary V 74 rfl (by decide +kernel)
/-- What `main_v42` holds. -/
theorem v42_eq : v42 V = mulf (arg15 V) (arg15 V) := fin_binary V 75 rfl (by decide +kernel)
/-- What `main_cst_5` holds. -/
theorem cst_5_eq : cst_5 V = constant S_ .f32 0x00000000#32 := fin_nullary V 76 rfl (by decide +kernel)
/-- What `main_v43` holds. -/
theorem v43_eq : v43 V = Host.reduceAdd (v42 V) (cst_5 V) reducesTo_S8192x32_S8192_d1 h_S_ := fin_binary V 77 rfl (by decide +kernel)
/-- What `main_v44` holds. -/
theorem v44_eq : v44 V = broadcastInDim S1x8192 ![1] bcast_S8192_S1x8192_1 (v43 V) := fin_unary V 78 rfl (by decide +kernel)
/-- What `main_v45` holds. -/
theorem v45_eq : v45 V = broadcastInDim S4096x8192 ![0, 1] bcast_S1x8192_S4096x8192_0_1 (v44 V) := fin_unary V 79 rfl (by decide +kernel)
/-- What `main_v46` holds. -/
theorem v46_eq : v46 V = addf (v41 V) (v45 V) := fin_binary V 80 rfl (by decide +kernel)
/-- What `main_call3_v0` holds. -/
theorem call3_v0_eq : call3_v0 V = iotaInDim S4096x8192 32 1 := fin_nullary V 81 rfl (by decide +kernel)
/-- What `main_call3_cst` holds. -/
theorem call3_cst_eq : call3_cst V = constant S_ .f32 0x7F800000#32 := fin_nullary V 82 rfl (by decide +kernel)
/-- What `main_call3_c` holds. -/
theorem call3_c_eq : call3_c V = constantI S_ 32 0#32 := fin_nullary V 83 rfl (by decide +kernel)
/-- What `main_call3_v1_0` holds. -/
theorem call3_v1_0_eq : call3_v1_0 V = fun j => (Host.argReduce reducer_argmin_f32_i32 (v46 V) (call3_v0 V) (call3_cst V) (call3_c V) reducesTo_S4096x8192_S4096_d1 h_S_ j).1 := fin_quaternary V 84 rfl (by decide +kernel)
/-- What `main_v47` holds. -/
theorem v47_eq : v47 V = fun j => (Host.argReduce reducer_argmin_f32_i32 (v46 V) (call3_v0 V) (call3_cst V) (call3_c V) reducesTo_S4096x8192_S4096_d1 h_S_ j).2 := fin_quaternary V 85 rfl (by decide +kernel)
/-- What `main_call4_c` holds. -/
theorem call4_c_eq : call4_c V = constantI S_ 32 0#32 := fin_nullary V 86 rfl (by decide +kernel)
/-- What `main_call4_v0` holds. -/
theorem call4_v0_eq : call4_v0 V = broadcastInDim S4096 ![] bcast_S_S4096 (call4_c V) := fin_unary V 87 rfl (by decide +kernel)
/-- What `main_call4_v1` holds. -/
theorem call4_v1_eq : call4_v1 V = cmpi .slt (v47 V) (call4_v0 V) := fin_binary V 88 rfl (by decide +kernel)
/-- What `main_call4_c_0` holds. -/
theorem call4_c_0_eq : call4_c_0 V = constantI S_ 32 8192#32 := fin_nullary V 89 rfl (by decide +kernel)
/-- What `main_call4_v2` holds. -/
theorem call4_v2_eq : call4_v2 V = broadcastInDim S4096 ![] bcast_S_S4096 (call4_c_0 V) := fin_unary V 90 rfl (by decide +kernel)
/-- What `main_call4_v3` holds. -/
theorem call4_v3_eq : call4_v3 V = addi (v47 V) (call4_v2 V) := fin_binary V 91 rfl (by decide +kernel)
/-- What `main_call4_v4` holds. -/
theorem call4_v4_eq : call4_v4 V = select (call4_v1 V) (call4_v3 V) (v47 V) := fin_ternary V 92 rfl (by decide +kernel)
/-- What `main_call4_v5` holds. -/
theorem call4_v5_eq : call4_v5 V = broadcastInDim S4096x1 ![0] bcast_S4096_S4096x1_0 (call4_v4 V) := fin_unary V 93 rfl (by decide +kernel)
/-- What `main_call4_c_1` holds. -/
theorem call4_c_1_eq : call4_c_1 V = constantI S1 32 8191#32 := fin_nullary V 94 rfl (by decide +kernel)
/-- What `main_call4_c_2` holds. -/
theorem call4_c_2_eq : call4_c_2 V = constantI S_ 32 0#32 := fin_nullary V 95 rfl (by decide +kernel)
/-- What `main_call4_v6` holds. -/
theorem call4_v6_eq : call4_v6 V = broadcastInDim S4096x1 ![] bcast_S_S4096x1 (call4_c_2 V) := fin_unary V 96 rfl (by decide +kernel)
/-- What `main_call4_v7` holds. -/
theorem call4_v7_eq : call4_v7 V = cmpi .sge (call4_v5 V) (call4_v6 V) := fin_binary V 97 rfl (by decide +kernel)
/-- What `main_call4_v8` holds. -/
theorem call4_v8_eq : call4_v8 V = broadcastInDim S1x1 ![1] bcast_S1_S1x1_1 (call4_c_1 V) := fin_unary V 98 rfl (by decide +kernel)
/-- What `main_call4_v9` holds. -/
theorem call4_v9_eq : call4_v9 V = broadcastInDim S4096x1 ![0, 1] bcast_S1x1_S4096x1_0_1 (call4_v8 V) := fin_unary V 99 rfl (by decide +kernel)
/-- What `main_call4_v10` holds. -/
theorem call4_v10_eq : call4_v10 V = cmpi .sle (call4_v5 V) (call4_v9 V) := fin_binary V 100 rfl (by decide +kernel)
/-- What `main_call4_v11` holds. -/
theorem call4_v11_eq : call4_v11 V = andi (call4_v7 V) (call4_v10 V) := fin_binary V 101 rfl (by decide +kernel)
/-- What `main_call4_c_3` holds. -/
theorem call4_c_3_eq : call4_c_3 V = constantI S_ 1 1#1 := fin_nullary V 102 rfl (by decide +kernel)
/-- What `main_call4_v12` holds. -/
theorem call4_v12_eq : call4_v12 V = Host.reduce IntOp.andi (call4_v11 V) (call4_c_3 V) reducesTo_S4096x1_S4096_d1 h_S_ := fin_binary V 103 rfl (by decide +kernel)
/-- What `main_call4_v13` holds. -/
theorem call4_v13_eq : call4_v13 V = Host.gather gather_S8192x32_S4096x1_S4096x32_1_0_n_n_0_1_132 (arg15 V) (call4_v5 V) := fin_binary V 104 rfl (by decide +kernel)
/-- What `main_call4_v14` holds. -/
theorem call4_v14_eq : call4_v14 V = broadcastInDim S4096x32 ![0] bcast_S4096_S4096x32_0 (call4_v12 V) := fin_unary V 105 rfl (by decide +kernel)
/-- What `main_call4_cst` holds. -/
theorem call4_cst_eq : call4_cst V = constant S_ .f32 0x7FC00000#32 := fin_nullary V 106 rfl (by decide +kernel)
/-- What `main_call4_v15` holds. -/
theorem call4_v15_eq : call4_v15 V = broadcastInDim S4096x32 ![] bcast_S_S4096x32 (call4_cst V) := fin_unary V 107 rfl (by decide +kernel)
/-- What `main_v48` holds. -/
theorem v48_eq : v48 V = select (call4_v14 V) (call4_v13 V) (call4_v15 V) := fin_ternary V 108 rfl (by decide +kernel)
/-- What `main_v49` holds. -/
theorem v49_eq : v49 V = subf (v31 V) (v48 V) := fin_binary V 109 rfl (by decide +kernel)
/-- What `main_v50` holds. -/
theorem v50_eq : v50 V = mulf (v49 V) (v49 V) := fin_binary V 110 rfl (by decide +kernel)
/-- What `main_cst_6` holds. -/
theorem cst_6_eq : cst_6 V = constant S_ .f32 0x00000000#32 := fin_nullary V 111 rfl (by decide +kernel)
/-- What `main_v51` holds. -/
theorem v51_eq : v51 V = Host.reduceAdd (v50 V) (cst_6 V) reducesTo_S4096x32_S4096_d1 h_S_ := fin_binary V 112 rfl (by decide +kernel)
/-- What `main_cst_7` holds. -/
theorem cst_7_eq : cst_7 V = constant S_ .f32 0x42000000#32 := fin_nullary V 113 rfl (by decide +kernel)
/-- What `main_v52` holds. -/
theorem v52_eq : v52 V = broadcastInDim S4096 ![] bcast_S_S4096 (cst_7 V) := fin_unary V 114 rfl (by decide +kernel)
/-- What `main_v53` holds. -/
theorem v53_eq : v53 V = Host.divf (v51 V) (v52 V) := fin_binary V 115 rfl (by decide +kernel)
/-- What `main_v54` holds. -/
theorem v54_eq : v54 V = subf (v31 V) (v48 V) := fin_binary V 116 rfl (by decide +kernel)
/-- What `main_v55` holds. -/
theorem v55_eq : v55 V = mulf (v54 V) (v54 V) := fin_binary V 117 rfl (by decide +kernel)
/-- What `main_cst_8` holds. -/
theorem cst_8_eq : cst_8 V = constant S_ .f32 0x00000000#32 := fin_nullary V 118 rfl (by decide +kernel)
/-- What `main_v56` holds. -/
theorem v56_eq : v56 V = Host.reduceAdd (v55 V) (cst_8 V) reducesTo_S4096x32_S4096_d1 h_S_ := fin_binary V 119 rfl (by decide +kernel)
/-- What `main_cst_9` holds. -/
theorem cst_9_eq : cst_9 V = constant S_ .f32 0x42000000#32 := fin_nullary V 120 rfl (by decide +kernel)
/-- What `main_v57` holds. -/
theorem v57_eq : v57 V = broadcastInDim S4096 ![] bcast_S_S4096 (cst_9 V) := fin_unary V 121 rfl (by decide +kernel)
/-- What `main_v58` holds. -/
theorem v58_eq : v58 V = Host.divf (v56 V) (v57 V) := fin_binary V 122 rfl (by decide +kernel)
/-- What `main_cst_10` holds. -/
theorem cst_10_eq : cst_10 V = constant S_ .f32 0x3E800000#32 := fin_nullary V 123 rfl (by decide +kernel)
/-- What `main_v59` holds. -/
theorem v59_eq : v59 V = broadcastInDim S4096 ![] bcast_S_S4096 (cst_10 V) := fin_unary V 124 rfl (by decide +kernel)
/-- What `main_v60` holds. -/
theorem v60_eq : v60 V = mulf (v59 V) (v58 V) := fin_binary V 125 rfl (by decide +kernel)
/-- What `main_v61` holds. -/
theorem v61_eq : v61 V = addf (v53 V) (v60 V) := fin_binary V 126 rfl (by decide +kernel)
/-- What `main_v62` holds. -/
theorem v62_eq : v62 V = subf (v48 V) (v31 V) := fin_binary V 127 rfl (by decide +kernel)
/-- What `main_v63` holds. -/
theorem v63_eq : v63 V = addf (v31 V) (v62 V) := fin_binary V 128 rfl (by decide +kernel)
/-- What `main_v64` holds. -/
theorem v64_eq : v64 V = subf (v31 V) (v63 V) := fin_binary V 129 rfl (by decide +kernel)
/-- What `main_v65` holds. -/
theorem v65_eq : v65 V = addf (v32 V) (v63 V) := fin_binary V 130 rfl (by decide +kernel)
/-- What `main_v66` holds. -/
theorem v66_eq : v66 V = mulf (v64 V) (v64 V) := fin_binary V 131 rfl (by decide +kernel)
/-- What `main_cst_11` holds. -/
theorem cst_11_eq : cst_11 V = constant S_ .f32 0x00000000#32 := fin_nullary V 132 rfl (by decide +kernel)
/-- What `main_v67` holds. -/
theorem v67_eq : v67 V = Host.reduceAdd (v66 V) (cst_11 V) reducesTo_S4096x32_S4096_d1 h_S_ := fin_binary V 133 rfl (by decide +kernel)
/-- What `main_v68` holds. -/
theorem v68_eq : v68 V = broadcastInDim S4096x1 ![0] bcast_S4096_S4096x1_0 (v67 V) := fin_unary V 134 rfl (by decide +kernel)
/-- What `main_v69` holds. -/
theorem v69_eq : v69 V = transpose S32x8192 [1, 0] (arg16 V) transposes_S8192x32_S32x8192_1_0 := fin_unary V 135 rfl (by decide +kernel)
/-- What `main_v70` holds. -/
theorem v70_eq : v70 V = Host.dotGeneral dot_S4096x32_S32x8192_S4096x8192_1_0_0_1_n_n none (v64 V) (v69 V) := fin_binary V 136 rfl (by decide +kernel)
/-- What `main_cst_12` holds. -/
theorem cst_12_eq : cst_12 V = constant S_ .f32 0x40000000#32 := fin_nullary V 137 rfl (by decide +kernel)
/-- What `main_v71` holds. -/
theorem v71_eq : v71 V = broadcastInDim S4096x8192 ![] bcast_S_S4096x8192 (cst_12 V) := fin_unary V 138 rfl (by decide +kernel)
/-- What `main_v72` holds. -/
theorem v72_eq : v72 V = mulf (v71 V) (v70 V) := fin_binary V 139 rfl (by decide +kernel)
/-- What `main_v73` holds. -/
theorem v73_eq : v73 V = broadcastInDim S4096x8192 ![0, 1] bcast_S4096x1_S4096x8192_0_1 (v68 V) := fin_unary V 140 rfl (by decide +kernel)
/-- What `main_v74` holds. -/
theorem v74_eq : v74 V = subf (v73 V) (v72 V) := fin_binary V 141 rfl (by decide +kernel)
/-- What `main_v75` holds. -/
theorem v75_eq : v75 V = mulf (arg16 V) (arg16 V) := fin_binary V 142 rfl (by decide +kernel)
/-- What `main_cst_13` holds. -/
theorem cst_13_eq : cst_13 V = constant S_ .f32 0x00000000#32 := fin_nullary V 143 rfl (by decide +kernel)
/-- What `main_v76` holds. -/
theorem v76_eq : v76 V = Host.reduceAdd (v75 V) (cst_13 V) reducesTo_S8192x32_S8192_d1 h_S_ := fin_binary V 144 rfl (by decide +kernel)
/-- What `main_v77` holds. -/
theorem v77_eq : v77 V = broadcastInDim S1x8192 ![1] bcast_S8192_S1x8192_1 (v76 V) := fin_unary V 145 rfl (by decide +kernel)
/-- What `main_v78` holds. -/
theorem v78_eq : v78 V = broadcastInDim S4096x8192 ![0, 1] bcast_S1x8192_S4096x8192_0_1 (v77 V) := fin_unary V 146 rfl (by decide +kernel)
/-- What `main_v79` holds. -/
theorem v79_eq : v79 V = addf (v74 V) (v78 V) := fin_binary V 147 rfl (by decide +kernel)
/-- What `main_call5_v0` holds. -/
theorem call5_v0_eq : call5_v0 V = iotaInDim S4096x8192 32 1 := fin_nullary V 148 rfl (by decide +kernel)
/-- What `main_call5_cst` holds. -/
theorem call5_cst_eq : call5_cst V = constant S_ .f32 0x7F800000#32 := fin_nullary V 149 rfl (by decide +kernel)
/-- What `main_call5_c` holds. -/
theorem call5_c_eq : call5_c V = constantI S_ 32 0#32 := fin_nullary V 150 rfl (by decide +kernel)
/-- What `main_call5_v1_0` holds. -/
theorem call5_v1_0_eq : call5_v1_0 V = fun j => (Host.argReduce reducer_argmin_f32_i32 (v79 V) (call5_v0 V) (call5_cst V) (call5_c V) reducesTo_S4096x8192_S4096_d1 h_S_ j).1 := fin_quaternary V 151 rfl (by decide +kernel)
/-- What `main_v80` holds. -/
theorem v80_eq : v80 V = fun j => (Host.argReduce reducer_argmin_f32_i32 (v79 V) (call5_v0 V) (call5_cst V) (call5_c V) reducesTo_S4096x8192_S4096_d1 h_S_ j).2 := fin_quaternary V 152 rfl (by decide +kernel)
/-- What `main_call6_c` holds. -/
theorem call6_c_eq : call6_c V = constantI S_ 32 0#32 := fin_nullary V 153 rfl (by decide +kernel)
/-- What `main_call6_v0` holds. -/
theorem call6_v0_eq : call6_v0 V = broadcastInDim S4096 ![] bcast_S_S4096 (call6_c V) := fin_unary V 154 rfl (by decide +kernel)
/-- What `main_call6_v1` holds. -/
theorem call6_v1_eq : call6_v1 V = cmpi .slt (v80 V) (call6_v0 V) := fin_binary V 155 rfl (by decide +kernel)
/-- What `main_call6_c_0` holds. -/
theorem call6_c_0_eq : call6_c_0 V = constantI S_ 32 8192#32 := fin_nullary V 156 rfl (by decide +kernel)
/-- What `main_call6_v2` holds. -/
theorem call6_v2_eq : call6_v2 V = broadcastInDim S4096 ![] bcast_S_S4096 (call6_c_0 V) := fin_unary V 157 rfl (by decide +kernel)
/-- What `main_call6_v3` holds. -/
theorem call6_v3_eq : call6_v3 V = addi (v80 V) (call6_v2 V) := fin_binary V 158 rfl (by decide +kernel)
/-- What `main_call6_v4` holds. -/
theorem call6_v4_eq : call6_v4 V = select (call6_v1 V) (call6_v3 V) (v80 V) := fin_ternary V 159 rfl (by decide +kernel)
/-- What `main_call6_v5` holds. -/
theorem call6_v5_eq : call6_v5 V = broadcastInDim S4096x1 ![0] bcast_S4096_S4096x1_0 (call6_v4 V) := fin_unary V 160 rfl (by decide +kernel)
/-- What `main_call6_c_1` holds. -/
theorem call6_c_1_eq : call6_c_1 V = constantI S1 32 8191#32 := fin_nullary V 161 rfl (by decide +kernel)
/-- What `main_call6_c_2` holds. -/
theorem call6_c_2_eq : call6_c_2 V = constantI S_ 32 0#32 := fin_nullary V 162 rfl (by decide +kernel)
/-- What `main_call6_v6` holds. -/
theorem call6_v6_eq : call6_v6 V = broadcastInDim S4096x1 ![] bcast_S_S4096x1 (call6_c_2 V) := fin_unary V 163 rfl (by decide +kernel)
/-- What `main_call6_v7` holds. -/
theorem call6_v7_eq : call6_v7 V = cmpi .sge (call6_v5 V) (call6_v6 V) := fin_binary V 164 rfl (by decide +kernel)
/-- What `main_call6_v8` holds. -/
theorem call6_v8_eq : call6_v8 V = broadcastInDim S1x1 ![1] bcast_S1_S1x1_1 (call6_c_1 V) := fin_unary V 165 rfl (by decide +kernel)
/-- What `main_call6_v9` holds. -/
theorem call6_v9_eq : call6_v9 V = broadcastInDim S4096x1 ![0, 1] bcast_S1x1_S4096x1_0_1 (call6_v8 V) := fin_unary V 166 rfl (by decide +kernel)
/-- What `main_call6_v10` holds. -/
theorem call6_v10_eq : call6_v10 V = cmpi .sle (call6_v5 V) (call6_v9 V) := fin_binary V 167 rfl (by decide +kernel)
/-- What `main_call6_v11` holds. -/
theorem call6_v11_eq : call6_v11 V = andi (call6_v7 V) (call6_v10 V) := fin_binary V 168 rfl (by decide +kernel)
/-- What `main_call6_c_3` holds. -/
theorem call6_c_3_eq : call6_c_3 V = constantI S_ 1 1#1 := fin_nullary V 169 rfl (by decide +kernel)
/-- What `main_call6_v12` holds. -/
theorem call6_v12_eq : call6_v12 V = Host.reduce IntOp.andi (call6_v11 V) (call6_c_3 V) reducesTo_S4096x1_S4096_d1 h_S_ := fin_binary V 170 rfl (by decide +kernel)
/-- What `main_call6_v13` holds. -/
theorem call6_v13_eq : call6_v13 V = Host.gather gather_S8192x32_S4096x1_S4096x32_1_0_n_n_0_1_132 (arg16 V) (call6_v5 V) := fin_binary V 171 rfl (by decide +kernel)
/-- What `main_call6_v14` holds. -/
theorem call6_v14_eq : call6_v14 V = broadcastInDim S4096x32 ![0] bcast_S4096_S4096x32_0 (call6_v12 V) := fin_unary V 172 rfl (by decide +kernel)
/-- What `main_call6_cst` holds. -/
theorem call6_cst_eq : call6_cst V = constant S_ .f32 0x7FC00000#32 := fin_nullary V 173 rfl (by decide +kernel)
/-- What `main_call6_v15` holds. -/
theorem call6_v15_eq : call6_v15 V = broadcastInDim S4096x32 ![] bcast_S_S4096x32 (call6_cst V) := fin_unary V 174 rfl (by decide +kernel)
/-- What `main_v81` holds. -/
theorem v81_eq : v81 V = select (call6_v14 V) (call6_v13 V) (call6_v15 V) := fin_ternary V 175 rfl (by decide +kernel)
/-- What `main_v82` holds. -/
theorem v82_eq : v82 V = subf (v64 V) (v81 V) := fin_binary V 176 rfl (by decide +kernel)
/-- What `main_v83` holds. -/
theorem v83_eq : v83 V = mulf (v82 V) (v82 V) := fin_binary V 177 rfl (by decide +kernel)
/-- What `main_cst_14` holds. -/
theorem cst_14_eq : cst_14 V = constant S_ .f32 0x00000000#32 := fin_nullary V 178 rfl (by decide +kernel)
/-- What `main_v84` holds. -/
theorem v84_eq : v84 V = Host.reduceAdd (v83 V) (cst_14 V) reducesTo_S4096x32_S4096_d1 h_S_ := fin_binary V 179 rfl (by decide +kernel)
/-- What `main_cst_15` holds. -/
theorem cst_15_eq : cst_15 V = constant S_ .f32 0x42000000#32 := fin_nullary V 180 rfl (by decide +kernel)
/-- What `main_v85` holds. -/
theorem v85_eq : v85 V = broadcastInDim S4096 ![] bcast_S_S4096 (cst_15 V) := fin_unary V 181 rfl (by decide +kernel)
/-- What `main_v86` holds. -/
theorem v86_eq : v86 V = Host.divf (v84 V) (v85 V) := fin_binary V 182 rfl (by decide +kernel)
/-- What `main_v87` holds. -/
theorem v87_eq : v87 V = subf (v64 V) (v81 V) := fin_binary V 183 rfl (by decide +kernel)
/-- What `main_v88` holds. -/
theorem v88_eq : v88 V = mulf (v87 V) (v87 V) := fin_binary V 184 rfl (by decide +kernel)
/-- What `main_cst_16` holds. -/
theorem cst_16_eq : cst_16 V = constant S_ .f32 0x00000000#32 := fin_nullary V 185 rfl (by decide +kernel)
/-- What `main_v89` holds. -/
theorem v89_eq : v89 V = Host.reduceAdd (v88 V) (cst_16 V) reducesTo_S4096x32_S4096_d1 h_S_ := fin_binary V 186 rfl (by decide +kernel)
/-- What `main_cst_17` holds. -/
theorem cst_17_eq : cst_17 V = constant S_ .f32 0x42000000#32 := fin_nullary V 187 rfl (by decide +kernel)
/-- What `main_v90` holds. -/
theorem v90_eq : v90 V = broadcastInDim S4096 ![] bcast_S_S4096 (cst_17 V) := fin_unary V 188 rfl (by decide +kernel)
/-- What `main_v91` holds. -/
theorem v91_eq : v91 V = Host.divf (v89 V) (v90 V) := fin_binary V 189 rfl (by decide +kernel)
/-- What `main_cst_18` holds. -/
theorem cst_18_eq : cst_18 V = constant S_ .f32 0x3E800000#32 := fin_nullary V 190 rfl (by decide +kernel)
/-- What `main_v92` holds. -/
theorem v92_eq : v92 V = broadcastInDim S4096 ![] bcast_S_S4096 (cst_18 V) := fin_unary V 191 rfl (by decide +kernel)
/-- What `main_v93` holds. -/
theorem v93_eq : v93 V = mulf (v92 V) (v91 V) := fin_binary V 192 rfl (by decide +kernel)
/-- What `main_v94` holds. -/
theorem v94_eq : v94 V = addf (v86 V) (v93 V) := fin_binary V 193 rfl (by decide +kernel)
/-- What `main_v95` holds. -/
theorem v95_eq : v95 V = subf (v81 V) (v64 V) := fin_binary V 194 rfl (by decide +kernel)
/-- What `main_v96` holds. -/
theorem v96_eq : v96 V = addf (v64 V) (v95 V) := fin_binary V 195 rfl (by decide +kernel)
/-- What `main_v97` holds. -/
theorem v97_eq : v97 V = subf (v64 V) (v96 V) := fin_binary V 196 rfl (by decide +kernel)
/-- What `main_v98` holds. -/
theorem v98_eq : v98 V = addf (v65 V) (v96 V) := fin_binary V 197 rfl (by decide +kernel)
/-- What `main_v99` holds. -/
theorem v99_eq : v99 V = mulf (v97 V) (v97 V) := fin_binary V 198 rfl (by decide +kernel)
/-- What `main_cst_19` holds. -/
theorem cst_19_eq : cst_19 V = constant S_ .f32 0x00000000#32 := fin_nullary V 199 rfl (by decide +kernel)
/-- What `main_v100` holds. -/
theorem v100_eq : v100 V = Host.reduceAdd (v99 V) (cst_19 V) reducesTo_S4096x32_S4096_d1 h_S_ := fin_binary V 200 rfl (by decide +kernel)
/-- What `main_v101` holds. -/
theorem v101_eq : v101 V = broadcastInDim S4096x1 ![0] bcast_S4096_S4096x1_0 (v100 V) := fin_unary V 201 rfl (by decide +kernel)
/-- What `main_v102` holds. -/
theorem v102_eq : v102 V = transpose S32x8192 [1, 0] (arg17 V) transposes_S8192x32_S32x8192_1_0 := fin_unary V 202 rfl (by decide +kernel)
/-- What `main_v103` holds. -/
theorem v103_eq : v103 V = Host.dotGeneral dot_S4096x32_S32x8192_S4096x8192_1_0_0_1_n_n none (v97 V) (v102 V) := fin_binary V 203 rfl (by decide +kernel)
/-- What `main_cst_20` holds. -/
theorem cst_20_eq : cst_20 V = constant S_ .f32 0x40000000#32 := fin_nullary V 204 rfl (by decide +kernel)
/-- What `main_v104` holds. -/
theorem v104_eq : v104 V = broadcastInDim S4096x8192 ![] bcast_S_S4096x8192 (cst_20 V) := fin_unary V 205 rfl (by decide +kernel)
/-- What `main_v105` holds. -/
theorem v105_eq : v105 V = mulf (v104 V) (v103 V) := fin_binary V 206 rfl (by decide +kernel)
/-- What `main_v106` holds. -/
theorem v106_eq : v106 V = broadcastInDim S4096x8192 ![0, 1] bcast_S4096x1_S4096x8192_0_1 (v101 V) := fin_unary V 207 rfl (by decide +kernel)
/-- What `main_v107` holds. -/
theorem v107_eq : v107 V = subf (v106 V) (v105 V) := fin_binary V 208 rfl (by decide +kernel)
/-- What `main_v108` holds. -/
theorem v108_eq : v108 V = mulf (arg17 V) (arg17 V) := fin_binary V 209 rfl (by decide +kernel)
/-- What `main_cst_21` holds. -/
theorem cst_21_eq : cst_21 V = constant S_ .f32 0x00000000#32 := fin_nullary V 210 rfl (by decide +kernel)
/-- What `main_v109` holds. -/
theorem v109_eq : v109 V = Host.reduceAdd (v108 V) (cst_21 V) reducesTo_S8192x32_S8192_d1 h_S_ := fin_binary V 211 rfl (by decide +kernel)
/-- What `main_v110` holds. -/
theorem v110_eq : v110 V = broadcastInDim S1x8192 ![1] bcast_S8192_S1x8192_1 (v109 V) := fin_unary V 212 rfl (by decide +kernel)
/-- What `main_v111` holds. -/
theorem v111_eq : v111 V = broadcastInDim S4096x8192 ![0, 1] bcast_S1x8192_S4096x8192_0_1 (v110 V) := fin_unary V 213 rfl (by decide +kernel)
/-- What `main_v112` holds. -/
theorem v112_eq : v112 V = addf (v107 V) (v111 V) := fin_binary V 214 rfl (by decide +kernel)
/-- What `main_call7_v0` holds. -/
theorem call7_v0_eq : call7_v0 V = iotaInDim S4096x8192 32 1 := fin_nullary V 215 rfl (by decide +kernel)
/-- What `main_call7_cst` holds. -/
theorem call7_cst_eq : call7_cst V = constant S_ .f32 0x7F800000#32 := fin_nullary V 216 rfl (by decide +kernel)
/-- What `main_call7_c` holds. -/
theorem call7_c_eq : call7_c V = constantI S_ 32 0#32 := fin_nullary V 217 rfl (by decide +kernel)
/-- What `main_call7_v1_0` holds. -/
theorem call7_v1_0_eq : call7_v1_0 V = fun j => (Host.argReduce reducer_argmin_f32_i32 (v112 V) (call7_v0 V) (call7_cst V) (call7_c V) reducesTo_S4096x8192_S4096_d1 h_S_ j).1 := fin_quaternary V 218 rfl (by decide +kernel)
/-- What `main_v113` holds. -/
theorem v113_eq : v113 V = fun j => (Host.argReduce reducer_argmin_f32_i32 (v112 V) (call7_v0 V) (call7_cst V) (call7_c V) reducesTo_S4096x8192_S4096_d1 h_S_ j).2 := fin_quaternary V 219 rfl (by decide +kernel)
/-- What `main_call8_c` holds. -/
theorem call8_c_eq : call8_c V = constantI S_ 32 0#32 := fin_nullary V 220 rfl (by decide +kernel)
/-- What `main_call8_v0` holds. -/
theorem call8_v0_eq : call8_v0 V = broadcastInDim S4096 ![] bcast_S_S4096 (call8_c V) := fin_unary V 221 rfl (by decide +kernel)
/-- What `main_call8_v1` holds. -/
theorem call8_v1_eq : call8_v1 V = cmpi .slt (v113 V) (call8_v0 V) := fin_binary V 222 rfl (by decide +kernel)
/-- What `main_call8_c_0` holds. -/
theorem call8_c_0_eq : call8_c_0 V = constantI S_ 32 8192#32 := fin_nullary V 223 rfl (by decide +kernel)
/-- What `main_call8_v2` holds. -/
theorem call8_v2_eq : call8_v2 V = broadcastInDim S4096 ![] bcast_S_S4096 (call8_c_0 V) := fin_unary V 224 rfl (by decide +kernel)
/-- What `main_call8_v3` holds. -/
theorem call8_v3_eq : call8_v3 V = addi (v113 V) (call8_v2 V) := fin_binary V 225 rfl (by decide +kernel)
/-- What `main_call8_v4` holds. -/
theorem call8_v4_eq : call8_v4 V = select (call8_v1 V) (call8_v3 V) (v113 V) := fin_ternary V 226 rfl (by decide +kernel)
/-- What `main_call8_v5` holds. -/
theorem call8_v5_eq : call8_v5 V = broadcastInDim S4096x1 ![0] bcast_S4096_S4096x1_0 (call8_v4 V) := fin_unary V 227 rfl (by decide +kernel)
/-- What `main_call8_c_1` holds. -/
theorem call8_c_1_eq : call8_c_1 V = constantI S1 32 8191#32 := fin_nullary V 228 rfl (by decide +kernel)
/-- What `main_call8_c_2` holds. -/
theorem call8_c_2_eq : call8_c_2 V = constantI S_ 32 0#32 := fin_nullary V 229 rfl (by decide +kernel)
/-- What `main_call8_v6` holds. -/
theorem call8_v6_eq : call8_v6 V = broadcastInDim S4096x1 ![] bcast_S_S4096x1 (call8_c_2 V) := fin_unary V 230 rfl (by decide +kernel)
/-- What `main_call8_v7` holds. -/
theorem call8_v7_eq : call8_v7 V = cmpi .sge (call8_v5 V) (call8_v6 V) := fin_binary V 231 rfl (by decide +kernel)
/-- What `main_call8_v8` holds. -/
theorem call8_v8_eq : call8_v8 V = broadcastInDim S1x1 ![1] bcast_S1_S1x1_1 (call8_c_1 V) := fin_unary V 232 rfl (by decide +kernel)
/-- What `main_call8_v9` holds. -/
theorem call8_v9_eq : call8_v9 V = broadcastInDim S4096x1 ![0, 1] bcast_S1x1_S4096x1_0_1 (call8_v8 V) := fin_unary V 233 rfl (by decide +kernel)
/-- What `main_call8_v10` holds. -/
theorem call8_v10_eq : call8_v10 V = cmpi .sle (call8_v5 V) (call8_v9 V) := fin_binary V 234 rfl (by decide +kernel)
/-- What `main_call8_v11` holds. -/
theorem call8_v11_eq : call8_v11 V = andi (call8_v7 V) (call8_v10 V) := fin_binary V 235 rfl (by decide +kernel)
/-- What `main_call8_c_3` holds. -/
theorem call8_c_3_eq : call8_c_3 V = constantI S_ 1 1#1 := fin_nullary V 236 rfl (by decide +kernel)
/-- What `main_call8_v12` holds. -/
theorem call8_v12_eq : call8_v12 V = Host.reduce IntOp.andi (call8_v11 V) (call8_c_3 V) reducesTo_S4096x1_S4096_d1 h_S_ := fin_binary V 237 rfl (by decide +kernel)
/-- What `main_call8_v13` holds. -/
theorem call8_v13_eq : call8_v13 V = Host.gather gather_S8192x32_S4096x1_S4096x32_1_0_n_n_0_1_132 (arg17 V) (call8_v5 V) := fin_binary V 238 rfl (by decide +kernel)
/-- What `main_call8_v14` holds. -/
theorem call8_v14_eq : call8_v14 V = broadcastInDim S4096x32 ![0] bcast_S4096_S4096x32_0 (call8_v12 V) := fin_unary V 239 rfl (by decide +kernel)
/-- What `main_call8_cst` holds. -/
theorem call8_cst_eq : call8_cst V = constant S_ .f32 0x7FC00000#32 := fin_nullary V 240 rfl (by decide +kernel)
/-- What `main_call8_v15` holds. -/
theorem call8_v15_eq : call8_v15 V = broadcastInDim S4096x32 ![] bcast_S_S4096x32 (call8_cst V) := fin_unary V 241 rfl (by decide +kernel)
/-- What `main_v114` holds. -/
theorem v114_eq : v114 V = select (call8_v14 V) (call8_v13 V) (call8_v15 V) := fin_ternary V 242 rfl (by decide +kernel)
/-- What `main_v115` holds. -/
theorem v115_eq : v115 V = subf (v97 V) (v114 V) := fin_binary V 243 rfl (by decide +kernel)
/-- What `main_v116` holds. -/
theorem v116_eq : v116 V = mulf (v115 V) (v115 V) := fin_binary V 244 rfl (by decide +kernel)
/-- What `main_cst_22` holds. -/
theorem cst_22_eq : cst_22 V = constant S_ .f32 0x00000000#32 := fin_nullary V 245 rfl (by decide +kernel)
/-- What `main_v117` holds. -/
theorem v117_eq : v117 V = Host.reduceAdd (v116 V) (cst_22 V) reducesTo_S4096x32_S4096_d1 h_S_ := fin_binary V 246 rfl (by decide +kernel)
/-- What `main_cst_23` holds. -/
theorem cst_23_eq : cst_23 V = constant S_ .f32 0x42000000#32 := fin_nullary V 247 rfl (by decide +kernel)
/-- What `main_v118` holds. -/
theorem v118_eq : v118 V = broadcastInDim S4096 ![] bcast_S_S4096 (cst_23 V) := fin_unary V 248 rfl (by decide +kernel)
/-- What `main_v119` holds. -/
theorem v119_eq : v119 V = Host.divf (v117 V) (v118 V) := fin_binary V 249 rfl (by decide +kernel)
/-- What `main_v120` holds. -/
theorem v120_eq : v120 V = subf (v97 V) (v114 V) := fin_binary V 250 rfl (by decide +kernel)
/-- What `main_v121` holds. -/
theorem v121_eq : v121 V = mulf (v120 V) (v120 V) := fin_binary V 251 rfl (by decide +kernel)
/-- What `main_cst_24` holds. -/
theorem cst_24_eq : cst_24 V = constant S_ .f32 0x00000000#32 := fin_nullary V 252 rfl (by decide +kernel)
/-- What `main_v122` holds. -/
theorem v122_eq : v122 V = Host.reduceAdd (v121 V) (cst_24 V) reducesTo_S4096x32_S4096_d1 h_S_ := fin_binary V 253 rfl (by decide +kernel)
/-- What `main_cst_25` holds. -/
theorem cst_25_eq : cst_25 V = constant S_ .f32 0x42000000#32 := fin_nullary V 254 rfl (by decide +kernel)
/-- What `main_v123` holds. -/
theorem v123_eq : v123 V = broadcastInDim S4096 ![] bcast_S_S4096 (cst_25 V) := fin_unary V 255 rfl (by decide +kernel)
/-- What `main_v124` holds. -/
theorem v124_eq : v124 V = Host.divf (v122 V) (v123 V) := fin_binary V 256 rfl (by decide +kernel)
/-- What `main_cst_26` holds. -/
theorem cst_26_eq : cst_26 V = constant S_ .f32 0x3E800000#32 := fin_nullary V 257 rfl (by decide +kernel)
/-- What `main_v125` holds. -/
theorem v125_eq : v125 V = broadcastInDim S4096 ![] bcast_S_S4096 (cst_26 V) := fin_unary V 258 rfl (by decide +kernel)
/-- What `main_v126` holds. -/
theorem v126_eq : v126 V = mulf (v125 V) (v124 V) := fin_binary V 259 rfl (by decide +kernel)
/-- What `main_v127` holds. -/
theorem v127_eq : v127 V = addf (v119 V) (v126 V) := fin_binary V 260 rfl (by decide +kernel)
/-- What `main_v128` holds. -/
theorem v128_eq : v128 V = subf (v114 V) (v97 V) := fin_binary V 261 rfl (by decide +kernel)
/-- What `main_v129` holds. -/
theorem v129_eq : v129 V = addf (v97 V) (v128 V) := fin_binary V 262 rfl (by decide +kernel)
/-- What `main_v130` holds. -/
theorem v130_eq : v130 V = subf (v97 V) (v129 V) := fin_binary V 263 rfl (by decide +kernel)
/-- What `main_v131` holds. -/
theorem v131_eq : v131 V = addf (v98 V) (v129 V) := fin_binary V 264 rfl (by decide +kernel)
/-- What `main_v132` holds. -/
theorem v132_eq : v132 V = Host.dotGeneral dot_S4096x32_S32x256_S4096x256_1_0_0_1_n_n none (v131 V) (arg7 V) := fin_binary V 265 rfl (by decide +kernel)
/-- What `main_v133` holds. -/
theorem v133_eq : v133 V = broadcastInDim S1x256 ![1] bcast_S256_S1x256_1 (arg8 V) := fin_unary V 266 rfl (by decide +kernel)
/-- What `main_v134` holds. -/
theorem v134_eq : v134 V = broadcastInDim S4096x256 ![0, 1] bcast_S1x256_S4096x256_0_1 (v133 V) := fin_unary V 267 rfl (by decide +kernel)
/-- What `main_v135` holds. -/
theorem v135_eq : v135 V = addf (v132 V) (v134 V) := fin_binary V 268 rfl (by decide +kernel)
/-- What `main_call9_cst` holds. -/
theorem call9_cst_eq : call9_cst V = constant S_ .f32 0x00000000#32 := fin_nullary V 269 rfl (by decide +kernel)
/-- What `main_call9_v0` holds. -/
theorem call9_v0_eq : call9_v0 V = broadcastInDim S4096x256 ![] bcast_S_S4096x256 (call9_cst V) := fin_unary V 270 rfl (by decide +kernel)
/-- What `main_v136` holds. -/
theorem v136_eq : v136 V = maximumf (v135 V) (call9_v0 V) := fin_binary V 271 rfl (by decide +kernel)
/-- What `main_v137` holds. -/
theorem v137_eq : v137 V = Host.dotGeneral dot_S4096x256_S256x512_S4096x512_1_0_0_1_n_n none (v136 V) (arg9 V) := fin_binary V 272 rfl (by decide +kernel)
/-- What `main_v138` holds. -/
theorem v138_eq : v138 V = broadcastInDim S1x512 ![1] bcast_S512_S1x512_1 (arg10 V) := fin_unary V 273 rfl (by decide +kernel)
/-- What `main_v139` holds. -/
theorem v139_eq : v139 V = broadcastInDim S4096x512 ![0, 1] bcast_S1x512_S4096x512_0_1 (v138 V) := fin_unary V 274 rfl (by decide +kernel)
/-- What `main_v140` holds. -/
theorem v140_eq : v140 V = addf (v137 V) (v139 V) := fin_binary V 275 rfl (by decide +kernel)
/-- What `main_call10_cst` holds. -/
theorem call10_cst_eq : call10_cst V = constant S_ .f32 0x00000000#32 := fin_nullary V 276 rfl (by decide +kernel)
/-- What `main_call10_v0` holds. -/
theorem call10_v0_eq : call10_v0 V = broadcastInDim S4096x512 ![] bcast_S_S4096x512 (call10_cst V) := fin_unary V 277 rfl (by decide +kernel)
/-- What `main_v141` holds. -/
theorem v141_eq : v141 V = maximumf (v140 V) (call10_v0 V) := fin_binary V 278 rfl (by decide +kernel)
/-- What `main_v142` holds. -/
theorem v142_eq : v142 V = Host.dotGeneral dot_S4096x512_S512x768_S4096x768_1_0_0_1_n_n none (v141 V) (arg11 V) := fin_binary V 279 rfl (by decide +kernel)
/-- What `main_v143` holds. -/
theorem v143_eq : v143 V = broadcastInDim S1x768 ![1] bcast_S768_S1x768_1 (arg12 V) := fin_unary V 280 rfl (by decide +kernel)
/-- What `main_v144` holds. -/
theorem v144_eq : v144 V = broadcastInDim S4096x768 ![0, 1] bcast_S1x768_S4096x768_0_1 (v143 V) := fin_unary V 281 rfl (by decide +kernel)
/-- What `main_v145` holds. -/
theorem v145_eq : v145 V = addf (v142 V) (v144 V) := fin_binary V 282 rfl (by decide +kernel)
/-- What `main_v146` holds. -/
theorem v146_eq : v146 V = subf (v145 V) (arg0 V) := fin_binary V 283 rfl (by decide +kernel)
/-- What `main_v147` holds. -/
theorem v147_eq : v147 V = mulf (v146 V) (v146 V) := fin_binary V 284 rfl (by decide +kernel)
/-- What `main_cst_27` holds. -/
theorem cst_27_eq : cst_27 V = constant S_ .f32 0x00000000#32 := fin_nullary V 285 rfl (by decide +kernel)
/-- What `main_v148` holds. -/
theorem v148_eq : v148 V = Host.reduceAdd (v147 V) (cst_27 V) reducesTo_S4096x768_S4096_d1 h_S_ := fin_binary V 286 rfl (by decide +kernel)
/-- What `main_cst_28` holds. -/
theorem cst_28_eq : cst_28 V = constant S_ .f32 0x44400000#32 := fin_nullary V 287 rfl (by decide +kernel)
/-- What `main_v149` holds. -/
theorem v149_eq : v149 V = broadcastInDim S4096 ![] bcast_S_S4096 (cst_28 V) := fin_unary V 288 rfl (by decide +kernel)
/-- What `main_v150` holds. -/
theorem v150_eq : v150 V = Host.divf (v148 V) (v149 V) := fin_binary V 289 rfl (by decide +kernel)
/-- What `main_v151` holds. -/
theorem v151_eq : v151 V = broadcastInDim S4096x1 ![0] bcast_S4096_S4096x1_0 (v61 V) := fin_unary V 290 rfl (by decide +kernel)
/-- What `main_v152` holds. -/
theorem v152_eq : v152 V = broadcastInDim S4096x1 ![0] bcast_S4096_S4096x1_0 (v94 V) := fin_unary V 291 rfl (by decide +kernel)
/-- What `main_v153` holds. -/
theorem v153_eq : v153 V = broadcastInDim S4096x1 ![0] bcast_S4096_S4096x1_0 (v127 V) := fin_unary V 292 rfl (by decide +kernel)
/-- What `main_v154` holds. -/
theorem v154_eq : v154 V = concatenate S4096x3 1 [⟨S4096x1, ((v151 V) : (⟨S4096x1, .f32⟩ : BufTy).Contents (Elt F))⟩, ⟨S4096x1, ((v152 V) : (⟨S4096x1, .f32⟩ : BufTy).Contents (Elt F))⟩, ⟨S4096x1, ((v153 V) : (⟨S4096x1, .f32⟩ : BufTy).Contents (Elt F))⟩] concatenates_S4096x1_S4096x1_S4096x1_S4096x3_d1 := fin_nary V 293 rfl (by decide +kernel)
/-- What `main_cst_29` holds. -/
theorem cst_29_eq : cst_29 V = constant S_ .f32 0x00000000#32 := fin_nullary V 294 rfl (by decide +kernel)
/-- What `main_v155` holds. -/
theorem v155_eq : v155 V = Host.reduceAdd (v154 V) (cst_29 V) reducesTo_S4096x3_S4096_d1 h_S_ := fin_binary V 295 rfl (by decide +kernel)
/-- What `main_v156` holds. -/
theorem v156_eq : v156 V = addf (v155 V) (v150 V) := fin_binary V 296 rfl (by decide +kernel)
/-- What `main_v157` holds. -/
theorem v157_eq : v157 V = broadcastInDim S4096x1 ![0] bcast_S4096_S4096x1_0 (v47 V) := fin_unary V 297 rfl (by decide +kernel)
/-- What `main_v158` holds. -/
theorem v158_eq : v158 V = broadcastInDim S4096x1 ![0] bcast_S4096_S4096x1_0 (v80 V) := fin_unary V 298 rfl (by decide +kernel)
/-- What `main_v159` holds. -/
theorem v159_eq : v159 V = broadcastInDim S4096x1 ![0] bcast_S4096_S4096x1_0 (v113 V) := fin_unary V 299 rfl (by decide +kernel)
/-- What `main_v160` holds. -/
theorem v160_eq : v160 V = concatenate S4096x3 1 [⟨S4096x1, ((v157 V) : (⟨S4096x1, .i32⟩ : BufTy).Contents (Elt F))⟩, ⟨S4096x1, ((v158 V) : (⟨S4096x1, .i32⟩ : BufTy).Contents (Elt F))⟩, ⟨S4096x1, ((v159 V) : (⟨S4096x1, .i32⟩ : BufTy).Contents (Elt F))⟩] concatenates_S4096x1_S4096x1_S4096x1_S4096x3_d1 := fin_nary V 300 rfl (by decide +kernel)

end Cert.ReferenceIdeal.RefRun
-- ==== Proof.Frames.lean ====
/- What every run keeps: the arguments, and the counters at zero, for the kernel as printed, the kernel idealized and the reference. -/
module

public import proofs.«01_k».proof.Defs
public import proofs.«01_k».proof.Proof.Gen.Kernel
public import proofs.«01_k».proof.Proof.Gen.Pre_finite_and_no_tie
public import proofs.«01_k».proof.Proof.Run
public import proofs.«01_k».proof.Proof.RefEqs
public import Idealize.ShloMosaic.Lib.Quiescent

@[expose] public section

set_option maxRecDepth 65536
set_option maxHeartbeats 2000000

noncomputable section

namespace Cert.Frames

open Idealize.ShloMosaic Idealize.SL.Sem

variable {F : FTy → Type} [FloatOps F]

/-! ## The kernel as printed and the kernel idealized are the same text -/

/-- The two programs' bodies agree. -/
theorem defs₀_same : (@Cert.Kernel.defs₀ F _ Cert.Kernel.Gen.facts) = (@Cert.KernelIdeal.defs₀ F _ Cert.KernelIdeal.Gen.facts) := by
  refine congrArg Defs.onTc (funext fun l => funext fun a => ?_)
  match l, a with
  | 0, (t, s) => rfl

/-- The two programs' definitions agree. -/
theorem defs_same : (@Cert.Kernel.defs F _ Cert.Kernel.Gen.facts) = (@Cert.KernelIdeal.defs F _ Cert.KernelIdeal.Gen.facts) :=
  congrArg (Pipeline.defs (Cert.KernelIdeal.pcfgs (F := F))) defs₀_same

/-- The two programs' @main agree. -/
theorem main_same : (@Cert.Kernel.main F _) = (@Cert.KernelIdeal.main F _) := rfl

/-! ## The claims of what a run keeps -/

/-- The kernel as printed. -/
theorem kernel : Cert.quiescent_Kernel (hKernel := Cert.Kernel.Gen.facts) := fun m g _ => by
  rw [defs_same]
  exact Cert.KernelIdeal.Body.quiet (F := Bits) m g

/-- The kernel idealized. -/
theorem kernelIdeal : Cert.quiescent_KernelIdeal (hKernelIdeal := Cert.KernelIdeal.Gen.facts)
    (hPre_finite_and_no_tie := Cert.Pre_finite_and_no_tie.Gen.facts) := fun m g _ =>
  Cert.KernelIdeal.Body.quiet (F := Ideal) m g

section
open Cert.ReferenceIdeal Cert.ReferenceIdeal.Gen Cert.ReferenceIdeal.RefRun Idealize.ShloMosaic.StableHlo

/-- The reference's arguments are as the run found them. -/
abbrev RefKept (m m' : (ℓ : Loc nD τ sig) → Buf (Elt F) ℓ) : Prop := ∀ c : Dev nD,
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)
  ∧ m' ((c.tc : Thread nD τ).loc main_arg14) = m ((c.tc : Thread nD τ).loc main_arg14)
  ∧ m' ((c.tc : Thread nD τ).loc main_arg15) = m ((c.tc : Thread nD τ).loc main_arg15)
  ∧ m' ((c.tc : Thread nD τ).loc main_arg16) = m ((c.tc : Thread nD τ).loc main_arg16)
  ∧ m' ((c.tc : Thread nD τ).loc main_arg17) = m ((c.tc : Thread nD τ).loc main_arg17)

/-- The reference writes none of its arguments. -/
theorem refKept (m : (ℓ : Loc nD τ sig) → Buf (Elt F) ℓ) {r : PUnit × MemSt nD τ sig (Elt F)}
    (h : ∀ (d : Dev nD) (b : Ref sig .tc), r.2.mem ((d.tc : Thread nD τ).loc b) = fin (launchContents m d) b) : RefKept m r.2.mem := fun c =>
  ⟨(h c main_arg0).trans (arg0_eq (launchContents m c)),
    (h c main_arg1).trans (arg1_eq (launchContents m c)),
    (h c main_arg2).trans (arg2_eq (launchContents m c)),
    (h c main_arg3).trans (arg3_eq (launchContents m c)),
    (h c main_arg4).trans (arg4_eq (launchContents m c)),
    (h c main_arg5).trans (arg5_eq (launchContents m c)),
    (h c main_arg6).trans (arg6_eq (launchContents m c)),
    (h c main_arg7).trans (arg7_eq (launchContents m c)),
    (h c main_arg8).trans (arg8_eq (launchContents m c)),
    (h c main_arg9).trans (arg9_eq (launchContents m c)),
    (h c main_arg10).trans (arg10_eq (launchContents m c)),
    (h c main_arg11).trans (arg11_eq (launchContents m c)),
    (h c main_arg12).trans (arg12_eq (launchContents m c)),
    (h c main_arg13).trans (arg13_eq (launchContents m c)),
    (h c main_arg14).trans (arg14_eq (launchContents m c)),
    (h c main_arg15).trans (arg15_eq (launchContents m c)),
    (h c main_arg16).trans (arg16_eq (launchContents m c)),
    (h c main_arg17).trans (arg17_eq (launchContents m c))⟩

/-- The reference's run keeps its arguments; it has no counter. -/
theorem refQuiet (m : (ℓ : Loc nD τ sig) → Buf (Elt F) ℓ) (ρ : Dev nD → PrngReg) :
    θ_run defs (onTc (τ := τ) (main (F := F))) ⟨m, fun _ => 0, ρ⟩ fun r => RefKept m r.2.mem ∧ r.2.sem = fun _ => 0 :=
  (θ_run defs _ _).mono (fun r h => ⟨refKept m h, sem_eq_zero_of_no_sems rfl r.2⟩) (run m ρ)
end

/-- The reference. -/
theorem referenceIdeal : Cert.quiescent_ReferenceIdeal (hReferenceIdeal := Cert.ReferenceIdeal.Gen.facts) := fun m g _ =>
  refQuiet (F := Ideal) m g

end Cert.Frames

end
-- ==== Proof.Spec.lean ====
/- The mathematics of the residual quantiser on one row: the encoder, the layer norm, the nearest codeword, the loss and
   the decoder, as functions of a row of extended reals, with the algebra that the two programs' readings need. -/
module

public import Idealize.ShloMosaic.Lib.Pointwise
public import Idealize.ShloMosaic.PureOps.Ideal.Laws
public import Idealize.ShloMosaic.Lib.IdealHost

@[expose] public section

noncomputable section

namespace Cert.Rq

open Idealize.ShloMosaic

/-! ## The row functions -/

/-- 32, the width of the latent, as the programs spell it. -/
abbrev c32 : EReal := Ideal.ofBits .f32 0x42000000#32
/-- The layer norm's small constant. -/
abbrev ceps : EReal := Ideal.ofBits .f32 0x3727C5AC#32

/-- A linear layer with a bias. -/
def lin {m n : ℕ} (x : Fin m → EReal) (W : Fin m → Fin n → EReal) (b : Fin n → EReal) : Fin n → EReal :=
  fun j => (∑ k, x k * W k j) + b j
/-- The positive part, entry by entry. -/
def relu {n : ℕ} (x : Fin n → EReal) : Fin n → EReal := fun j => max (x j) 0
/-- Three linear layers with the positive part after the first two. -/
def mlp {a b c d : ℕ} (x : Fin a → EReal) (W0 : Fin a → Fin b → EReal) (b0 : Fin b → EReal) (W1 : Fin b → Fin c → EReal)
    (b1 : Fin c → EReal) (W2 : Fin c → Fin d → EReal) (b2 : Fin d → EReal) : Fin d → EReal :=
  lin (relu (lin (relu (lin x W0 b0)) W1 b1)) W2 b2
/-- A row of the latent less its mean. -/
def center (h : Fin 32 → EReal) : Fin 32 → EReal := fun j => h j - Ideal.div (∑ k, h k) c32
/-- A centred row over its standard deviation, scaled and shifted. -/
def norm (zc g b : Fin 32 → EReal) : Fin 32 → EReal :=
  fun j => Ideal.div (zc j) (Ideal.sqrt (Ideal.div (∑ k, zc k * zc k) c32 + ceps)) * g j + b j
/-- The squared distances of a row to the codewords, as the reference expands them. -/
def dist (r : Fin 32 → EReal) (cb : Fin 8192 → Fin 32 → EReal) : Fin 8192 → EReal :=
  fun k => ((∑ j, r j * r j) - Ideal.ofBits .f32 0x40000000#32 * ∑ j, r j * cb k j) + ∑ j, cb k j * cb k j
/-- The mean squared difference of two rows. -/
def mse (r q : Fin 32 → EReal) : EReal := Ideal.div (∑ j, (r j - q j) * (r j - q j)) c32

/-- `k` is the first place at which `d` is least. -/
def Best {n : ℕ} (d : Fin n → EReal) (k : Fin n) : Prop := (∀ l, d k ≤ d l) ∧ ∀ l, l < k → d k < d l

/-- There is a first least place. -/
theorem exists_best {n : ℕ} [NeZero n] (d : Fin n → EReal) : ∃ k, Best d k := by
  classical
  obtain ⟨k0, -, h0⟩ := Finset.exists_min_image Finset.univ d ⟨0, Finset.mem_univ _⟩
  let S := Finset.univ.filter fun k => ∀ l, d k ≤ d l
  have hS : S.Nonempty := ⟨k0, Finset.mem_filter.2 ⟨Finset.mem_univ _, fun l => h0 l (Finset.mem_univ _)⟩⟩
  have hk := (Finset.mem_filter.1 (S.min'_mem hS)).2
  refine ⟨S.min' hS, hk, fun l hl => ?_⟩
  by_contra hlt
  have : l ∈ S := Finset.mem_filter.2 ⟨Finset.mem_univ _, fun l' => le_trans (not_lt.1 hlt) (hk l')⟩
  exact absurd (S.min'_le l this) (not_le.2 hl)

/-- The first least place is one. -/
theorem Best.unique {n : ℕ} {d : Fin n → EReal} {k l : Fin n} (hk : Best d k) (hl : Best d l) : k = l := by
  rcases lt_trichotomy k l with h | h | h
  · exact absurd (hl.2 k h) (not_lt.2 (hk.1 l))
  · exact h
  · exact absurd (hk.2 l h) (not_lt.2 (hl.1 k))

/-- The first place at which `d` is least. -/
def nearest {n : ℕ} [NeZero n] (d : Fin n → EReal) : Fin n := Classical.choose (exists_best d)
/-- It is one. -/
theorem nearest_best {n : ℕ} [NeZero n] (d : Fin n → EReal) : Best d (nearest d) := Classical.choose_spec (exists_best d)
/-- Any first least place is that one. -/
theorem nearest_eq {n : ℕ} [NeZero n] {d : Fin n → EReal} {k : Fin n} (h : Best d k) : nearest d = k :=
  (nearest_best d).unique h

/-! ## One row through the whole quantiser -/

/-- The arguments a row meets. -/
structure Weights where
  eW0 : Fin 768 → Fin 512 → EReal
  eb0 : Fin 512 → EReal
  eW1 : Fin 512 → Fin 256 → EReal
  eb1 : Fin 256 → EReal
  eW2 : Fin 256 → Fin 32 → EReal
  eb2 : Fin 32 → EReal
  dW0 : Fin 32 → Fin 256 → EReal
  db0 : Fin 256 → EReal
  dW1 : Fin 256 → Fin 512 → EReal
  db1 : Fin 512 → EReal
  dW2 : Fin 512 → Fin 768 → EReal
  db2 : Fin 768 → EReal
  g : Fin 32 → EReal
  b : Fin 32 → EReal
  c0 : Fin 8192 → Fin 32 → EReal
  c1 : Fin 8192 → Fin 32 → EReal
  c2 : Fin 8192 → Fin 32 → EReal

variable (w : Weights) (x : Fin 768 → EReal)

/-- The normalised latent row. -/
def z : Fin 32 → EReal := norm (center (mlp x w.eW0 w.eb0 w.eW1 w.eb1 w.eW2 w.eb2)) w.g w.b
/-- The first codeword's number, the codeword, and the residual it leaves; then the second's and the third's. -/
def i0 : Fin 8192 := nearest (dist (z w x) w.c0)
def q0 : Fin 32 → EReal := w.c0 (i0 w x)
def r1 : Fin 32 → EReal := fun j => z w x j - q0 w x j
def i1 : Fin 8192 := nearest (dist (r1 w x) w.c1)
def q1 : Fin 32 → EReal := w.c1 (i1 w x)
def r2 : Fin 32 → EReal := fun j => r1 w x j - q1 w x j
def i2 : Fin 8192 := nearest (dist (r2 w x) w.c2)
def q2 : Fin 32 → EReal := w.c2 (i2 w x)
/-- The decoded row. -/
def xhat : Fin 768 → EReal :=
  mlp (fun j => (q0 w x j + q1 w x j) + q2 w x j) w.dW0 w.db0 w.dW1 w.db1 w.dW2 w.db2
/-- One stage's loss. -/
def vq (r q : Fin 32 → EReal) : EReal := mse r q + Ideal.ofBits .f32 0x3E800000#32 * mse r q
/-- The mean squared error of the decoded row. -/
def recon : EReal :=
  Ideal.div (∑ j, (xhat w x j - x j) * (xhat w x j - x j)) (Ideal.ofBits .f32 0x44400000#32)
/-- The row's loss. -/
def loss : EReal := ((vq (z w x) (q0 w x) + vq (r1 w x) (q1 w x)) + vq (r2 w x) (q2 w x)) + recon w x

/-! ## Real values -/

/-- An extended real that is a real. -/
def IsReal (v : EReal) : Prop := ∃ a : ℝ, v = (a : EReal)

/-- A sum of reals is real. -/
theorem IsReal.add {u v : EReal} (hu : IsReal u) (hv : IsReal v) : IsReal (u + v) := by
  obtain ⟨a, rfl⟩ := hu; obtain ⟨b, rfl⟩ := hv; exact ⟨a + b, by push_cast; rfl⟩
/-- A difference of reals is real. -/
theorem IsReal.sub {u v : EReal} (hu : IsReal u) (hv : IsReal v) : IsReal (u - v) := by
  obtain ⟨a, rfl⟩ := hu; obtain ⟨b, rfl⟩ := hv; exact ⟨a - b, by push_cast; rfl⟩
/-- A product of reals is real. -/
theorem IsReal.mul {u v : EReal} (hu : IsReal u) (hv : IsReal v) : IsReal (u * v) := by
  obtain ⟨a, rfl⟩ := hu; obtain ⟨b, rfl⟩ := hv; exact ⟨a * b, by push_cast; rfl⟩
/-- The larger of two reals is real. -/
theorem IsReal.max {u v : EReal} (hu : IsReal u) (hv : IsReal v) : IsReal (Max.max u v) := by
  rcases max_choice u v with h | h <;> rw [h] <;> assumption
/-- Zero is real. -/
theorem IsReal.zero : IsReal 0 := ⟨0, by simp⟩
/-- A sum of reals is the same among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
/-- A finite sum of reals is real. -/
theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩
/-- A value that is neither infinity is a real. -/
theorem IsReal.of_ne {v : EReal} (h1 : v ≠ ⊥) (h2 : v ≠ ⊤) : IsReal v := ⟨v.toReal, (EReal.coe_toReal h2 h1).symm⟩

/-- The word of 32. -/
theorem c32_eq : c32 = ((32 : ℝ) : EReal) := by
  simp [c32, Ideal.ofBits, Ideal.ieee, -EReal.coe_mul]; norm_num
/-- The word of the norm's small constant. -/
theorem ceps_eq : ceps = ((10995116 / 1099511627776 : ℝ) : EReal) := by
  simp [ceps, Ideal.ofBits, Ideal.ieee, -EReal.coe_mul]; norm_num
/-- The word of 2. -/
theorem two_eq : Ideal.ofBits .f32 0x40000000#32 = ((2 : ℝ) : EReal) := by
  simp [Ideal.ofBits, Ideal.ieee, -EReal.coe_mul]; norm_num
/-- The word of -2. -/
theorem ntwo_eq : Ideal.ofBits .f32 0xC0000000#32 = ((-2 : ℝ) : EReal) := by
  simp [Ideal.ofBits, Ideal.ieee, -EReal.coe_mul, -EReal.coe_neg]; norm_num
/-- The word of 1/4. -/
theorem quarter_eq : Ideal.ofBits .f32 0x3E800000#32 = ((1 / 4 : ℝ) : EReal) := by
  simp [Ideal.ofBits, Ideal.ieee, -EReal.coe_mul]; norm_num
/-- The word of 5/4. -/
theorem five_quarters_eq : Ideal.ofBits .f32 0x3FA00000#32 = ((5 / 4 : ℝ) : EReal) := by
  simp [Ideal.ofBits, Ideal.ieee, -EReal.coe_mul]; norm_num

/-- A real over a real that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A real over 32 is real. -/
theorem IsReal.div32 {v : EReal} (h : IsReal v) : IsReal (Ideal.div v c32) := by
  obtain ⟨a, rfl⟩ := h
  exact ⟨_, by rw [c32_eq, div_coe a 32 (by norm_num)]⟩

/-- A linear layer of reals is real. -/
theorem IsReal.lin {m n : ℕ} {x : Fin m → EReal} {W : Fin m → Fin n → EReal} {b : Fin n → EReal}
    (hx : ∀ k, IsReal (x k)) (hW : ∀ k j, IsReal (W k j)) (hb : ∀ j, IsReal (b j)) (j : Fin n) : IsReal (lin x W b j) :=
  (IsReal.sum _ fun k => (hx k).mul (hW k j)).add (hb j)
/-- The positive part of a real is real. -/
theorem IsReal.relu {n : ℕ} {x : Fin n → EReal} (hx : ∀ k, IsReal (x k)) (j : Fin n) : IsReal (relu x j) :=
  (hx j).max .zero
/-- A centred row of reals is real. -/
theorem IsReal.center {h : Fin 32 → EReal} (hh : ∀ k, IsReal (h k)) (j : Fin 32) : IsReal (center h j) :=
  (hh j).sub (IsReal.sum _ hh).div32

/-- The layer norm of a real row is real: what is under the root is positive. -/
theorem IsReal.norm {zc g b : Fin 32 → EReal} (hz : ∀ k, IsReal (zc k)) (hg : ∀ k, IsReal (g k)) (hb : ∀ k, IsReal (b k))
    (j : Fin 32) : IsReal (norm zc g b j) := by
  refine IsReal.add (IsReal.mul ?_ (hg j)) (hb j)
  choose f hf using hz
  have hs : (∑ k, zc k * zc k) = ((∑ k, f k * f k : ℝ) : EReal) := by
    rw [coe_sum]; exact Finset.sum_congr rfl fun k _ => by rw [hf k, EReal.coe_mul]
  have h0 : (0 : ℝ) ≤ ∑ k, f k * f k := Finset.sum_nonneg fun k _ => mul_self_nonneg _
  rw [hs, c32_eq, div_coe _ _ (by norm_num), ceps_eq, ← EReal.coe_add, hf j]
  have hpos : (0 : ℝ) < (∑ k, f k * f k) / 32 + 10995116 / 1099511627776 := by positivity
  show IsReal (Ideal.div _ (if _ < _ then ⊥ else _))
  rw [if_neg (not_lt.2 hpos.le), div_coe _ _ (Real.sqrt_pos.2 hpos).ne']
  exact ⟨_, rfl⟩

/-! ## The two spellings of a stage -/

/-- The kernel's distances are the reference's, for a real row and real codewords: the product with −2 is taken inside
    the sum there, outside it here. -/
theorem dist_eq {r : Fin 32 → EReal} {cb : Fin 8192 → Fin 32 → EReal} (hr : ∀ j, IsReal (r j)) (hc : ∀ k j, IsReal (cb k j))
    (k : Fin 8192) :
    ((∑ j, r j * r j) + ∑ j, (Ideal.ofBits .f32 0xC0000000#32 * r j) * cb k j) + ∑ j, 1 * (cb k j * cb k j)
      = dist r cb k := by
  choose f hf using hr
  choose c hc using hc k
  unfold dist
  simp only [hf, hc, two_eq, ntwo_eq, one_mul, ← EReal.coe_mul, ← coe_sum, ← EReal.coe_add, ← EReal.coe_sub]
  congr 1
  congr 1
  rw [sub_eq_add_neg, ← neg_mul, Finset.mul_sum]
  exact congrArg _ (Finset.sum_congr rfl fun j _ => by ring)

/-- The mean squared difference of real rows is real. -/
theorem IsReal.mse {r q : Fin 32 → EReal} (hr : ∀ j, IsReal (r j)) (hq : ∀ j, IsReal (q j)) : IsReal (mse r q) :=
  (IsReal.sum _ fun j => ((hr j).sub (hq j)).mul ((hr j).sub (hq j))).div32

/-- A mean taken five quarters of a time is the mean and a quarter of it. -/
theorem vq_eq {r q : Fin 32 → EReal} (hr : ∀ j, IsReal (r j)) (hq : ∀ j, IsReal (q j)) :
    Ideal.ofBits .f32 0x3FA00000#32 * mse r q = vq r q := by
  obtain ⟨a, ha⟩ := IsReal.mse hr hq
  unfold vq
  rw [ha, five_quarters_eq, quarter_eq, ← EReal.coe_mul, ← EReal.coe_mul, ← EReal.coe_add]
  congr 1; ring

/-- The straight-through value is the codeword. -/
theorem through {u v : EReal} (hu : IsReal u) (hv : IsReal v) : u + (v - u) = v := by
  obtain ⟨a, rfl⟩ := hu; obtain ⟨b, rfl⟩ := hv
  rw [← EReal.coe_sub, ← EReal.coe_add]; congr 1; ring

/-- A real less itself is zero. -/
theorem sub_self_real {u : EReal} (hu : IsReal u) : u - u = 0 := by
  obtain ⟨a, rfl⟩ := hu
  rw [← EReal.coe_sub, sub_self, EReal.coe_zero]

/-- The arguments whose entries the programs' agreement needs real. -/
structure Weights.Real (w : Weights) : Prop where
  eW0 : ∀ i j, IsReal (w.eW0 i j)
  eb0 : ∀ j, IsReal (w.eb0 j)
  eW1 : ∀ i j, IsReal (w.eW1 i j)
  eb1 : ∀ j, IsReal (w.eb1 j)
  eW2 : ∀ i j, IsReal (w.eW2 i j)
  eb2 : ∀ j, IsReal (w.eb2 j)
  g : ∀ j, IsReal (w.g j)
  b : ∀ j, IsReal (w.b j)
  c0 : ∀ i j, IsReal (w.c0 i j)
  c1 : ∀ i j, IsReal (w.c1 i j)
  c2 : ∀ i j, IsReal (w.c2 i j)

variable {w x}

/-- The latent is real. -/
theorem real_z (hw : w.Real) (hx : ∀ j, IsReal (x j)) (j : Fin 32) : IsReal (z w x j) :=
  IsReal.norm (IsReal.center (IsReal.lin (IsReal.relu (IsReal.lin (IsReal.relu (IsReal.lin hx hw.eW0 hw.eb0)) hw.eW1 hw.eb1))
    hw.eW2 hw.eb2)) hw.g hw.b j
/-- The first codeword is real. -/
theorem real_q0 (hw : w.Real) (j : Fin 32) : IsReal (q0 w x j) := hw.c0 _ j
/-- The second codeword is real. -/
theorem real_q1 (hw : w.Real) (j : Fin 32) : IsReal (q1 w x j) := hw.c1 _ j
/-- The third codeword is real. -/
theorem real_q2 (hw : w.Real) (j : Fin 32) : IsReal (q2 w x j) := hw.c2 _ j
/-- What is left after one stage is real. -/
theorem real_r1 (hw : w.Real) (hx : ∀ j, IsReal (x j)) (j : Fin 32) : IsReal (r1 w x j) := (real_z hw hx j).sub (real_q0 hw j)
/-- What is left after two stages is real. -/
theorem real_r2 (hw : w.Real) (hx : ∀ j, IsReal (x j)) (j : Fin 32) : IsReal (r2 w x j) := (real_r1 hw hx j).sub (real_q1 hw j)

/-! ## The arg-min of either program -/

/-- The kernel's index of a row's least entry is the first least place. -/
theorem reduceIndex_nearest {n0 n1 : ℕ} [NeZero n1] {t : Shape} (h : (⟨2, ![n0, n1]⟩ : Shape).Reduces [1] t)
    (v : (⟨2, ![n0, n1]⟩ : Shape).Idx → EReal) (j : t.Idx) :
    Ideal.reduceIndex .argMin 1 h v j
      = BitVec.ofNat 32 (nearest fun k : Fin n1 =>
          v (ix2 ⟨(j ⟨0, h.lt_r2_a1_0⟩).val, Shape.coordLt (j ⟨0, h.lt_r2_a1_0⟩) h.size_r2_a1_0⟩ k)).val := by
  classical
  set row : Fin n1 → (⟨2, ![n0, n1]⟩ : Shape).Idx :=
    fun k => ix2 ⟨(j ⟨0, h.lt_r2_a1_0⟩).val, Shape.coordLt (j ⟨0, h.lt_r2_a1_0⟩) h.size_r2_a1_0⟩ k with hrow
  have hb := nearest_best fun k : Fin n1 => v (row k)
  set b := nearest fun k : Fin n1 => v (row k) with hbdef
  unfold Ideal.reduceIndex
  have hfib : ∀ i, h.drop i = j ↔ ∃ k, row k = i := h.fiber_r2_a1 j
  have key : ((((Finset.univ.filter fun i => h.drop i = j).filter fun i =>
      ∀ i' ∈ Finset.univ.filter (fun i => h.drop i = j), ¬ (if ArgKind.argMin = ArgKind.argMax then v i < v i' else v i' < v i)).image
        fun i => (i 1).val).min : WithTop ℕ) = ((b.val : ℕ) : WithTop ℕ) := by
    apply le_antisymm
    · refine Finset.min_le (Finset.mem_image.2 ⟨row b, ?_, rfl⟩)
      refine Finset.mem_filter.2 ⟨Finset.mem_filter.2 ⟨Finset.mem_univ _, (hfib _).2 ⟨b, rfl⟩⟩, fun i' hi' => ?_⟩
      obtain ⟨k, rfl⟩ := (hfib i').1 (Finset.mem_filter.1 hi').2
      rw [if_neg (by decide)]
      exact not_lt.2 (hb.1 k)
    · refine Finset.le_min fun a ha => ?_
      obtain ⟨i, hi, rfl⟩ := Finset.mem_image.1 ha
      obtain ⟨hi1, hi2⟩ := Finset.mem_filter.1 hi
      obtain ⟨k, rfl⟩ := (hfib i).1 (Finset.mem_filter.1 hi1).2
      have h2 := hi2 (row b) (Finset.mem_filter.2 ⟨Finset.mem_univ _, (hfib _).2 ⟨b, rfl⟩⟩)
      rw [if_neg (by decide)] at h2
      have : b ≤ k := not_lt.1 fun hlt => h2 (hb.2 k hlt)
      exact WithTop.coe_le_coe.2 (show b.val ≤ ((row k) 1).val from this)
  simp only
  refine congrArg (BitVec.ofNat 32) ?_
  exact congrArg (fun o : WithTop ℕ => Option.getD o 0) key

/-- One pair comes no later than another: a smaller value, or the same value at no larger an index. -/
def Le (p q : EReal × BitVec 32) : Prop := p.1 < q.1 ∨ (p.1 = q.1 ∧ p.2.toInt ≤ q.2.toInt)

/-- A pair comes no later than itself. -/
theorem Le.refl (p : EReal × BitVec 32) : Le p p := .inr ⟨rfl, le_refl _⟩
/-- Coming no later is transitive. -/
theorem Le.trans {p q r : EReal × BitVec 32} (h : Le p q) (h' : Le q r) : Le p r := by
  rcases h with h | ⟨h, k⟩ <;> rcases h' with h' | ⟨h', k'⟩
  · exact .inl (h.trans h')
  · exact .inl (h' ▸ h)
  · exact .inl (h ▸ h')
  · exact .inr ⟨h.trans h', k.trans k'⟩

/-- Folding a choice of the earlier pair over a list gives a pair of the list (or the start) which comes first. -/
theorem foldl_least (f : EReal × BitVec 32 → EReal × BitVec 32 → EReal × BitVec 32)
    (hf : ∀ a b, (f a b = a ∧ Le a b) ∨ (f a b = b ∧ Le b a)) (L : List (EReal × BitVec 32)) (p : EReal × BitVec 32) :
    (L.foldl f p = p ∨ L.foldl f p ∈ L) ∧ Le (L.foldl f p) p ∧ ∀ q ∈ L, Le (L.foldl f p) q := by
  induction L generalizing p with
  | nil => exact ⟨.inl rfl, Le.refl _, fun q hq => absurd hq List.not_mem_nil⟩
  | cons a L ih =>
    obtain ⟨h1, h2, h3⟩ := ih (f p a)
    rw [List.foldl_cons]
    have hp : Le (f p a) p := by rcases hf p a with ⟨e, h⟩ | ⟨e, h⟩ <;> rw [e]; exacts [Le.refl _, h]
    have ha : Le (f p a) a := by rcases hf p a with ⟨e, h⟩ | ⟨e, h⟩ <;> rw [e]; exacts [h, Le.refl _]
    refine ⟨?_, h2.trans hp, fun q hq => ?_⟩
    · rcases h1 with h1 | h1
      · rw [h1]
        rcases hf p a with ⟨e, h⟩ | ⟨e, h⟩ <;> rw [e]
        exacts [.inl rfl, .inr List.mem_cons_self]
      · exact .inr (List.mem_cons_of_mem _ h1)
    · rcases List.mem_cons.1 hq with rfl | hq
      exacts [h2.trans ha, h3 q hq]

/-- A small number's word, read as signed, is the number. -/
theorem toInt_ofNat_small {a : ℕ} (ha : a < 8192) : (BitVec.ofNat 32 a).toInt = a := by
  rw [BitVec.toInt_eq_toNat_of_lt (by rw [BitVec.toNat_ofNat]; omega), BitVec.toNat_ofNat, Nat.mod_eq_of_lt (by omega)]

/-- The host's arg-min of a row, as a fold over value-and-index pairs from plus infinity, gives the first least place. -/
theorem argReduce_nearest {n0 : ℕ} {t u : Shape} (f : EReal × BitVec 32 → EReal × BitVec 32 → EReal × BitVec 32)
    (hf : ∀ a b, (f a b = a ∧ Le a b) ∨ (f a b = b ∧ Le b a))
    (h : (⟨2, ![n0, 8192]⟩ : Shape).ReducesTo [1] t)
    (v : FVec Ideal ⟨2, ![n0, 8192]⟩ .f32) (y : (⟨2, ![n0, 8192]⟩ : Shape).Idx → BitVec 32)
    (hy : ∀ i, y i = BitVec.ofNat 32 (i 1).val) (ix : FVec Ideal u .f32) (iy : u.Idx → BitVec 32) (hu : 0 < u.numel)
    (hix : ∀ i, ix i = (⊤ : EReal)) (hiy : ∀ i, iy i = 0#32) (j : t.Idx) :
    (Host.argReduce (F := Ideal) f v y ix iy h hu j).2
      = BitVec.ofNat 32 (nearest fun k : Fin 8192 =>
          v (ix2 ⟨(j ⟨0, h.lt_r2_a1_0⟩).val, Shape.coordLt (j ⟨0, h.lt_r2_a1_0⟩) h.size_r2_a1_0⟩ k)).val := by
  rw [Ideal.argReduce_eq_reduce2, Host.reduce2_eq_foldl_fiber, hix, hiy]
  set row : Fin 8192 → (⟨2, ![n0, 8192]⟩ : Shape).Idx :=
    fun k => ix2 ⟨(j ⟨0, h.lt_r2_a1_0⟩).val, Shape.coordLt (j ⟨0, h.lt_r2_a1_0⟩) h.size_r2_a1_0⟩ k with hrow
  have hmem : ∀ p, p ∈ Host.argReduceFiber v y h j ↔ ∃ k : Fin 8192, p = (v (row k), BitVec.ofNat 32 k.val) := by
    intro p
    unfold Host.argReduceFiber
    simp only [List.mem_map, List.mem_filter, List.mem_finRange, true_and, decide_eq_true_eq]
    constructor
    · rintro ⟨n, hn, rfl⟩
      obtain ⟨k, hk⟩ := (h.fiber_r2_a1 j _).1 hn
      exact ⟨k, by rw [← hk, hy]; rfl⟩
    · rintro ⟨k, rfl⟩
      refine ⟨(⟨2, ![n0, 8192]⟩ : Shape).rowMajor (row k), ?_, ?_⟩
      · rw [Equiv.symm_apply_apply]; exact (h.fiber_r2_a1 j _).2 ⟨k, rfl⟩
      · rw [Equiv.symm_apply_apply, hy]; rfl
  obtain ⟨h1, h2, h3⟩ := foldl_least f hf (Host.argReduceFiber v y h j) (⊤, 0#32)
  set p := (Host.argReduceFiber v y h j).foldl f (⊤, 0#32)
  have h3' : ∀ k : Fin 8192, Le p (v (row k), BitVec.ofNat 32 k.val) := fun k => h3 _ ((hmem _).2 ⟨k, rfl⟩)
  have fin : ∀ k : Fin 8192, p = (v (row k), BitVec.ofNat 32 k.val) →
      p.2 = BitVec.ofNat 32 (nearest fun k : Fin 8192 => v (row k)).val := by
    intro k hk
    rw [nearest_eq (k := k), hk]
    refine ⟨fun l => ?_, fun l hl => ?_⟩
    · rcases h3' l with h | ⟨h, -⟩ <;> rw [hk] at h
      exacts [le_of_lt h, le_of_eq h]
    · rcases h3' l with h | ⟨h, h'⟩
      · rw [hk] at h; exact h
      · rw [hk] at h'
        simp only [toInt_ofNat_small k.isLt, toInt_ofNat_small l.isLt] at h'
        have : l.val < k.val := hl
        omega
  rcases h1 with h1 | h1
  · refine fin 0 ?_
    have := h3' 0
    rw [h1] at this ⊢
    rcases this with h | ⟨h, -⟩
    · exact absurd h not_top_lt
    · exact Prod.ext h rfl
  · obtain ⟨k, hk⟩ := (hmem _).1 h1
    exact fin k hk

/-- A sum against the indicator of one place is the entry there. -/
theorem onehot_sum {n : ℕ} (k0 : Fin n) (o f : Fin n → EReal) (ho : ∀ k, o k = if k = k0 then 1 else 0) :
    ∑ k, o k * f k = f k0 := by
  rw [Finset.sum_eq_single k0]
  · rw [ho, if_pos rfl, one_mul]
  · intro k _ hk; rw [ho, if_neg hk, zero_mul]
  · exact fun h => absurd (Finset.mem_univ _) h

end Cert.Rq
-- ==== Proof.Block.lean ====
/- What one block of the kernel computes, read at a row: each of the body's steps as the row function of the
   mathematics. -/
module

public import proofs.«01_k».proof.Proof.Body
public import proofs.«01_k».proof.Proof.Spec

@[expose] public section

set_option maxRecDepth 16384

noncomputable section

namespace Cert.KernelIdeal.Block

open Idealize.ShloMosaic Cert.KernelIdeal Cert.KernelIdeal.Gen Cert.KernelIdeal.Body Cert.Rq

/-- Row `r` of an array of two axes. -/
abbrev row {m n : ℕ} (v : (⟨2, ![m, n]⟩ : Shape).Idx → EReal) (r : Fin m) : Fin n → EReal := fun k => v (ix2 r k)
/-- An array of two axes as a function of its two coordinates. -/
abbrev mat {m n : ℕ} (v : (⟨2, ![m, n]⟩ : Shape).Idx → EReal) : Fin m → Fin n → EReal := fun i k => v (ix2 i k)

/-- The encoder's output, centred, at one row and place. -/
theorem pay21_apply (x : Vec Ideal S256x768 .f32) (w0 : Vec Ideal S768x512 .bf16) (b0 : Vec Ideal S1x512 .f32)
    (w1 : Vec Ideal S512x256 .bf16) (b1 : Vec Ideal S1x256 .f32) (w2 : Vec Ideal S256x32 .bf16) (b2 : Vec Ideal S1x32 .f32)
    (r : Fin 256) (j : Fin 32) :
    k0_pay21 x w0 b0 w1 b1 w2 b2 (ix2 r j)
      = center (mlp (row x r) (mat w0) (row b0 0) (mat w1) (row b1 0) (mat w2) (row b2 0)) j := by
  pointwise [k0_pay21, center, mlp, lin, relu]

/-- The normed latent at one row and place. -/
theorem pay22_apply (zc : FVec Ideal S256x32 .f32) (g b : Vec Ideal S1x32 .f32) (r : Fin 256) (j : Fin 32) :
    k0_pay22 zc g b (ix2 r j) = Cert.Rq.norm (row zc r) (row g 0) (row b 0) j := by
  pointwise [k0_pay22, Cert.Rq.norm]

/-- The kernel's spelling of the distances of a row to the codewords. -/
def kdist (r : Fin 32 → EReal) (cb : Fin 8192 → Fin 32 → EReal) (nrm : Fin 8192 → EReal) : Fin 8192 → EReal :=
  fun k => ((∑ j, r j * r j) + ∑ j, (Ideal.ofBits .f32 0xC0000000#32 * r j) * cb k j) + nrm k

/-- The first stage's codeword number of one row: the first least of the kernel's distances. -/
theorem pay23_apply (zc : FVec Ideal S256x32 .f32) (g b : Vec Ideal S1x32 .f32) (cb : Vec Ideal S8192x32 .bf16)
    (nrm : Vec Ideal S1x8192 .f32) (r : Fin 256) :
    k0_pay23 zc g b cb nrm (ix1 r)
      = BitVec.ofNat 32 (nearest (kdist (row (k0_pay22 zc g b) r) (mat cb) (row nrm 0))).val := by
  unfold k0_pay23
  simp only [reduceIndex]
  rw [Ideal.reduceIndex_def, reduceIndex_nearest]
  congr 3
  funext k
  pointwise [kdist]

/-- The second stage's codeword number of one row. -/
theorem pay30_apply (v52 : FVec Ideal S256x32 .f32) (v75 : FVec Ideal S256x96 .f32) (v76 v77 : FVec Ideal S256x32 .f32) (cb : Vec Ideal S8192x32 .bf16)
    (nrm : Vec Ideal S1x8192 .f32) (r : Fin 256) :
    k0_pay30 v52 v75 v76 v77 cb nrm (ix1 r)
      = BitVec.ofNat 32 (nearest (kdist (row (k0_pay29 v52 v75 v76 v77) r) (mat cb) (row nrm 0))).val := by
  unfold k0_pay30
  simp only [reduceIndex]
  rw [Ideal.reduceIndex_def, reduceIndex_nearest]
  congr 3
  funext k
  pointwise [kdist]

/-- The third stage's codeword number of one row. -/
theorem pay35_apply (v88 v116 : FVec Ideal S256x32 .f32) (cb : Vec Ideal S8192x32 .bf16)
    (nrm : Vec Ideal S1x8192 .f32) (r : Fin 256) :
    k0_pay35 v88 v116 cb nrm (ix1 r)
      = BitVec.ofNat 32 (nearest (kdist (row (k0_pay34 v88 v116) r) (mat cb) (row nrm 0))).val := by
  unfold k0_pay35
  simp only [reduceIndex]
  rw [Ideal.reduceIndex_def, reduceIndex_nearest]
  congr 3
  funext k
  pointwise [kdist]

/-- The indicator of an index word, as the kernel makes it: a comparison, widened, made a float. -/
theorem indicator (k k0 : Fin 8192) :
    (FloatOps.sitofp (F := Ideal) FTy.f32 (BitVec.setWidth 32 (IntOp.cmpi CmpIPredicate.eq (BitVec.ofNat 32 k.val) (BitVec.ofNat 32 k0.val))) : EReal)
      = if k = k0 then 1 else 0 := by
  show (((BitVec.setWidth 32 (IntOp.cmpi CmpIPredicate.eq (BitVec.ofNat 32 k.val) (BitVec.ofNat 32 k0.val))).toInt : ℝ) : EReal) = _
  by_cases h : k = k0
  · subst h
    rw [if_pos rfl]
    simp [IntOp.cmpi]
  · have hne : BitVec.ofNat 32 k.val ≠ BitVec.ofNat 32 k0.val := by
      intro e
      have e' := congrArg BitVec.toNat e
      rw [BitVec.toNat_ofNat, BitVec.toNat_ofNat, Nat.mod_eq_of_lt (by omega), Nat.mod_eq_of_lt (by omega)] at e'
      exact h (Fin.ext e')
    rw [if_neg h]
    have hb : (BitVec.ofNat 32 k.val == BitVec.ofNat 32 k0.val) = false := beq_eq_false_iff_ne.2 hne
    simp [IntOp.cmpi, hb]

/-- The three parts of a looked-up row, side by side. -/
theorem pay24_apply (zc : FVec Ideal S256x32 .f32) (g b : Vec Ideal S1x32 .f32) (cb : Vec Ideal S8192x32 .bf16)
    (cat : Vec Ideal S8192x96 .bf16) (nrm : Vec Ideal S1x8192 .f32) (r : Fin 256) (l : Fin 96) (k0 : Fin 8192)
    (hk : k0_pay23 zc g b cb nrm (ix1 r) = BitVec.ofNat 32 k0.val) :
    k0_pay24 zc g b cb cat nrm (ix2 r l) = cat (ix2 k0 l) := by
  pointwise [k0_pay24]
  rw [hk]
  exact onehot_sum k0 _ (fun k => cat (ix2 k l)) fun k => indicator k k0

/-- The three parts of a codeword's row in the table, added up. -/
def parts (cat : Vec Ideal S8192x96 .bf16) (k : Fin 8192) (j : Fin 32) : EReal :=
  (cat (ix2 k ⟨j.val, by omega⟩) + cat (ix2 k ⟨32 + j.val, by omega⟩)) + cat (ix2 k ⟨64 + j.val, by omega⟩)

/-- The first stage's looked-up codeword: the three parts of the chosen row of the table. -/
theorem pay27_apply (zc : FVec Ideal S256x32 .f32) (g b : Vec Ideal S1x32 .f32) (cb : Vec Ideal S8192x32 .bf16)
    (cat : Vec Ideal S8192x96 .bf16) (nrm : Vec Ideal S1x8192 .f32) (r : Fin 256) (j : Fin 32) (k0 : Fin 8192)
    (hk : k0_pay23 zc g b cb nrm (ix1 r) = BitVec.ofNat 32 k0.val) :
    k0_pay27 (k0_pay24 zc g b cb cat nrm) (k0_pay25 zc g b cb cat nrm) (k0_pay26 zc g b cb cat nrm) (ix2 r j)
      = parts cat k0 j := by
  pointwise [k0_pay27, k0_pay25, k0_pay26]
  rw [pay24_apply _ _ _ _ _ _ _ _ k0 hk, pay24_apply _ _ _ _ _ _ _ _ k0 hk, pay24_apply _ _ _ _ _ _ _ _ k0 hk]
  rfl

/-- The second stage's looked-up codeword. -/
theorem pay31_apply (v52 : FVec Ideal S256x32 .f32) (v75 : FVec Ideal S256x96 .f32) (v76 v77 : FVec Ideal S256x32 .f32) (cb : Vec Ideal S8192x32 .bf16)
    (cat : Vec Ideal S8192x96 .bf16) (nrm : Vec Ideal S1x8192 .f32) (r : Fin 256) (j : Fin 32) (k0 : Fin 8192)
    (hk : k0_pay30 v52 v75 v76 v77 cb nrm (ix1 r) = BitVec.ofNat 32 k0.val) :
    k0_pay31 v52 v75 v76 v77 cb cat nrm (ix2 r j) = parts cat k0 j := by
  pointwise [k0_pay31]
  rw [hk]
  exact congrArg₂ (· + ·) (congrArg₂ (· + ·)
    (onehot_sum k0 _ (fun k => cat (ix2 k ⟨j.val, by omega⟩)) fun k => indicator k k0)
    (onehot_sum k0 _ (fun k => cat (ix2 k ⟨32 + j.val, by omega⟩)) fun k => indicator k k0))
    (onehot_sum k0 _ (fun k => cat (ix2 k ⟨64 + j.val, by omega⟩)) fun k => indicator k k0)

/-- The third stage's looked-up codeword. -/
theorem pay36_apply (v88 v116 : FVec Ideal S256x32 .f32) (cb : Vec Ideal S8192x32 .bf16)
    (cat : Vec Ideal S8192x96 .bf16) (nrm : Vec Ideal S1x8192 .f32) (r : Fin 256) (j : Fin 32) (k0 : Fin 8192)
    (hk : k0_pay35 v88 v116 cb nrm (ix1 r) = BitVec.ofNat 32 k0.val) :
    k0_pay36 v88 v116 cb cat nrm (ix2 r j) = parts cat k0 j := by
  pointwise [k0_pay36]
  rw [hk]
  exact congrArg₂ (· + ·) (congrArg₂ (· + ·)
    (onehot_sum k0 _ (fun k => cat (ix2 k ⟨j.val, by omega⟩)) fun k => indicator k k0)
    (onehot_sum k0 _ (fun k => cat (ix2 k ⟨32 + j.val, by omega⟩)) fun k => indicator k k0))
    (onehot_sum k0 _ (fun k => cat (ix2 k ⟨64 + j.val, by omega⟩)) fun k => indicator k k0)

/-! ## The tables of the first grid point -/

/-- The three parts of a real codeword in the first stage's table add up to it. -/
theorem pay9_parts (cb : Vec Ideal S8192x32 .f32) (k : Fin 8192) (j : Fin 32) (h : IsReal (cb (ix2 k j))) :
    parts (k0_pay9 cb) k j = cb (ix2 k j) := by
  pointwise [parts, k0_pay9, k0_pay7]
  have e : 64 + j.val - 32 - 32 = j.val := by omega
  have he : (⟨64 + j.val - 32 - 32, by omega⟩ : Fin 32) = j := Fin.ext e
  rw [dif_neg (by omega), dif_neg (by omega), he, sub_self_real h, sub_zero, add_zero, add_zero]
/-- The same of the second stage's table. -/
theorem pay13_parts (cb : Vec Ideal S8192x32 .f32) (k : Fin 8192) (j : Fin 32) (h : IsReal (cb (ix2 k j))) :
    parts (k0_pay13 cb) k j = cb (ix2 k j) := pay9_parts cb k j h
/-- The same of the third stage's table. -/
theorem pay19_parts (cb : Vec Ideal S8192x32 .f32) (k : Fin 8192) (j : Fin 32) (h : IsReal (cb (ix2 k j))) :
    parts (k0_pay19 cb) k j = cb (ix2 k j) := pay9_parts cb k j h
/-- The first stage's table of squared norms. -/
theorem pay10_apply (cb : Vec Ideal S8192x32 .f32) (k : Fin 8192) :
    k0_pay10 cb (ix2 0 k) = ∑ j, 1 * (cb (ix2 k j) * cb (ix2 k j)) := by
  pointwise [k0_pay10]
/-- The second stage's table of squared norms. -/
theorem pay16_apply (cb : Vec Ideal S8192x32 .f32) (k : Fin 8192) :
    k0_pay16 k0_pay14 (k0_pay15 cb) (ix2 0 k) = ∑ j, 1 * (cb (ix2 k j) * cb (ix2 k j)) := pay10_apply cb k
/-- The third stage's table of squared norms. -/
theorem pay20_apply (cb : Vec Ideal S8192x32 .f32) (k : Fin 8192) :
    k0_pay20 cb (ix2 0 k) = ∑ j, 1 * (cb (ix2 k j) * cb (ix2 k j)) := pay10_apply cb k
/-- The first codebook is kept as it is: over the reals a cast changes nothing. -/
theorem pay8_eq (cb : Vec Ideal S8192x32 .f32) : k0_pay8 cb = cb := by
  funext i; idx_vars i; pointwise [k0_pay8, k0_pay7]
/-- The second codebook is kept as it is. -/
theorem pay12_eq (cb : Vec Ideal S8192x32 .f32) : k0_pay12 cb = cb := pay8_eq cb
/-- The third codebook is kept as it is. -/
theorem pay18_eq (cb : Vec Ideal S8192x32 .f32) : k0_pay18 cb = cb := pay8_eq cb
/-- The first encoder matrix is kept as it is. -/
theorem pay1_eq (v : Vec Ideal S768x512 .f32) : k0_pay1 v = v := by funext i; idx_vars i; pointwise [k0_pay1]
/-- The second encoder matrix is kept as it is. -/
theorem pay2_eq (v : Vec Ideal S512x256 .f32) : k0_pay2 v = v := by funext i; idx_vars i; pointwise [k0_pay2]
/-- The third encoder matrix is kept as it is. -/
theorem pay3_eq (v : Vec Ideal S256x32 .f32) : k0_pay3 v = v := by funext i; idx_vars i; pointwise [k0_pay3]
/-- The first decoder matrix is kept as it is. -/
theorem pay4_eq (v : Vec Ideal S32x256 .f32) : k0_pay4 v = v := by funext i; idx_vars i; pointwise [k0_pay4]
/-- The second decoder matrix is kept as it is. -/
theorem pay5_eq (v : Vec Ideal S256x512 .f32) : k0_pay5 v = v := by funext i; idx_vars i; pointwise [k0_pay5]
/-- The third decoder matrix is kept as it is. -/
theorem pay6_eq (v : Vec Ideal S512x768 .f32) : k0_pay6 v = v := by funext i; idx_vars i; pointwise [k0_pay6]

/-! ## Losses, decoder and results -/

/-- The first stage's loss of one row. -/
theorem pay28_apply (v52 : FVec Ideal S256x32 .f32) (v75 : FVec Ideal S256x96 .f32) (v76 v77 : FVec Ideal S256x32 .f32) (r : Fin 256) :
    k0_pay28 v52 v75 v76 v77 (ix1 r) = Ideal.ofBits .f32 0x3FA00000#32 * mse (row v52 r) (row (k0_pay27 v75 v76 v77) r) := by
  pointwise [k0_pay28, mse]
/-- The second stage's loss of one row. -/
theorem pay33_apply (v52 : FVec Ideal S256x32 .f32) (v75 : FVec Ideal S256x96 .f32) (v76 v77 : FVec Ideal S256x32 .f32) (cb : Vec Ideal S8192x32 .bf16)
    (cat : Vec Ideal S8192x96 .bf16) (nrm : Vec Ideal S1x8192 .f32) (r : Fin 256) :
    k0_pay33 (k0_pay32 v52 v75 v76 v77 cb cat nrm) (Scalar.ofBits .f32 0x3FA00000#32) (ix1 r)
      = Ideal.ofBits .f32 0x3FA00000#32 * mse (row (k0_pay29 v52 v75 v76 v77) r) (row (k0_pay31 v52 v75 v76 v77 cb cat nrm) r) := by
  pointwise [k0_pay33, k0_pay32, mse]
/-- The third stage's loss of one row. -/
theorem pay37_apply (v88 v116 : FVec Ideal S256x32 .f32) (cb : Vec Ideal S8192x32 .bf16)
    (cat : Vec Ideal S8192x96 .bf16) (nrm : Vec Ideal S1x8192 .f32) (r : Fin 256) :
    k0_pay37 v88 v116 cb cat nrm (ix1 r)
      = Ideal.ofBits .f32 0x3FA00000#32 * mse (row (k0_pay34 v88 v116) r) (row (k0_pay36 v88 v116 cb cat nrm) r) := by
  pointwise [k0_pay37, mse]
/-- What the first stage leaves over. -/
theorem pay29_apply (v52 : FVec Ideal S256x32 .f32) (v75 : FVec Ideal S256x96 .f32) (v76 v77 : FVec Ideal S256x32 .f32) (r : Fin 256) (j : Fin 32) :
    k0_pay29 v52 v75 v76 v77 (ix2 r j) = v52 (ix2 r j) - k0_pay27 v75 v76 v77 (ix2 r j) := by
  pointwise [k0_pay29]
/-- What the second stage leaves over. -/
theorem pay34_apply (v88 v116 : FVec Ideal S256x32 .f32) (r : Fin 256) (j : Fin 32) :
    k0_pay34 v88 v116 (ix2 r j) = v88 (ix2 r j) - v116 (ix2 r j) := by
  pointwise [k0_pay34]
/-- The decoder's output at one row and place. -/
theorem pay39_apply (v80 v88 v116 : FVec Ideal S256x32 .f32) (cb : Vec Ideal S8192x32 .bf16) (cat : Vec Ideal S8192x96 .bf16)
    (nrm : Vec Ideal S1x8192 .f32) (w0 : Vec Ideal S32x256 .bf16) (b0 : Vec Ideal S1x256 .f32) (w1 : Vec Ideal S256x512 .bf16)
    (b1 : Vec Ideal S1x512 .f32) (w2 : Vec Ideal S512x768 .bf16) (b2 : Vec Ideal S1x768 .f32) (r : Fin 256) (j : Fin 768) :
    k0_pay39 (k0_pay38 v80 v88 v116 cb cat nrm w0) b0 w1 b1 w2 b2 (ix2 r j)
      = mlp (fun j => (v80 (ix2 r j) + v116 (ix2 r j)) + k0_pay36 v88 v116 cb cat nrm (ix2 r j)) (mat w0) (row b0 0) (mat w1) (row b1 0)
          (mat w2) (row b2 0) j := by
  pointwise [k0_pay39, k0_pay38, mlp, lin, relu]
/-- The whole loss of one row. -/
theorem pay40_apply (x : Vec Ideal S256x768 .f32) (l0 l1 l2 : FVec Ideal S256 .f32) (h : FVec Ideal S256x256 .f32) (b0 : Vec Ideal S1x256 .f32) (w1 : Vec Ideal S256x512 .bf16)
    (b1 : Vec Ideal S1x512 .f32) (w2 : Vec Ideal S512x768 .bf16) (b2 : Vec Ideal S1x768 .f32) (r : Fin 256) :
    k0_pay40 x l0 l1 l2 h b0 w1 b1 w2 b2 (ix2 r 0)
      = ((l0 (ix1 r) + l1 (ix1 r)) + l2 (ix1 r))
        + Ideal.div (∑ j, (k0_pay39 h b0 w1 b1 w2 b2 (ix2 r j) - x (ix2 r j)) * (k0_pay39 h b0 w1 b1 w2 b2 (ix2 r j) - x (ix2 r j)))
            (Ideal.ofBits .f32 0x44400000#32) := by
  pointwise [k0_pay40]
/-- The three codeword numbers of one row, side by side. -/
theorem pay41_apply (a b c : IVec S256 32) (r : Fin 256) (s : Fin 3) :
    k0_pay41 a b c (ix2 r s) = if s.val = 0 then a (ix1 r) else if s.val = 1 then b (ix1 r) else c (ix1 r) := by
  pointwise [k0_pay41]
  fin_vals s with hs
  all_goals simp only [hs, Nat.reduceSub, Nat.reduceLT, ↓reduceDIte, ↓reduceIte, Nat.reduceEqDiff]

/-! ## A block, row by row -/

/-- The weights of the block's inputs. -/
def wts (X : Ins Ideal) : Weights where
  eW0 := mat X.x1
  eb0 := row X.x2 0
  eW1 := mat X.x3
  eb1 := row X.x4 0
  eW2 := mat X.x5
  eb2 := row X.x6 0
  dW0 := mat X.x7
  db0 := row X.x8 0
  dW1 := mat X.x9
  db1 := row X.x10 0
  dW2 := mat X.x11
  db2 := row X.x12 0
  g := row X.x13 0
  b := row X.x14 0
  c0 := mat X.x15
  c1 := mat X.x16
  c2 := mat X.x17

variable (X : Ins Ideal) (r : Fin 256)

/-- The kernel's distances with its table of squared norms are the reference's. -/
theorem kdist_eq {f : Fin 32 → EReal} {cb : Fin 8192 → Fin 32 → EReal} (nrm : Fin 8192 → EReal)
    (hn : ∀ k, nrm k = ∑ j, 1 * (cb k j * cb k j)) (hf : ∀ j, IsReal (f j)) (hc : ∀ k j, IsReal (cb k j)) :
    kdist f cb nrm = dist f cb := by
  funext k
  rw [← dist_eq hf hc k, kdist, hn]

/-- The latent of a block's row. -/
theorem z_row : row (vZ X (prep X)) r = z (wts X) (row X.x0 r) := by
  funext j
  show k0_pay22 (vZc X (prep X)) X.x13 X.x14 (ix2 r j) = _
  rw [pay22_apply]
  have : row (vZc X (prep X)) r = center (mlp (row X.x0 r) (mat X.x1) (row X.x2 0) (mat X.x3) (row X.x4 0) (mat X.x5) (row X.x6 0)) := by
    funext j
    refine (pay21_apply _ _ _ _ _ _ _ r j).trans ?_
    simp only [prep, pay1_eq, pay2_eq, pay3_eq]
  rw [this]; rfl

variable {X r} (hw : (wts X).Real) (hx : ∀ j, IsReal (X.x0 (ix2 r j)))
include hw hx

/-- The first codeword number of a block's row. -/
theorem i0_row : vI0 X (prep X) (ix1 r) = BitVec.ofNat 32 (i0 (wts X) (row X.x0 r)).val := by
  refine (pay23_apply _ _ _ _ _ r).trans ?_
  have e : row (k0_pay22 (vZc X (prep X)) X.x13 X.x14) r = z (wts X) (row X.x0 r) := z_row X r
  have c : mat (prep X).s6 = (wts X).c0 := congrArg mat (pay8_eq X.x15)
  rw [e, c]
  exact congrArg (fun d : Fin 8192 → EReal => BitVec.ofNat 32 (nearest d).val)
    (kdist_eq (row (prep X).s12 0) (fun k => pay10_apply X.x15 k) (real_z hw hx) hw.c0)

omit hx in
/-- The first table's parts add up to the first codebook. -/
theorem parts0 (k : Fin 8192) (j : Fin 32) : parts (k0_pay9 X.x15) k j = (wts X).c0 k j := pay9_parts _ _ _ (hw.c0 k j)
omit hx in
/-- The second table's parts add up to the second codebook. -/
theorem parts1 (k : Fin 8192) (j : Fin 32) : parts (k0_pay13 X.x16) k j = (wts X).c1 k j := pay13_parts _ _ _ (hw.c1 k j)
omit hx in
/-- The third table's parts add up to the third codebook. -/
theorem parts2 (k : Fin 8192) (j : Fin 32) : parts (k0_pay19 X.x17) k j = (wts X).c2 k j := pay19_parts _ _ _ (hw.c2 k j)

/-- The first codeword of a block's row. -/
theorem q0_row : row (vQ0 X (prep X)) r = q0 (wts X) (row X.x0 r) :=
  funext fun j => (pay27_apply _ _ _ _ _ _ r j _ (i0_row hw hx)).trans (parts0 hw _ j)

/-- What is left of a block's row after one stage. -/
theorem r1_row : row (vR1 X (prep X)) r = r1 (wts X) (row X.x0 r) :=
  funext fun j => (pay29_apply _ _ _ _ r j).trans
    (congrArg₂ (fun a b : EReal => a - b) (congrFun (z_row X r) j) (congrFun (q0_row hw hx) j))

/-- The second codeword number of a block's row. -/
theorem i1_row : vI1 X (prep X) (ix1 r) = BitVec.ofNat 32 (i1 (wts X) (row X.x0 r)).val := by
  refine (pay30_apply _ _ _ _ _ _ r).trans ?_
  have e : row (k0_pay29 (vZ X (prep X)) (vG0 X (prep X)) (vG0a X (prep X)) (vG0b X (prep X))) r = r1 (wts X) (row X.x0 r) := r1_row hw hx
  have c : mat (prep X).s7 = (wts X).c1 := congrArg mat (pay12_eq X.x16)
  rw [e, c]
  exact congrArg (fun d : Fin 8192 → EReal => BitVec.ofNat 32 (nearest d).val)
    (kdist_eq (row (prep X).s13 0) (fun k => pay16_apply X.x16 k) (real_r1 hw hx) hw.c1)

/-- The second codeword of a block's row. -/
theorem q1_row : row (vQ1 X (prep X)) r = q1 (wts X) (row X.x0 r) :=
  funext fun j => (pay31_apply _ _ _ _ _ _ _ r j _ (i1_row hw hx)).trans (parts1 hw _ j)

/-- What is left of a block's row after two stages. -/
theorem r2_row : row (k0_pay34 (vR1 X (prep X)) (vQ1 X (prep X))) r = r2 (wts X) (row X.x0 r) :=
  funext fun j => (pay34_apply _ _ r j).trans
    (congrArg₂ (fun a b : EReal => a - b) (congrFun (r1_row hw hx) j) (congrFun (q1_row hw hx) j))

/-- The third codeword number of a block's row. -/
theorem i2_row : vI2 X (prep X) (ix1 r) = BitVec.ofNat 32 (i2 (wts X) (row X.x0 r)).val := by
  refine (pay35_apply _ _ _ _ r).trans ?_
  have c : mat (prep X).s8 = (wts X).c2 := congrArg mat (pay18_eq X.x17)
  rw [r2_row hw hx, c]
  exact congrArg (fun d : Fin 8192 → EReal => BitVec.ofNat 32 (nearest d).val)
    (kdist_eq (row (prep X).s14 0) (fun k => pay20_apply X.x17 k) (real_r2 hw hx) hw.c2)

/-- The third codeword of a block's row. -/
theorem q2_row : row (k0_pay36 (vR1 X (prep X)) (vQ1 X (prep X)) (prep X).s8 (prep X).s11 (prep X).s14) r = q2 (wts X) (row X.x0 r) :=
  funext fun j => (pay36_apply _ _ _ _ _ r j _ (i2_row hw hx)).trans (parts2 hw _ j)

/-- The first stage's loss of a block's row. -/
theorem l0_row : vL0 X (prep X) (ix1 r) = vq (z (wts X) (row X.x0 r)) (q0 (wts X) (row X.x0 r)) := by
  refine (pay28_apply _ _ _ _ r).trans ?_
  have e : row (k0_pay27 (vG0 X (prep X)) (vG0a X (prep X)) (vG0b X (prep X))) r = q0 (wts X) (row X.x0 r) := q0_row hw hx
  rw [z_row, e, vq_eq (real_z hw hx) (real_q0 hw)]

/-- The second stage's loss of a block's row. -/
theorem l1_row : vL1 X (prep X) (ix1 r) = vq (r1 (wts X) (row X.x0 r)) (q1 (wts X) (row X.x0 r)) := by
  refine (pay33_apply _ _ _ _ _ _ _ r).trans ?_
  have e : row (k0_pay29 (vZ X (prep X)) (vG0 X (prep X)) (vG0a X (prep X)) (vG0b X (prep X))) r = r1 (wts X) (row X.x0 r) := r1_row hw hx
  have e' : row (k0_pay31 (vZ X (prep X)) (vG0 X (prep X)) (vG0a X (prep X)) (vG0b X (prep X)) (prep X).s7 (prep X).s10 (prep X).s13) r
    = q1 (wts X) (row X.x0 r) := q1_row hw hx
  rw [e, e', vq_eq (real_r1 hw hx) (real_q1 hw)]

/-- The third stage's loss of a block's row. -/
theorem l2_row : vL2 X (prep X) (ix1 r) = vq (r2 (wts X) (row X.x0 r)) (q2 (wts X) (row X.x0 r)) := by
  refine (pay37_apply _ _ _ _ _ r).trans ?_
  rw [r2_row hw hx, q2_row hw hx, vq_eq (real_r2 hw hx) (real_q2 hw)]

/-- The first result's block: the decoded rows. -/
theorem out0_row (j : Fin 768) : (outs X (prep X)).o0 (ix2 r j) = xhat (wts X) (row X.x0 r) j := by
  refine (pay39_apply _ _ _ _ _ _ _ _ _ _ _ _ r j).trans ?_
  have e : (fun j => (vQ0 X (prep X) (ix2 r j) + vQ1 X (prep X) (ix2 r j))
      + k0_pay36 (vR1 X (prep X)) (vQ1 X (prep X)) (prep X).s8 (prep X).s11 (prep X).s14 (ix2 r j))
      = fun j => (q0 (wts X) (row X.x0 r) j + q1 (wts X) (row X.x0 r) j) + q2 (wts X) (row X.x0 r) j :=
    funext fun j => congrArg₂ (fun a b : EReal => a + b) (congrArg₂ (fun a b : EReal => a + b)
      (congrFun (q0_row hw hx) j) (congrFun (q1_row hw hx) j)) (congrFun (q2_row hw hx) j)
  rw [e]
  simp only [prep, pay4_eq, pay5_eq, pay6_eq]
  rfl

/-- The second result's block: the rows' losses. -/
theorem out1_row : (outs X (prep X)).o1 (ix2 r 0) = loss (wts X) (row X.x0 r) := by
  refine (pay40_apply _ _ _ _ _ _ _ _ _ _ r).trans ?_
  have e : ∀ j, k0_pay39 (vH X (prep X)) X.x8 (prep X).s4 X.x10 (prep X).s5 X.x12 (ix2 r j) = xhat (wts X) (row X.x0 r) j :=
    out0_row hw hx
  simp only [e, l0_row hw hx, l1_row hw hx, l2_row hw hx]
  rfl

/-- The third result's block: the rows' codeword numbers. -/
theorem out2_row (s : Fin 3) : (outs X (prep X)).o2 (ix2 r s)
    = if s.val = 0 then BitVec.ofNat 32 (i0 (wts X) (row X.x0 r)).val
      else if s.val = 1 then BitVec.ofNat 32 (i1 (wts X) (row X.x0 r)).val
      else BitVec.ofNat 32 (i2 (wts X) (row X.x0 r)).val := by
  refine (pay41_apply _ _ _ r s).trans ?_
  rw [i0_row hw hx, i1_row hw hx, i2_row hw hx]

end Cert.KernelIdeal.Block
-- ==== Proof.KernelRows.lean ====
/- The kernel's result arrays, row by row: the blocks the grid reads at coordinates, and the arrays its blocks make up. -/
module

public import proofs.«01_k».proof.Proof.Run
public import proofs.«01_k».proof.Proof.Block
public import Idealize.ShloMosaic.Lib.Pipeline.ValueKit.Point

@[expose] public section

set_option maxRecDepth 16384
set_option maxHeartbeats 2000000

noncomputable section

namespace Cert.KernelIdeal.Rows

open Idealize.ShloMosaic Idealize.ShloMosaic.TcCoe
open Cert.KernelIdeal Cert.KernelIdeal.Gen Cert.KernelIdeal.Body Cert.KernelIdeal.Block Cert.Rq

variable (m : (ℓ : Loc nD τ sig) → Buf (Elt Ideal) ℓ) (c : Dev nD)

/-- An array of one axis as a function of its coordinate. -/
abbrev vec {n : ℕ} (v : (⟨1, ![n]⟩ : Shape).Idx → EReal) : Fin n → EReal := fun k => v (ix1 k)

/-- The weights the kernel is given. -/
def wts : Weights where
  eW0 := mat (m ((c.tc : Thread nD τ).loc main_arg1))
  eb0 := vec (m ((c.tc : Thread nD τ).loc main_arg2))
  eW1 := mat (m ((c.tc : Thread nD τ).loc main_arg3))
  eb1 := vec (m ((c.tc : Thread nD τ).loc main_arg4))
  eW2 := mat (m ((c.tc : Thread nD τ).loc main_arg5))
  eb2 := vec (m ((c.tc : Thread nD τ).loc main_arg6))
  dW0 := mat (m ((c.tc : Thread nD τ).loc main_arg7))
  db0 := vec (m ((c.tc : Thread nD τ).loc main_arg8))
  dW1 := mat (m ((c.tc : Thread nD τ).loc main_arg9))
  db1 := vec (m ((c.tc : Thread nD τ).loc main_arg10))
  dW2 := mat (m ((c.tc : Thread nD τ).loc main_arg11))
  db2 := vec (m ((c.tc : Thread nD τ).loc main_arg12))
  g := vec (m ((c.tc : Thread nD τ).loc main_arg13))
  b := vec (m ((c.tc : Thread nD τ).loc main_arg14))
  c0 := mat (m ((c.tc : Thread nD τ).loc main_arg15))
  c1 := mat (m ((c.tc : Thread nD τ).loc main_arg16))
  c2 := mat (m ((c.tc : Thread nD τ).loc main_arg17))

/-- The input row that row `r` of the block at point `t` holds. -/
def rowAt (t : Fin cfg0.N) (r : Fin 256) : Fin 4096 :=
  ⟨t.val * 256 + r.val, by have h1 := t.isLt; have h2 := r.isLt; have h3 : cfg0.N = 16 := N_0; omega⟩

/-! ## The blocks at coordinates -/

/-- At point `t` the window of the input is at block row `t`. -/
theorem idx0 : ∀ t : Fin cfg0.N, win0_0.index t = ![t.val, 0] := (by decide +kernel : ∀ t : Fin grid0.N, _)
/-- At point `t` the window of the decoded rows is at block row `t`. -/
theorem idx18 : ∀ t : Fin cfg0.N, win0_18.index t = ![t.val, 0] := (by decide +kernel : ∀ t : Fin grid0.N, _)
/-- At point `t` the window of the losses is at block row `t`. -/
theorem idx19 : ∀ t : Fin cfg0.N, win0_19.index t = ![t.val, 0] := (by decide +kernel : ∀ t : Fin grid0.N, _)
/-- At point `t` the window of the codeword numbers is at block row `t`. -/
theorem idx20 : ∀ t : Fin cfg0.N, win0_20.index t = ![t.val, 0] := (by decide +kernel : ∀ t : Fin grid0.N, _)
/-- The window of the first encoder matrix is the whole array at every point. -/
theorem idx1 : ∀ t : Fin cfg0.N, win0_1.index t = ![0, 0] := (by decide +kernel : ∀ t : Fin grid0.N, _)
/-- The window of the first encoder bias is the whole array at every point. -/
theorem idx2 : ∀ t : Fin cfg0.N, win0_2.index t = ![0, 0] := (by decide +kernel : ∀ t : Fin grid0.N, _)
/-- The window of the second encoder matrix is the whole array at every point. -/
theorem idx3 : ∀ t : Fin cfg0.N, win0_3.index t = ![0, 0] := (by decide +kernel : ∀ t : Fin grid0.N, _)
/-- The window of the second encoder bias is the whole array at every point. -/
theorem idx4 : ∀ t : Fin cfg0.N, win0_4.index t = ![0, 0] := (by decide +kernel : ∀ t : Fin grid0.N, _)
/-- The window of the third encoder matrix is the whole array at every point. -/
theorem idx5 : ∀ t : Fin cfg0.N, win0_5.index t = ![0, 0] := (by decide +kernel : ∀ t : Fin grid0.N, _)
/-- The window of the third encoder bias is the whole array at every point. -/
theorem idx6 : ∀ t : Fin cfg0.N, win0_6.index t = ![0, 0] := (by decide +kernel : ∀ t : Fin grid0.N, _)
/-- The window of the first decoder matrix is the whole array at every point. -/
theorem idx7 : ∀ t : Fin cfg0.N, win0_7.index t = ![0, 0] := (by decide +kernel : ∀ t : Fin grid0.N, _)
/-- The window of the first decoder bias is the whole array at every point. -/
theorem idx8 : ∀ t : Fin cfg0.N, win0_8.index t = ![0, 0] := (by decide +kernel : ∀ t : Fin grid0.N, _)
/-- The window of the second decoder matrix is the whole array at every point. -/
theorem idx9 : ∀ t : Fin cfg0.N, win0_9.index t = ![0, 0] := (by decide +kernel : ∀ t : Fin grid0.N, _)
/-- The window of the second decoder bias is the whole array at every point. -/
theorem idx10 : ∀ t : Fin cfg0.N, win0_10.index t = ![0, 0] := (by decide +kernel : ∀ t : Fin grid0.N, _)
/-- The window of the third decoder matrix is the whole array at every point. -/
theorem idx11 : ∀ t : Fin cfg0.N, win0_11.index t = ![0, 0] := (by decide +kernel : ∀ t : Fin grid0.N, _)
/-- The window of the third decoder bias is the whole array at every point. -/
theorem idx12 : ∀ t : Fin cfg0.N, win0_12.index t = ![0, 0] := (by decide +kernel : ∀ t : Fin grid0.N, _)
/-- The window of the norm's scale is the whole array at every point. -/
theorem idx13 : ∀ t : Fin cfg0.N, win0_13.index t = ![0, 0] := (by decide +kernel : ∀ t : Fin grid0.N, _)
/-- The window of the norm's shift is the whole array at every point. -/
theorem idx14 : ∀ t : Fin cfg0.N, win0_14.index t = ![0, 0] := (by decide +kernel : ∀ t : Fin grid0.N, _)
/-- The window of the first codebook is the whole array at every point. -/
theorem idx15 : ∀ t : Fin cfg0.N, win0_15.index t = ![0, 0] := (by decide +kernel : ∀ t : Fin grid0.N, _)
/-- The window of the second codebook is the whole array at every point. -/
theorem idx16 : ∀ t : Fin cfg0.N, win0_16.index t = ![0, 0] := (by decide +kernel : ∀ t : Fin grid0.N, _)
/-- The window of the third codebook is the whole array at every point. -/
theorem idx17 : ∀ t : Fin cfg0.N, win0_17.index t = ![0, 0] := (by decide +kernel : ∀ t : Fin grid0.N, _)

/-- The block of the input. -/
theorem blk0 (t : Fin cfg0.N) (r : Fin 256) (j : Fin 768) :
    (iblk m c 0 t : Vec Ideal S256x768 .f32) (ix2 r j) = m ((c.tc : Thread nD τ).loc main_arg0) (ix2 (rowAt t r) j) := by
  rw [← V_main_arg0 m c]
  blk_ext! [iblk, idx0 t, rowAt]
/-- The block of the first encoder matrix at coordinates. -/
theorem blk1 (t : Fin cfg0.N) (i : Fin 768) (j : Fin 512) :
    (iblk m c 1 t : Vec Ideal S768x512 .f32) (ix2 i j) = m ((c.tc : Thread nD τ).loc main_arg1) (ix2 i j) := by
  rw [← V_main_arg1 m c]
  blk_ext! [iblk, idx1 t]
/-- The block of the second encoder matrix at coordinates. -/
theorem blk3 (t : Fin cfg0.N) (i : Fin 512) (j : Fin 256) :
    (iblk m c 3 t : Vec Ideal S512x256 .f32) (ix2 i j) = m ((c.tc : Thread nD τ).loc main_arg3) (ix2 i j) := by
  rw [← V_main_arg3 m c]
  blk_ext! [iblk, idx3 t]
/-- The block of the third encoder matrix at coordinates. -/
theorem blk5 (t : Fin cfg0.N) (i : Fin 256) (j : Fin 32) :
    (iblk m c 5 t : Vec Ideal S256x32 .f32) (ix2 i j) = m ((c.tc : Thread nD τ).loc main_arg5) (ix2 i j) := by
  rw [← V_main_arg5 m c]
  blk_ext! [iblk, idx5 t]
/-- The block of the first decoder matrix at coordinates. -/
theorem blk7 (t : Fin cfg0.N) (i : Fin 32) (j : Fin 256) :
    (iblk m c 7 t : Vec Ideal S32x256 .f32) (ix2 i j) = m ((c.tc : Thread nD τ).loc main_arg7) (ix2 i j) := by
  rw [← V_main_arg7 m c]
  blk_ext! [iblk, idx7 t]
/-- The block of the second decoder matrix at coordinates. -/
theorem blk9 (t : Fin cfg0.N) (i : Fin 256) (j : Fin 512) :
    (iblk m c 9 t : Vec Ideal S256x512 .f32) (ix2 i j) = m ((c.tc : Thread nD τ).loc main_arg9) (ix2 i j) := by
  rw [← V_main_arg9 m c]
  blk_ext! [iblk, idx9 t]
/-- The block of the third decoder matrix at coordinates. -/
theorem blk11 (t : Fin cfg0.N) (i : Fin 512) (j : Fin 768) :
    (iblk m c 11 t : Vec Ideal S512x768 .f32) (ix2 i j) = m ((c.tc : Thread nD τ).loc main_arg11) (ix2 i j) := by
  rw [← V_main_arg11 m c]
  blk_ext! [iblk, idx11 t]
/-- The block of the first codebook at coordinates. -/
theorem blk15 (t : Fin cfg0.N) (i : Fin 8192) (j : Fin 32) :
    (iblk m c 15 t : Vec Ideal S8192x32 .f32) (ix2 i j) = m ((c.tc : Thread nD τ).loc main_arg15) (ix2 i j) := by
  rw [← V_main_arg15 m c]
  blk_ext! [iblk, idx15 t]
/-- The block of the second codebook at coordinates. -/
theorem blk16 (t : Fin cfg0.N) (i : Fin 8192) (j : Fin 32) :
    (iblk m c 16 t : Vec Ideal S8192x32 .f32) (ix2 i j) = m ((c.tc : Thread nD τ).loc main_arg16) (ix2 i j) := by
  rw [← V_main_arg16 m c]
  blk_ext! [iblk, idx16 t]
/-- The block of the third codebook at coordinates. -/
theorem blk17 (t : Fin cfg0.N) (i : Fin 8192) (j : Fin 32) :
    (iblk m c 17 t : Vec Ideal S8192x32 .f32) (ix2 i j) = m ((c.tc : Thread nD τ).loc main_arg17) (ix2 i j) := by
  rw [← V_main_arg17 m c]
  blk_ext! [iblk, idx17 t]
/-- The first encoder bias, which the host lays out as a row, at a place. -/
theorem v0_apply (j : Fin 512) : V m c main_v0 (ix2 0 j) = m ((c.tc : Thread nD τ).loc main_arg2) (ix1 j) := by
  show StableHlo.after hostOps0 (fun b => m (c, b)) (Proc.devRef .tc main_v0) (ix2 0 j) = _
  unfold hostOps0
  entry_read; pointwise
/-- The block of the first encoder bias at coordinates. -/
theorem blk2 (t : Fin cfg0.N) (j : Fin 512) :
    (iblk m c 2 t : Vec Ideal S1x512 .f32) (ix2 0 j) = m ((c.tc : Thread nD τ).loc main_arg2) (ix1 j) := by
  rw [← v0_apply m c]
  blk_ext! [iblk, idx2 t]
/-- The second encoder bias, which the host lays out as a row, at a place. -/
theorem v1_apply (j : Fin 256) : V m c main_v1 (ix2 0 j) = m ((c.tc : Thread nD τ).loc main_arg4) (ix1 j) := by
  show StableHlo.after hostOps0 (fun b => m (c, b)) (Proc.devRef .tc main_v1) (ix2 0 j) = _
  unfold hostOps0
  entry_read; pointwise
/-- The block of the second encoder bias at coordinates. -/
theorem blk4 (t : Fin cfg0.N) (j : Fin 256) :
    (iblk m c 4 t : Vec Ideal S1x256 .f32) (ix2 0 j) = m ((c.tc : Thread nD τ).loc main_arg4) (ix1 j) := by
  rw [← v1_apply m c]
  blk_ext! [iblk, idx4 t]
/-- The third encoder bias, which the host lays out as a row, at a place. -/
theorem v2_apply (j : Fin 32) : V m c main_v2 (ix2 0 j) = m ((c.tc : Thread nD τ).loc main_arg6) (ix1 j) := by
  show StableHlo.after hostOps0 (fun b => m (c, b)) (Proc.devRef .tc main_v2) (ix2 0 j) = _
  unfold hostOps0
  entry_read; pointwise
/-- The block of the third encoder bias at coordinates. -/
theorem blk6 (t : Fin cfg0.N) (j : Fin 32) :
    (iblk m c 6 t : Vec Ideal S1x32 .f32) (ix2 0 j) = m ((c.tc : Thread nD τ).loc main_arg6) (ix1 j) := by
  rw [← v2_apply m c]
  blk_ext! [iblk, idx6 t]
/-- The first decoder bias, which the host lays out as a row, at a place. -/
theorem v3_apply (j : Fin 256) : V m c main_v3 (ix2 0 j) = m ((c.tc : Thread nD τ).loc main_arg8) (ix1 j) := by
  show StableHlo.after hostOps0 (fun b => m (c, b)) (Proc.devRef .tc main_v3) (ix2 0 j) = _
  unfold hostOps0
  entry_read; pointwise
/-- The block of the first decoder bias at coordinates. -/
theorem blk8 (t : Fin cfg0.N) (j : Fin 256) :
    (iblk m c 8 t : Vec Ideal S1x256 .f32) (ix2 0 j) = m ((c.tc : Thread nD τ).loc main_arg8) (ix1 j) := by
  rw [← v3_apply m c]
  blk_ext! [iblk, idx8 t]
/-- The second decoder bias, which the host lays out as a row, at a place. -/
theorem v4_apply (j : Fin 512) : V m c main_v4 (ix2 0 j) = m ((c.tc : Thread nD τ).loc main_arg10) (ix1 j) := by
  show StableHlo.after hostOps0 (fun b => m (c, b)) (Proc.devRef .tc main_v4) (ix2 0 j) = _
  unfold hostOps0
  entry_read; pointwise
/-- The block of the second decoder bias at coordinates. -/
theorem blk10 (t : Fin cfg0.N) (j : Fin 512) :
    (iblk m c 10 t : Vec Ideal S1x512 .f32) (ix2 0 j) = m ((c.tc : Thread nD τ).loc main_arg10) (ix1 j) := by
  rw [← v4_apply m c]
  blk_ext! [iblk, idx10 t]
/-- The third decoder bias, which the host lays out as a row, at a place. -/
theorem v5_apply (j : Fin 768) : V m c main_v5 (ix2 0 j) = m ((c.tc : Thread nD τ).loc main_arg12) (ix1 j) := by
  show StableHlo.after hostOps0 (fun b => m (c, b)) (Proc.devRef .tc main_v5) (ix2 0 j) = _
  unfold hostOps0
  entry_read; pointwise
/-- The block of the third decoder bias at coordinates. -/
theorem blk12 (t : Fin cfg0.N) (j : Fin 768) :
    (iblk m c 12 t : Vec Ideal S1x768 .f32) (ix2 0 j) = m ((c.tc : Thread nD τ).loc main_arg12) (ix1 j) := by
  rw [← v5_apply m c]
  blk_ext! [iblk, idx12 t]
/-- The norm's scale, which the host lays out as a row, at a place. -/
theorem v6_apply (j : Fin 32) : V m c main_v6 (ix2 0 j) = m ((c.tc : Thread nD τ).loc main_arg13) (ix1 j) := by
  show StableHlo.after hostOps0 (fun b => m (c, b)) (Proc.devRef .tc main_v6) (ix2 0 j) = _
  unfold hostOps0
  entry_read; pointwise
/-- The block of the norm's scale at coordinates. -/
theorem blk13 (t : Fin cfg0.N) (j : Fin 32) :
    (iblk m c 13 t : Vec Ideal S1x32 .f32) (ix2 0 j) = m ((c.tc : Thread nD τ).loc main_arg13) (ix1 j) := by
  rw [← v6_apply m c]
  blk_ext! [iblk, idx13 t]
/-- The norm's shift, which the host lays out as a row, at a place. -/
theorem v7_apply (j : Fin 32) : V m c main_v7 (ix2 0 j) = m ((c.tc : Thread nD τ).loc main_arg14) (ix1 j) := by
  show StableHlo.after hostOps0 (fun b => m (c, b)) (Proc.devRef .tc main_v7) (ix2 0 j) = _
  unfold hostOps0
  entry_read; pointwise
/-- The block of the norm's shift at coordinates. -/
theorem blk14 (t : Fin cfg0.N) (j : Fin 32) :
    (iblk m c 14 t : Vec Ideal S1x32 .f32) (ix2 0 j) = m ((c.tc : Thread nD τ).loc main_arg14) (ix1 j) := by
  rw [← v7_apply m c]
  blk_ext! [iblk, idx14 t]

/-- Every point is given the same weights. -/
theorem wts_at (t : Fin cfg0.N) : Block.wts (insAt m c t) = wts m c := by
  have e1 : mat (insAt m c t).x1 = mat (m ((c.tc : Thread nD τ).loc main_arg1)) := funext fun i => funext fun j => blk1 m c t i j
  have e2 : row (insAt m c t).x2 0 = vec (m ((c.tc : Thread nD τ).loc main_arg2)) := funext fun j => blk2 m c t j
  have e3 : mat (insAt m c t).x3 = mat (m ((c.tc : Thread nD τ).loc main_arg3)) := funext fun i => funext fun j => blk3 m c t i j
  have e4 : row (insAt m c t).x4 0 = vec (m ((c.tc : Thread nD τ).loc main_arg4)) := funext fun j => blk4 m c t j
  have e5 : mat (insAt m c t).x5 = mat (m ((c.tc : Thread nD τ).loc main_arg5)) := funext fun i => funext fun j => blk5 m c t i j
  have e6 : row (insAt m c t).x6 0 = vec (m ((c.tc : Thread nD τ).loc main_arg6)) := funext fun j => blk6 m c t j
  have e7 : mat (insAt m c t).x7 = mat (m ((c.tc : Thread nD τ).loc main_arg7)) := funext fun i => funext fun j => blk7 m c t i j
  have e8 : row (insAt m c t).x8 0 = vec (m ((c.tc : Thread nD τ).loc main_arg8)) := funext fun j => blk8 m c t j
  have e9 : mat (insAt m c t).x9 = mat (m ((c.tc : Thread nD τ).loc main_arg9)) := funext fun i => funext fun j => blk9 m c t i j
  have e10 : row (insAt m c t).x10 0 = vec (m ((c.tc : Thread nD τ).loc main_arg10)) := funext fun j => blk10 m c t j
  have e11 : mat (insAt m c t).x11 = mat (m ((c.tc : Thread nD τ).loc main_arg11)) := funext fun i => funext fun j => blk11 m c t i j
  have e12 : row (insAt m c t).x12 0 = vec (m ((c.tc : Thread nD τ).loc main_arg12)) := funext fun j => blk12 m c t j
  have e13 : row (insAt m c t).x13 0 = vec (m ((c.tc : Thread nD τ).loc main_arg13)) := funext fun j => blk13 m c t j
  have e14 : row (insAt m c t).x14 0 = vec (m ((c.tc : Thread nD τ).loc main_arg14)) := funext fun j => blk14 m c t j
  have e15 : mat (insAt m c t).x15 = mat (m ((c.tc : Thread nD τ).loc main_arg15)) := funext fun i => funext fun j => blk15 m c t i j
  have e16 : mat (insAt m c t).x16 = mat (m ((c.tc : Thread nD τ).loc main_arg16)) := funext fun i => funext fun j => blk16 m c t i j
  have e17 : mat (insAt m c t).x17 = mat (m ((c.tc : Thread nD τ).loc main_arg17)) := funext fun i => funext fun j => blk17 m c t i j
  unfold Block.wts wts
  simp only [e1, e2, e3, e4, e5, e6, e7, e8, e9, e10, e11, e12, e13, e14, e15, e16, e17]

/-- Every point prepares the same tables. -/
theorem prep_at (t : Fin cfg0.N) : prep (insAt m c t) = scrAll m c := by
  have e1 : (insAt m c t).x1 = (insAt m c pt0).x1 := funext fun i => by
    idx_vars i; exact (blk1 m c t _ _).trans (blk1 m c pt0 _ _).symm
  have e3 : (insAt m c t).x3 = (insAt m c pt0).x3 := funext fun i => by
    idx_vars i; exact (blk3 m c t _ _).trans (blk3 m c pt0 _ _).symm
  have e5 : (insAt m c t).x5 = (insAt m c pt0).x5 := funext fun i => by
    idx_vars i; exact (blk5 m c t _ _).trans (blk5 m c pt0 _ _).symm
  have e7 : (insAt m c t).x7 = (insAt m c pt0).x7 := funext fun i => by
    idx_vars i; exact (blk7 m c t _ _).trans (blk7 m c pt0 _ _).symm
  have e9 : (insAt m c t).x9 = (insAt m c pt0).x9 := funext fun i => by
    idx_vars i; exact (blk9 m c t _ _).trans (blk9 m c pt0 _ _).symm
  have e11 : (insAt m c t).x11 = (insAt m c pt0).x11 := funext fun i => by
    idx_vars i; exact (blk11 m c t _ _).trans (blk11 m c pt0 _ _).symm
  have e15 : (insAt m c t).x15 = (insAt m c pt0).x15 := funext fun i => by
    idx_vars i; exact (blk15 m c t _ _).trans (blk15 m c pt0 _ _).symm
  have e16 : (insAt m c t).x16 = (insAt m c pt0).x16 := funext fun i => by
    idx_vars i; exact (blk16 m c t _ _).trans (blk16 m c pt0 _ _).symm
  have e17 : (insAt m c t).x17 = (insAt m c pt0).x17 := funext fun i => by
    idx_vars i; exact (blk17 m c t _ _).trans (blk17 m c pt0 _ _).symm
  unfold scrAll prep
  rw [e1, e3, e5, e7, e9, e11, e15, e16, e17]

/-! ## The result arrays -/

/-- The decoded rows. -/
def outX : Buf (Elt Ideal) ((c.tc : Thread nD τ).loc main_v8_0) := fun i =>
  xhat (wts m c) (row (m ((c.tc : Thread nD τ).loc main_arg0)) (i 0)) (i 1)
/-- The rows' losses. -/
def outL : Buf (Elt Ideal) ((c.tc : Thread nD τ).loc main_v8_1) := fun i =>
  loss (wts m c) (row (m ((c.tc : Thread nD τ).loc main_arg0)) (i 0))
/-- The rows' codeword numbers. -/
def outI : Buf (Elt Ideal) ((c.tc : Thread nD τ).loc main_v8_2) := fun i =>
  if (i 1).val = 0 then BitVec.ofNat 32 (i0 (wts m c) (row (m ((c.tc : Thread nD τ).loc main_arg0)) (i 0))).val
  else if (i 1).val = 1 then BitVec.ofNat 32 (i1 (wts m c) (row (m ((c.tc : Thread nD τ).loc main_arg0)) (i 0))).val
  else BitVec.ofNat 32 (i2 (wts m c) (row (m ((c.tc : Thread nD τ).loc main_arg0)) (i 0))).val

variable {m c} (hw : (wts m c).Real) (hx : ∀ i, IsReal (m ((c.tc : Thread nD τ).loc main_arg0) i))

/-- A row of the block at point `t` is a row of the input. -/
theorem row_at (t : Fin cfg0.N) (r : Fin 256) : row (insAt m c t).x0 r = row (m ((c.tc : Thread nD τ).loc main_arg0)) (rowAt t r) :=
  funext fun j => blk0 m c t r j

include hw hx

/-- The decoded rows that point `t` makes. -/
theorem o0_at (t : Fin cfg0.N) (r : Fin 256) (j : Fin 768) : (outsAt m c t).o0 (ix2 r j) = outX m c (ix2 (rowAt t r) j) := by
  have h := out0_row (X := insAt m c t) (r := r) ((wts_at m c t).symm ▸ hw) (fun j => by rw [show (insAt m c t).x0 (ix2 r j) = _ from blk0 m c t r j]; exact hx _) j
  rw [prep_at, wts_at, row_at] at h
  exact h
/-- The losses that point `t` makes. -/
theorem o1_at (t : Fin cfg0.N) (r : Fin 256) (s : Fin 1) : (outsAt m c t).o1 (ix2 r s) = outL m c (ix2 (rowAt t r) s) := by
  obtain rfl : s = 0 := Subsingleton.elim _ _
  have h := out1_row (X := insAt m c t) (r := r) ((wts_at m c t).symm ▸ hw) (fun j => by rw [show (insAt m c t).x0 (ix2 r j) = _ from blk0 m c t r j]; exact hx _)
  rw [prep_at, wts_at, row_at] at h
  exact h
/-- The codeword numbers that point `t` makes. -/
theorem o2_at (t : Fin cfg0.N) (r : Fin 256) (s : Fin 3) : (outsAt m c t).o2 (ix2 r s) = outI m c (ix2 (rowAt t r) s) := by
  have h := out2_row (X := insAt m c t) (r := r) ((wts_at m c t).symm ▸ hw) (fun j => by rw [show (insAt m c t).x0 (ix2 r j) = _ from blk0 m c t r j]; exact hx _) s
  rw [prep_at, wts_at, row_at] at h
  exact h

/-- After the run the first result holds the decoded rows. -/
theorem final0 : (dats m 0 c).arrAt 18 cfg0.N = outX m c := by
  refine (dats m 0 c).arrAt_eq_of_covers 18 _ (by decide +kernel) fun t hf y => ?_
  blk_simp
  rw [after_18]
  idx_vars y
  refine (o0_at hw hx t _ _).trans ?_
  blk_ext [idx18 t, rowAt]
/-- The second holds their losses. -/
theorem final1 : (dats m 0 c).arrAt 19 cfg0.N = outL m c := by
  refine (dats m 0 c).arrAt_eq_of_covers 19 _ (by decide +kernel) fun t hf y => ?_
  blk_simp
  rw [after_19]
  idx_vars y
  refine (o1_at hw hx t _ _).trans ?_
  blk_ext [idx19 t, rowAt]
/-- The third holds their codeword numbers. -/
theorem final2 : (dats m 0 c).arrAt 20 cfg0.N = outI m c := by
  refine (dats m 0 c).arrAt_eq_of_covers 20 _ (by decide +kernel) fun t hf y => ?_
  blk_simp
  rw [after_20]
  idx_vars y
  refine (o2_at hw hx t _ _).trans ?_
  blk_ext [idx20 t, rowAt]

omit hw hx in
/-- The last buffer @main makes is the losses' array as a vector. -/
theorem v9_eq : Pipeline.afterTail₀ cfgs (dats m) 0 (V0 m) [hostOps1] c main_v9
    = shapeCast S4096 ((dats m 0 c).arrAt 19 cfg0.N) shapeCasts_S4096x1_S4096 := by
  unfold Pipeline.afterTail₀
  show StableHlo.after hostOps1 _ (Proc.devRef .tc main_v9) = _
  unfold hostOps1
  simp only [StableHlo.after_cons, StableHlo.after_nil]
  rw [StableHlo.reshape_result']
  exact congrArg (fun v => shapeCast S4096 v shapeCasts_S4096x1_S4096)
    (Pipeline.withArrays_arr spec0 (by decide) c (V0 m c) (fun w => (dats m 0 c).arrAt w cfg0.N) 19)

/-- The losses as a vector. -/
def outLv (m : (ℓ : Loc nD τ sig) → Buf (Elt Ideal) ℓ) (c : Dev nD) : Buf (Elt Ideal) ((c.tc : Thread nD τ).loc main_v9) := fun i =>
  loss (wts m c) (row (m ((c.tc : Thread nD τ).loc main_arg0)) (i 0))

/-- After the run the losses' vector holds the rows' losses. -/
theorem final9 : Pipeline.afterTail₀ cfgs (dats m) 0 (V0 m) [hostOps1] c main_v9 = outLv m c := by
  rw [v9_eq, final1 hw hx]
  funext i
  idx_vars i
  pointwise
  rfl

/-- What the run leaves in the three results. -/
theorem results {r} (h : Pipeline.FramePost cfgs (dats m) 0 (Pipeline.afterTail₀ cfgs (dats m) 0 (V0 m) [hostOps1]) r) :
    r.2.mem ((c.tc : Thread nD τ).loc main_v8_0) = outX m c
    ∧ r.2.mem ((c.tc : Thread nD τ).loc main_v9) = outLv m c
    ∧ r.2.mem ((c.tc : Thread nD τ).loc main_v8_2) = outI m c :=
  ⟨((h c).1 18).trans (final0 hw hx),
    ((h c).2 main_v9 (Pipeline.mem_restRefs_of main_v9 (by decide) (by decide))).trans (final9 hw hx),
    ((h c).1 20).trans (final2 hw hx)⟩

end Cert.KernelIdeal.Rows

end
-- ==== Proof.Finite.lean ====
/- What the precondition says of the arguments: the inputs, the encoder's weights and the codebooks hold real numbers. -/
module

public import proofs.«01_k».proof.Defs
public import proofs.«01_k».proof.Proof.Gen.Pre_finite_and_no_tie
public import proofs.«01_k».proof.Proof.KernelRows

@[expose] public section

set_option maxRecDepth 16384

noncomputable section

namespace Cert.Finite

open Idealize.ShloMosaic Cert.Rq Cert.KernelIdeal Cert.KernelIdeal.Rows

/-- A number whose absolute value is below infinity is real. -/
theorem real_of_lt {v : EReal} (h : Ideal.cmp .olt (max v (-v)) (Ideal.ofBits .f32 0x7F800000#32) = 1#1) : IsReal v := by
  have e : Ideal.ofBits .f32 0x7F800000#32 = ⊤ := by simp [Ideal.ofBits, Ideal.ieee]
  have h' : max v (-v) < ⊤ := by
    by_contra hn
    rw [e] at h
    simp [Ideal.cmp, hn] at h
  refine IsReal.of_ne (fun hv => ?_) (fun hv => ?_)
  · subst hv; simp at h'
  · subst hv; simp at h'

/-- An array below infinity everywhere in absolute value holds real numbers. -/
theorem real_of {s : Shape} (a : FVec Ideal s .f32) (hb : (⟨0, ![]⟩ : Shape).BroadcastsInDim s (![] : Fin 0 → Fin s.rank))
    (h : cmpf .olt (Host.absf a) (broadcastInDim s ![] hb (constant ⟨0, ![]⟩ .f32 0x7F800000#32)) = fun _ => 1#1) (i : s.Idx) :
    IsReal (a i) :=
  real_of_lt (congrFun h i)

variable (m : (ℓ : Loc nD τ sig) → Buf (Elt Ideal) ℓ)
  (h : Cert.Pre_KernelIdeal (hPre_finite_and_no_tie := Cert.Pre_finite_and_no_tie.Gen.facts) m) (c : Dev nD)
include h

/-- The inputs are real. -/
theorem x_real (i : S4096x768.Idx) : IsReal (m ((c.tc : Thread nD τ).loc main_arg0) i) := real_of _ _ (h c).1 i

/-- The encoder's weights and the codebooks are real. -/
theorem wts_real : (wts m c).Real where
  eW0 _ _ := real_of _ _ (h c).2.1 _
  eb0 _ := real_of _ _ (h c).2.2.1 _
  eW1 _ _ := real_of _ _ (h c).2.2.2.1 _
  eb1 _ := real_of _ _ (h c).2.2.2.2.1 _
  eW2 _ _ := real_of _ _ (h c).2.2.2.2.2.1 _
  eb2 _ := real_of _ _ (h c).2.2.2.2.2.2.1 _
  g _ := real_of _ _ (h c).2.2.2.2.2.2.2.1 _
  b _ := real_of _ _ (h c).2.2.2.2.2.2.2.2.1 _
  c0 _ _ := real_of _ _ (h c).2.2.2.2.2.2.2.2.2.1 _
  c1 _ _ := real_of _ _ (h c).2.2.2.2.2.2.2.2.2.2.1 _
  c2 _ _ := real_of _ _ (h c).2.2.2.2.2.2.2.2.2.2.2.1 _

end Cert.Finite

end
-- ==== Proof.RefRows.lean ====
/- What the reference computes, read at a row: each stage of the function as the row function of the mathematics. -/
module

public import proofs.«01_k».proof.Proof.RefEqs
public import proofs.«01_k».proof.Proof.Spec
public import Idealize.ShloMosaic.Lib.ReduceAll

@[expose] public section

set_option maxRecDepth 16384

noncomputable section

namespace Cert.ReferenceIdeal.RefRows

open Cert.ReferenceIdeal Cert.ReferenceIdeal.Gen Cert.ReferenceIdeal.RefRun Cert.Rq Idealize.ShloMosaic
open Idealize.ShloMosaic.TcCoe Idealize.SL.Sem Idealize.ShloMosaic.StableHlo

/-- Row `r` of an array of two axes. -/
abbrev row {m n : ℕ} (v : (⟨2, ![m, n]⟩ : Shape).Idx → EReal) (r : Fin m) : Fin n → EReal := fun k => v (ix2 r k)
/-- An array of two axes as a function of its two coordinates. -/
abbrev mat {m n : ℕ} (v : (⟨2, ![m, n]⟩ : Shape).Idx → EReal) : Fin m → Fin n → EReal := fun i k => v (ix2 i k)
/-- An array of one axis as a function of its coordinate. -/
abbrev vec {n : ℕ} (v : (⟨1, ![n]⟩ : Shape).Idx → EReal) : Fin n → EReal := fun k => v (ix1 k)

/-! ## One quantiser stage, as the reference composes it -/

/-- The table of distances. -/
def distOps (res : FVec Ideal S4096x32 .f32) (cb : FVec Ideal S8192x32 .f32) : FVec Ideal S4096x8192 .f32 :=
  addf
    (subf
      (broadcastInDim S4096x8192 ![0, 1] bcast_S4096x1_S4096x8192_0_1
        (broadcastInDim S4096x1 ![0] bcast_S4096_S4096x1_0
          (Host.reduceAdd (mulf res res) (constant S_ .f32 0x00000000#32) reducesTo_S4096x32_S4096_d1 h_S_)))
      (mulf (broadcastInDim S4096x8192 ![] bcast_S_S4096x8192 (constant S_ .f32 0x40000000#32))
        (Host.dotGeneral dot_S4096x32_S32x8192_S4096x8192_1_0_0_1_n_n none res
          (transpose S32x8192 [1, 0] cb transposes_S8192x32_S32x8192_1_0))))
    (broadcastInDim S4096x8192 ![0, 1] bcast_S1x8192_S4096x8192_0_1
      (broadcastInDim S1x8192 ![1] bcast_S8192_S1x8192_1
        (Host.reduceAdd (mulf cb cb) (constant S_ .f32 0x00000000#32) reducesTo_S8192x32_S8192_d1 h_S_)))

/-- The table's entries are the row's distances. -/
theorem distOps_apply (res : FVec Ideal S4096x32 .f32) (cb : FVec Ideal S8192x32 .f32) (i : Fin 4096) (k : Fin 8192) :
    distOps res cb (ix2 i k) = dist (row res i) (mat cb) k := by
  pointwise [distOps]
  rfl

/-- The reference's choice between two pairs takes the earlier. -/
theorem reducer_choice (a b : EReal × BitVec 32) :
    (reducer_argmin_f32_i32 (F := Ideal) a b = a ∧ Le a b) ∨ (reducer_argmin_f32_i32 (F := Ideal) a b = b ∧ Le b a) := by
  obtain ⟨a1, a2⟩ := a
  obtain ⟨b1, b2⟩ := b
  unfold reducer_argmin_f32_i32 Le
  simp only [Ideal.cmpf_def, Ideal.cmp, IntOp.ori, IntOp.andi, IntOp.cmpi, Scalar.select, BitVec.slt]
  rcases lt_trichotomy a1 b1 with h | h | h
  · left; simp [h, h.ne]
  · subst h
    by_cases h2 : a2.toInt < b2.toInt
    · left; simp [h2]; omega
    · right; simp [h2]; omega
  · right; simp [h, h.ne', not_lt.2 h.le]

/-- The word of plus infinity is the top of the extended reals. -/
theorem inf_eq : Ideal.ofBits .f32 0x7F800000#32 = (⊤ : EReal) := by
  simp [Ideal.ofBits, Ideal.ieee]

/-- The reference's search along a row ends at the row's least entry. -/
theorem search_row (d : FVec Ideal S4096x8192 .f32) (y : IVec S4096x8192 32) (ix : FVec Ideal S_ .f32) (iy : IVec S_ 32)
    (hy : ∀ i, y i = BitVec.ofNat 32 (i 1).val) (hix : ∀ i, ix i = Ideal.ofBits .f32 0x7F800000#32) (hiy : ∀ i, iy i = 0#32) (i : Fin 4096) :
    (Host.argReduce (F := Ideal) (reducer_argmin_f32_i32 (F := Ideal)) d y ix iy reducesTo_S4096x8192_S4096_d1 h_S_ (ix1 i)).2
      = BitVec.ofNat 32 (nearest (row d i)).val :=
  argReduce_nearest (u := S_) (reducer_argmin_f32_i32 (F := Ideal)) reducer_choice reducesTo_S4096x8192_S4096_d1 d
    y hy ix iy h_S_ (fun i => (hix i).trans inf_eq) hiy (ix1 i)

/-- The index words the look-up reads: a negative one gets the length added. -/
def wrapOps (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 8192#32))) idx)

/-- The look-up: rows of the codebook, with a fill for what is out of range. -/
def takeOps (idx : IVec S4096 32) (cb : FVec Ideal S8192x32 .f32) : FVec Ideal S4096x32 .f32 :=
  select
    (broadcastInDim S4096x32 ![0] bcast_S4096_S4096x32_0
      (Host.reduce IntOp.andi
        (andi (cmpi .sge (wrapOps idx) (broadcastInDim S4096x1 ![] bcast_S_S4096x1 (constantI S_ 32 0#32)))
          (cmpi .sle (wrapOps idx) (broadcastInDim S4096x1 ![0, 1] bcast_S1x1_S4096x1_0_1
            (broadcastInDim S1x1 ![1] bcast_S1_S1x1_1 (constantI S1 32 8191#32)))))
        (constantI S_ 1 1#1) reducesTo_S4096x1_S4096_d1 h_S_))
    (Host.gather gather_S8192x32_S4096x1_S4096x32_1_0_n_n_0_1_132 cb (wrapOps idx))
    (broadcastInDim S4096x32 ![] bcast_S_S4096x32 (constant S_ .f32 0x7FC00000#32))

/-- An index in range is not wrapped. -/
theorem wrapOps_apply (idx : IVec S4096 32) (i : Fin 4096) (k : Fin 8192) (h : idx (ix1 i) = BitVec.ofNat 32 k.val) :
    wrapOps idx (ix2 i 0) = BitVec.ofNat 32 k.val := by
  pointwise [wrapOps]
  rw [h]
  have : (BitVec.ofNat 32 k.val).toInt = k.val := toInt_ofNat_small k.isLt
  have h0 : IntOp.cmpi .slt (BitVec.ofNat 32 k.val) 0#32 = 0#1 := by
    simp only [IntOp.cmpi, BitVec.slt, this]
    have h2 : ¬ ((k.val : ℤ) < (0#32 : BitVec 32).toInt) := by
      show ¬ ((k.val : ℤ) < 0)
      omega
    rw [decide_eq_false h2]
    rfl
  rw [h0]
  rfl

/-- The gather of rows, read at an entry: the row at the index word, read signed and clamped. -/
theorem gather_rows (cb : FVec Ideal S8192x32 .f32) (idx : IVec S4096x1 32) (i : Fin 4096) (j : Fin 32) :
    Host.gather gather_S8192x32_S4096x1_S4096x32_1_0_n_n_0_1_132 cb idx (ix2 i j)
      = cb (ix2 ⟨min (idx (ix2 i 0)).toInt.toNat (8192 - 1), by omega⟩ j) := by
  unfold Host.gather
  congr 1
  funext a
  refine Fin.ext ?_
  set d := gather_S8192x32_S4096x1_S4096x32_1_0_n_n_0_1_132 with hd
  show d.start (ix2 i j) idx a + d.batchCoord (ix2 i j) a + d.offCoord (ix2 i j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (show (0 : Fin 2) ∉ d.operandBatchingDims from List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 i j) ⟨List.idxOf (0 : Fin 2) d.startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · rw [GatherDims.batchCoord_eq_zero _ _ _ (show (1 : Fin 2) ∉ d.operandBatchingDims from List.not_mem_nil)]
    have hs : d.start (ix2 i j) idx 1 = 0 := by
      unfold GatherDims.start
      rw [dif_neg (show ¬ (1 : Fin 2) ∈ d.startIndexMap by decide)]
    rw [hs]
    simp only [Nat.zero_add, Nat.add_zero]
    unfold GatherDims.offCoord
    rw [dif_pos (show (1 : Fin 2) ∈ d.sKept from (GatherDims.mem_sKept _ _).mpr ⟨by decide, List.not_mem_nil⟩)]
    rfl

/-- A look-up whose index words are all in range reads the row named. -/
theorem takeOps_apply (idx : IVec S4096 32) (cb : FVec Ideal S8192x32 .f32) (k : Fin 4096 → Fin 8192)
    (h : ∀ i, idx (ix1 i) = BitVec.ofNat 32 (k i).val) (i : Fin 4096) (j : Fin 32) :
    takeOps idx cb (ix2 i j) = cb (ix2 (k i) j) := by
  have hI : ∀ i, (BitVec.ofNat 32 (k i).val).toInt = (k i).val := fun i => toInt_ofNat_small (k i).isLt
  unfold takeOps
  rw [show ∀ (c : IVec S4096x32 1) (a b : FVec Ideal S4096x32 .f32), select c a b (ix2 i j) = Scalar.select (c (ix2 i j)) (a (ix2 i j)) (b (ix2 i j)) from fun _ _ _ => rfl]
  have hc : ∀ (x : IVec S4096x1 1), (∀ i, x i = 1#1) →
      broadcastInDim S4096x32 ![0] bcast_S4096_S4096x32_0
        (Host.reduce IntOp.andi x (constantI S_ 1 1#1) reducesTo_S4096x1_S4096_d1 h_S_) (ix2 i j) = 1#1 := by
    intro x hx
    exact Host.reduce_andi_one x (constantI S_ 1 1#1) reducesTo_S4096x1_S4096_d1 h_S_ _ rfl hx
  rw [hc, gather_rows]
  · show cb _ = cb _
    refine congrArg (fun q => cb (ix2 q j)) (Fin.ext ?_)
    show min (wrapOps idx (ix2 i 0)).toInt.toNat (8192 - 1) = (k i).val
    rw [wrapOps_apply idx i (k i) (h i), hI]
    have := (k i).isLt
    omega
  · intro y
    obtain ⟨a, b, rfl⟩ : ∃ (a : Fin 4096) (b : Fin 1), y = ix2 a b := ⟨y 0, y 1, eq_ix2 y⟩
    obtain rfl : b = 0 := Subsingleton.elim _ _
    have h1 : IntOp.cmpi .sge (BitVec.ofNat 32 (k a).val) 0#32 = 1#1 := by
      simp only [IntOp.cmpi, BitVec.sle, hI]
      rw [decide_eq_true (show (0#32 : BitVec 32).toInt ≤ ((k a).val : ℤ) from Int.natCast_nonneg _)]
      rfl
    have h2 : IntOp.cmpi .sle (BitVec.ofNat 32 (k a).val) 8191#32 = 1#1 := by
      simp only [IntOp.cmpi, BitVec.sle, hI]
      have : ((k a).val : ℤ) ≤ (8191#32 : BitVec 32).toInt := by
        have := (k a).isLt
        show ((k a).val : ℤ) ≤ 8191
        omega
      rw [decide_eq_true this]
      rfl
    pointwise
    rw [wrapOps_apply idx a (k a) (h a), h1, h2]
    rfl

/-- The mean squared difference of two arrays' rows. -/
def mseOps (a b : FVec Ideal S4096x32 .f32) : FVec Ideal S4096 .f32 :=
  Host.divf (Host.reduceAdd (mulf (subf a b) (subf a b)) (constant S_ .f32 0x00000000#32) reducesTo_S4096x32_S4096_d1 h_S_)
    (broadcastInDim S4096 ![] bcast_S_S4096 (constant S_ .f32 0x42000000#32))

/-- Its entries are the mean squared differences of the rows. -/
theorem mseOps_apply (a b : FVec Ideal S4096x32 .f32) (i : Fin 4096) : mseOps a b (ix1 i) = mse (row a i) (row b i) := by
  pointwise [mseOps]
  rfl

/-! ## The stages' buffers as those compositions -/

variable (V : Valuation τ sig (Elt Ideal))

/-- The first stage's distances. -/
theorem v46_ops : v46 V = distOps (v31 V) (arg15 V) := by
  rw [v46_eq, v41_eq, v45_eq, v40_eq, v39_eq, v44_eq, v35_eq, v38_eq, v37_eq, v43_eq, v34_eq, cst_4_eq, v36_eq, v42_eq, cst_5_eq, v33_eq, cst_3_eq]
  rfl
/-- The first stage's codeword numbers are the first least places of its distances. -/
theorem v47_row (i : Fin 4096) : v47 V (ix1 i) = BitVec.ofNat 32 (nearest (row (v46 V) i)).val :=
  (congrFun (v47_eq V) (ix1 i)).trans
    (search_row (v46 V) (call3_v0 V) (call3_cst V) (call3_c V) (fun _ => by rw [call3_v0_eq]; rfl)
      (fun _ => by rw [call3_cst_eq]; rfl) (fun _ => by rw [call3_c_eq]; rfl) i)
/-- The first stage's codewords are taken from its codebook by number. -/
theorem v48_ops : v48 V = takeOps (v47 V) (arg15 V) := by
  have h : call4_v5 V = wrapOps (v47 V) := by
    rw [call4_v5_eq, call4_v4_eq, call4_v3_eq, call4_v2_eq, call4_c_0_eq, call4_v1_eq, call4_v0_eq, call4_c_eq]
    rfl
  rw [v48_eq, call4_v15_eq, call4_cst_eq, call4_v14_eq, call4_v13_eq, call4_v12_eq, call4_c_3_eq, call4_v11_eq,
    call4_v10_eq, call4_v9_eq, call4_v8_eq, call4_v7_eq, call4_v6_eq, call4_c_2_eq, call4_c_1_eq, h]
  rfl
/-- The first stage's codebook loss. -/
theorem v53_ops : v53 V = mseOps (v31 V) (v48 V) := by
  rw [v53_eq, v51_eq, v52_eq, v50_eq, cst_6_eq, cst_7_eq, v49_eq]
  rfl
/-- The first stage's commitment loss, before its weight. -/
theorem v58_ops : v58 V = mseOps (v31 V) (v48 V) := by
  rw [v58_eq, v56_eq, v57_eq, v55_eq, cst_8_eq, cst_9_eq, v54_eq]
  rfl

/-- The second stage's distances. -/
theorem v79_ops : v79 V = distOps (v64 V) (arg16 V) := by
  rw [v79_eq, v74_eq, v78_eq, v73_eq, v72_eq, v77_eq, v68_eq, v71_eq, v70_eq, v76_eq, v67_eq, cst_12_eq, v69_eq, v75_eq, cst_13_eq, v66_eq, cst_11_eq]
  rfl
/-- The second stage's codeword numbers are the first least places of its distances. -/
theorem v80_row (i : Fin 4096) : v80 V (ix1 i) = BitVec.ofNat 32 (nearest (row (v79 V) i)).val :=
  (congrFun (v80_eq V) (ix1 i)).trans
    (search_row (v79 V) (call5_v0 V) (call5_cst V) (call5_c V) (fun _ => by rw [call5_v0_eq]; rfl)
      (fun _ => by rw [call5_cst_eq]; rfl) (fun _ => by rw [call5_c_eq]; rfl) i)
/-- The second stage's codewords are taken from its codebook by number. -/
theorem v81_ops : v81 V = takeOps (v80 V) (arg16 V) := by
  have h : call6_v5 V = wrapOps (v80 V) := by
    rw [call6_v5_eq, call6_v4_eq, call6_v3_eq, call6_v2_eq, call6_c_0_eq, call6_v1_eq, call6_v0_eq, call6_c_eq]
    rfl
  rw [v81_eq, call6_v15_eq, call6_cst_eq, call6_v14_eq, call6_v13_eq, call6_v12_eq, call6_c_3_eq, call6_v11_eq,
    call6_v10_eq, call6_v9_eq, call6_v8_eq, call6_v7_eq, call6_v6_eq, call6_c_2_eq, call6_c_1_eq, h]
  rfl
/-- The second stage's codebook loss. -/
theorem v86_ops : v86 V = mseOps (v64 V) (v81 V) := by
  rw [v86_eq, v84_eq, v85_eq, v83_eq, cst_14_eq, cst_15_eq, v82_eq]
  rfl
/-- The second stage's commitment loss, before its weight. -/
theorem v91_ops : v91 V = mseOps (v64 V) (v81 V) := by
  rw [v91_eq, v89_eq, v90_eq, v88_eq, cst_16_eq, cst_17_eq, v87_eq]
  rfl

/-- The third stage's distances. -/
theorem v112_ops : v112 V = distOps (v97 V) (arg17 V) := by
  rw [v112_eq, v107_eq, v111_eq, v106_eq, v105_eq, v110_eq, v101_eq, v104_eq, v103_eq, v109_eq, v100_eq, cst_20_eq, v102_eq, v108_eq, cst_21_eq, v99_eq, cst_19_eq]
  rfl
/-- The third stage's codeword numbers are the first least places of its distances. -/
theorem v113_row (i : Fin 4096) : v113 V (ix1 i) = BitVec.ofNat 32 (nearest (row (v112 V) i)).val :=
  (congrFun (v113_eq V) (ix1 i)).trans
    (search_row (v112 V) (call7_v0 V) (call7_cst V) (call7_c V) (fun _ => by rw [call7_v0_eq]; rfl)
      (fun _ => by rw [call7_cst_eq]; rfl) (fun _ => by rw [call7_c_eq]; rfl) i)
/-- The third stage's codewords are taken from its codebook by number. -/
theorem v114_ops : v114 V = takeOps (v113 V) (arg17 V) := by
  have h : call8_v5 V = wrapOps (v113 V) := by
    rw [call8_v5_eq, call8_v4_eq, call8_v3_eq, call8_v2_eq, call8_c_0_eq, call8_v1_eq, call8_v0_eq, call8_c_eq]
    rfl
  rw [v114_eq, call8_v15_eq, call8_cst_eq, call8_v14_eq, call8_v13_eq, call8_v12_eq, call8_c_3_eq, call8_v11_eq,
    call8_v10_eq, call8_v9_eq, call8_v8_eq, call8_v7_eq, call8_v6_eq, call8_c_2_eq, call8_c_1_eq, h]
  rfl
/-- The third stage's codebook loss. -/
theorem v119_ops : v119 V = mseOps (v97 V) (v114 V) := by
  rw [v119_eq, v117_eq, v118_eq, v116_eq, cst_22_eq, cst_23_eq, v115_eq]
  rfl
/-- The third stage's commitment loss, before its weight. -/
theorem v124_ops : v124 V = mseOps (v97 V) (v114 V) := by
  rw [v124_eq, v122_eq, v123_eq, v121_eq, cst_24_eq, cst_25_eq, v120_eq]
  rfl

/-! ## The reference, row by row -/

/-- The weights the reference is given. -/
def wts : Weights where
  eW0 := mat (arg1 V)
  eb0 := vec (arg2 V)
  eW1 := mat (arg3 V)
  eb1 := vec (arg4 V)
  eW2 := mat (arg5 V)
  eb2 := vec (arg6 V)
  dW0 := mat (arg7 V)
  db0 := vec (arg8 V)
  dW1 := mat (arg9 V)
  db1 := vec (arg10 V)
  dW2 := mat (arg11 V)
  db2 := vec (arg12 V)
  g := vec (arg13 V)
  b := vec (arg14 V)
  c0 := mat (arg15 V)
  c1 := mat (arg16 V)
  c2 := mat (arg17 V)

variable (i : Fin 4096)

/-- The encoder's output of a row. -/
theorem enc_row : row (v13 V) i = mlp (row (arg0 V) i) (mat (arg1 V)) (vec (arg2 V)) (mat (arg3 V)) (vec (arg4 V)) (mat (arg5 V)) (vec (arg6 V)) := by
  funext j
  pointwise [row, v13_eq, v10_eq, v12_eq, v9_eq, v11_eq, v8_eq, call1_v0_eq, v5_eq, v7_eq, call1_cst_eq, v4_eq, v6_eq, v3_eq, call0_v0_eq, v0_eq, v2_eq, call0_cst_eq, v1_eq, mlp, lin, relu, mat, vec]

/-- The centred output. -/
theorem centre_row (j : Fin 32) : v20 V (ix2 i j) = center (row (v13 V) i) j := by
  pointwise [v20_eq, v19_eq, v17_eq, v15_eq, v16_eq, v14_eq, cst_0_eq, cst_eq, center]

/-- The centred output, as the variance computes it again. -/
theorem vcentre_row (j : Fin 32) : call2_v5 V (ix2 i j) = center (row (v13 V) i) j := by
  pointwise [call2_v5_eq, call2_v4_eq, call2_v3_eq, call2_v1_eq, call2_v2_eq, call2_v0_eq, call2_cst_0_eq, call2_cst_eq, center]

/-- The number of entries less no degree of freedom is 32, which is positive. -/
theorem count_eq : call2_v8 V ix0 = c32 := by
  pointwise [call2_v8_eq, call2_cst_1_eq, call2_v7_eq, c_eq]
  show c32 - (((0#32 : BitVec 32).toInt : ℝ) : EReal) = c32
  simp
/-- The variance's divisor is positive. -/
theorem count_pos : call2_v13 V ix0 = 1#1 := by
  pointwise [call2_v13_eq, call2_cst_3_eq]
  rw [count_eq, c32_eq]
  rw [decide_eq_true (show (0 : EReal) < ((32 : ℝ) : EReal) by exact_mod_cast (by norm_num : (0:ℝ) < 32))]
  rfl

/-- The variance of a row. -/
theorem var_row : v18 V (ix2 i 0) = Ideal.div (∑ k, center (row (v13 V) i) k * center (row (v13 V) i) k) c32 := by
  rw [v18_eq]
  pointwise [call2_v12_eq, call2_v11_eq, call2_v10_eq, call2_v9_eq, call2_cst_2_eq, call2_v6_eq]
  simp only [count_pos, count_eq, vcentre_row]
  rfl

/-- The latent of a row. -/
theorem z_row : row (v31 V) i = z (wts V) (row (arg0 V) i) := by
  funext j
  have e : v31 V (ix2 i j) = Cert.Rq.norm (center (row (v13 V) i)) (vec (arg13 V)) (vec (arg14 V)) j := by
    pointwise [v31_eq, v28_eq, v30_eq, v25_eq, v27_eq, v29_eq, v24_eq, v26_eq, v23_eq, v22_eq, v21_eq, cst_1_eq, Cert.Rq.norm, vec]
    simp only [centre_row, var_row]
  refine e.trans ?_
  rw [enc_row]
  rfl

/-- The first codeword number of a row. -/
theorem i0_row : v47 V (ix1 i) = BitVec.ofNat 32 (i0 (wts V) (row (arg0 V) i)).val := by
  rw [v47_row, v46_ops]
  have e : row (distOps (v31 V) (arg15 V)) i = dist (z (wts V) (row (arg0 V) i)) (wts V).c0 := by
    rw [← z_row]; exact funext fun k => distOps_apply _ _ i k
  rw [e]
  rfl
/-- The first codeword of a row. -/
theorem q0_row : row (v48 V) i = q0 (wts V) (row (arg0 V) i) := by
  funext j
  show v48 V (ix2 i j) = _
  rw [v48_ops]
  exact takeOps_apply _ _ _ (i0_row V) i j

variable (hw : (wts V).Real) (hx : ∀ i j, IsReal (arg0 V (ix2 i j)))
include hw hx

/-- The first straight-through value, which over the reals is the codeword. -/
theorem st0_row (j : Fin 32) : v63 V (ix2 i j) = q0 (wts V) (row (arg0 V) i) j := by
  have e : v63 V (ix2 i j) = row (v31 V) i j + (row (v48 V) i j - row (v31 V) i j) := by pointwise [v63_eq, v62_eq]
  rw [e, z_row, q0_row, through (real_z hw (hx i) j) (real_q0 hw j)]
/-- What is left of a row after one stage. -/
theorem r1_row : row (v64 V) i = r1 (wts V) (row (arg0 V) i) := by
  funext j
  have e : v64 V (ix2 i j) = row (v31 V) i j - v63 V (ix2 i j) := by pointwise [v64_eq]
  exact e.trans (by rw [z_row, st0_row V i hw hx]; rfl)

/-- The second codeword number of a row. -/
theorem i1_row : v80 V (ix1 i) = BitVec.ofNat 32 (i1 (wts V) (row (arg0 V) i)).val := by
  rw [v80_row, v79_ops]
  have e : row (distOps (v64 V) (arg16 V)) i = dist (r1 (wts V) (row (arg0 V) i)) (wts V).c1 := by
    rw [← r1_row V i hw hx]; exact funext fun k => distOps_apply _ _ i k
  rw [e]
  rfl
/-- The second codeword of a row. -/
theorem q1_row : row (v81 V) i = q1 (wts V) (row (arg0 V) i) := by
  funext j
  show v81 V (ix2 i j) = _
  rw [v81_ops]
  exact takeOps_apply _ _ _ (fun i => i1_row V i hw hx) i j
/-- The second straight-through value, which over the reals is the codeword. -/
theorem st1_row (j : Fin 32) : v96 V (ix2 i j) = q1 (wts V) (row (arg0 V) i) j := by
  have e : v96 V (ix2 i j) = row (v64 V) i j + (row (v81 V) i j - row (v64 V) i j) := by pointwise [v96_eq, v95_eq]
  rw [e, r1_row V i hw hx, q1_row V i hw hx, through (real_r1 hw (hx i) j) (real_q1 hw j)]
/-- What is left of a row after two stages. -/
theorem r2_row : row (v97 V) i = r2 (wts V) (row (arg0 V) i) := by
  funext j
  have e : v97 V (ix2 i j) = row (v64 V) i j - v96 V (ix2 i j) := by pointwise [v97_eq]
  exact e.trans (by rw [r1_row V i hw hx, st1_row V i hw hx]; rfl)
/-- The third codeword number of a row. -/
theorem i2_row : v113 V (ix1 i) = BitVec.ofNat 32 (i2 (wts V) (row (arg0 V) i)).val := by
  rw [v113_row, v112_ops]
  have e : row (distOps (v97 V) (arg17 V)) i = dist (r2 (wts V) (row (arg0 V) i)) (wts V).c2 := by
    rw [← r2_row V i hw hx]; exact funext fun k => distOps_apply _ _ i k
  rw [e]
  rfl
/-- The third codeword of a row. -/
theorem q2_row : row (v114 V) i = q2 (wts V) (row (arg0 V) i) := by
  funext j
  show v114 V (ix2 i j) = _
  rw [v114_ops]
  exact takeOps_apply _ _ _ (fun i => i2_row V i hw hx) i j
/-- The third straight-through value, which over the reals is the codeword. -/
theorem st2_row (j : Fin 32) : v129 V (ix2 i j) = q2 (wts V) (row (arg0 V) i) j := by
  have e : v129 V (ix2 i j) = row (v97 V) i j + (row (v114 V) i j - row (v97 V) i j) := by pointwise [v129_eq, v128_eq]
  rw [e, r2_row V i hw hx, q2_row V i hw hx, through (real_r2 hw (hx i) j) (real_q2 hw j)]

/-- The three codewords' sum, which is decoded. -/
theorem total_row : row (v131 V) i = fun j => (q0 (wts V) (row (arg0 V) i) j + q1 (wts V) (row (arg0 V) i) j) + q2 (wts V) (row (arg0 V) i) j := by
  funext j
  have e : v131 V (ix2 i j) = ((0 + v63 V (ix2 i j)) + v96 V (ix2 i j)) + v129 V (ix2 i j) := by
    pointwise [v131_eq, v98_eq, v65_eq, v32_eq, cst_2_eq]
  exact e.trans (by rw [st0_row V i hw hx, st1_row V i hw hx, st2_row V i hw hx, zero_add])

omit hw hx in
/-- The decoder's output of a row. -/
theorem dec_row : row (v145 V) i = mlp (row (v131 V) i) (mat (arg7 V)) (vec (arg8 V)) (mat (arg9 V)) (vec (arg10 V)) (mat (arg11 V)) (vec (arg12 V)) := by
  funext j
  pointwise [row, v145_eq, v142_eq, v144_eq, v141_eq, v143_eq, v140_eq, call10_v0_eq, v137_eq, v139_eq, call10_cst_eq, v136_eq, v138_eq, v135_eq, call9_v0_eq, v132_eq, v134_eq, call9_cst_eq, v133_eq, mlp, lin, relu, mat, vec]

/-- The first result: the decoded rows. -/
theorem xhat_row : row (v145 V) i = xhat (wts V) (row (arg0 V) i) := by
  rw [dec_row, total_row V i hw hx]
  rfl

omit hw hx in
/-- The first stage's loss of a row. -/
theorem stage0_loss : v61 V (ix1 i) = vq (row (v31 V) i) (row (v48 V) i) := by
  have e : v61 V (ix1 i) = v53 V (ix1 i) + Ideal.ofBits .f32 0x3E800000#32 * v58 V (ix1 i) := by pointwise [v61_eq, v60_eq, v59_eq, cst_10_eq]
  rw [e, v53_ops, v58_ops, mseOps_apply]
  rfl
omit hw hx in
/-- The second stage's loss of a row. -/
theorem stage1_loss : v94 V (ix1 i) = vq (row (v64 V) i) (row (v81 V) i) := by
  have e : v94 V (ix1 i) = v86 V (ix1 i) + Ideal.ofBits .f32 0x3E800000#32 * v91 V (ix1 i) := by pointwise [v94_eq, v93_eq, v92_eq, cst_18_eq]
  rw [e, v86_ops, v91_ops, mseOps_apply]
  rfl
omit hw hx in
/-- The third stage's loss of a row. -/
theorem stage2_loss : v127 V (ix1 i) = vq (row (v97 V) i) (row (v114 V) i) := by
  have e : v127 V (ix1 i) = v119 V (ix1 i) + Ideal.ofBits .f32 0x3E800000#32 * v124 V (ix1 i) := by pointwise [v127_eq, v126_eq, v125_eq, cst_26_eq]
  rw [e, v119_ops, v124_ops, mseOps_apply]
  rfl

omit hw hx in
/-- The three stages' losses, side by side. -/
theorem losses_row (s : Fin 3) : v154 V (ix2 i s) = if s.val = 0 then v61 V (ix1 i) else if s.val = 1 then v94 V (ix1 i) else v127 V (ix1 i) := by
  pointwise [v154_eq, v153_eq, v152_eq, v151_eq]
  fin_vals s with hs
  all_goals simp only [hs, Nat.reduceSub, Nat.reduceLT, ↓reduceDIte, ↓reduceIte, Nat.reduceEqDiff]

omit hw hx in
/-- The whole loss of a row: the stages' losses and the mean squared error of the decoded row. -/
theorem total_loss : v156 V (ix1 i) = ((v61 V (ix1 i) + v94 V (ix1 i)) + v127 V (ix1 i))
    + Ideal.div (∑ j, (row (v145 V) i j - row (arg0 V) i j) * (row (v145 V) i j - row (arg0 V) i j)) (Ideal.ofBits .f32 0x44400000#32) := by
  pointwise [v156_eq, v155_eq, v150_eq, cst_29_eq, v148_eq, v149_eq, v147_eq, cst_27_eq, cst_28_eq, v146_eq]
  rw [Fin.sum_univ_three, losses_row, losses_row, losses_row]
  rfl

/-- The second result: the rows' losses. -/
theorem loss_row : v156 V (ix1 i) = loss (wts V) (row (arg0 V) i) := by
  rw [total_loss, stage0_loss, stage1_loss, stage2_loss, xhat_row V i hw hx, z_row, q0_row, r1_row V i hw hx, q1_row V i hw hx,
    r2_row V i hw hx, q2_row V i hw hx]
  rfl

omit hw hx in
/-- The three codeword numbers, side by side. -/
theorem numbers_row (s : Fin 3) : v160 V (ix2 i s) = if s.val = 0 then v47 V (ix1 i) else if s.val = 1 then v80 V (ix1 i) else v113 V (ix1 i) := by
  pointwise [v160_eq, v159_eq, v158_eq, v157_eq]
  fin_vals s with hs
  all_goals simp only [hs, Nat.reduceSub, Nat.reduceLT, ↓reduceDIte, ↓reduceIte, Nat.reduceEqDiff]

/-- The third result: the rows' codeword numbers. -/
theorem index_row (s : Fin 3) : v160 V (ix2 i s)
    = if s.val = 0 then BitVec.ofNat 32 (i0 (wts V) (row (arg0 V) i)).val
      else if s.val = 1 then BitVec.ofNat 32 (i1 (wts V) (row (arg0 V) i)).val
      else BitVec.ofNat 32 (i2 (wts V) (row (arg0 V) i)).val := by
  rw [numbers_row, i0_row, i1_row V i hw hx, i2_row V i hw hx]

end Cert.ReferenceIdeal.RefRows
-- ==== Proof.Same.lean ====
/- The kernel and the reference end with the same results: both are the row-wise mathematics of the same arguments. -/
module

public import proofs.«01_k».proof.Proof.Finite
public import proofs.«01_k».proof.Proof.RefRows
public import proofs.«01_k».proof.Proof.Frames

@[expose] public section

set_option maxRecDepth 65536
set_option maxHeartbeats 2000000

noncomputable section

namespace Cert.Same

open Idealize.ShloMosaic Idealize.SL.Sem Idealize.ShloMosaic.StableHlo Cert.Rq

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the arguments. -/
abbrev Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

variable {m m'} (ha : Agree m m') (c : Dev Cert.KernelIdeal.nD)
include ha

/-- The reference is given the kernel's weights. -/
theorem wts_same : Cert.ReferenceIdeal.RefRows.wts (launchContents m' c) = Cert.KernelIdeal.Rows.wts m c := by
  obtain ⟨h0, h1, h2, h3, h4, h5, h6, h7, h8, h9, h10, h11, h12, h13, h14, h15, h16, h17⟩ := ha c
  have e1 : Cert.ReferenceIdeal.RefRun.arg1 (launchContents m' c) = m ((c.tc : Thread Cert.KernelIdeal.nD Cert.KernelIdeal.τ).loc Cert.KernelIdeal.main_arg1) :=
    (Cert.ReferenceIdeal.RefRun.arg1_eq (launchContents m' c)).trans h1
  have e2 : Cert.ReferenceIdeal.RefRun.arg2 (launchContents m' c) = m ((c.tc : Thread Cert.KernelIdeal.nD Cert.KernelIdeal.τ).loc Cert.KernelIdeal.main_arg2) :=
    (Cert.ReferenceIdeal.RefRun.arg2_eq (launchContents m' c)).trans h2
  have e3 : Cert.ReferenceIdeal.RefRun.arg3 (launchContents m' c) = m ((c.tc : Thread Cert.KernelIdeal.nD Cert.KernelIdeal.τ).loc Cert.KernelIdeal.main_arg3) :=
    (Cert.ReferenceIdeal.RefRun.arg3_eq (launchContents m' c)).trans h3
  have e4 : Cert.ReferenceIdeal.RefRun.arg4 (launchContents m' c) = m ((c.tc : Thread Cert.KernelIdeal.nD Cert.KernelIdeal.τ).loc Cert.KernelIdeal.main_arg4) :=
    (Cert.ReferenceIdeal.RefRun.arg4_eq (launchContents m' c)).trans h4
  have e5 : Cert.ReferenceIdeal.RefRun.arg5 (launchContents m' c) = m ((c.tc : Thread Cert.KernelIdeal.nD Cert.KernelIdeal.τ).loc Cert.KernelIdeal.main_arg5) :=
    (Cert.ReferenceIdeal.RefRun.arg5_eq (launchContents m' c)).trans h5
  have e6 : Cert.ReferenceIdeal.RefRun.arg6 (launchContents m' c) = m ((c.tc : Thread Cert.KernelIdeal.nD Cert.KernelIdeal.τ).loc Cert.KernelIdeal.main_arg6) :=
    (Cert.ReferenceIdeal.RefRun.arg6_eq (launchContents m' c)).trans h6
  have e7 : Cert.ReferenceIdeal.RefRun.arg7 (launchContents m' c) = m ((c.tc : Thread Cert.KernelIdeal.nD Cert.KernelIdeal.τ).loc Cert.KernelIdeal.main_arg7) :=
    (Cert.ReferenceIdeal.RefRun.arg7_eq (launchContents m' c)).trans h7
  have e8 : Cert.ReferenceIdeal.RefRun.arg8 (launchContents m' c) = m ((c.tc : Thread Cert.KernelIdeal.nD Cert.KernelIdeal.τ).loc Cert.KernelIdeal.main_arg8) :=
    (Cert.ReferenceIdeal.RefRun.arg8_eq (launchContents m' c)).trans h8
  have e9 : Cert.ReferenceIdeal.RefRun.arg9 (launchContents m' c) = m ((c.tc : Thread Cert.KernelIdeal.nD Cert.KernelIdeal.τ).loc Cert.KernelIdeal.main_arg9) :=
    (Cert.ReferenceIdeal.RefRun.arg9_eq (launchContents m' c)).trans h9
  have e10 : Cert.ReferenceIdeal.RefRun.arg10 (launchContents m' c) = m ((c.tc : Thread Cert.KernelIdeal.nD Cert.KernelIdeal.τ).loc Cert.KernelIdeal.main_arg10) :=
    (Cert.ReferenceIdeal.RefRun.arg10_eq (launchContents m' c)).trans h10
  have e11 : Cert.ReferenceIdeal.RefRun.arg11 (launchContents m' c) = m ((c.tc : Thread Cert.KernelIdeal.nD Cert.KernelIdeal.τ).loc Cert.KernelIdeal.main_arg11) :=
    (Cert.ReferenceIdeal.RefRun.arg11_eq (launchContents m' c)).trans h11
  have e12 : Cert.ReferenceIdeal.RefRun.arg12 (launchContents m' c) = m ((c.tc : Thread Cert.KernelIdeal.nD Cert.KernelIdeal.τ).loc Cert.KernelIdeal.main_arg12) :=
    (Cert.ReferenceIdeal.RefRun.arg12_eq (launchContents m' c)).trans h12
  have e13 : Cert.ReferenceIdeal.RefRun.arg13 (launchContents m' c) = m ((c.tc : Thread Cert.KernelIdeal.nD Cert.KernelIdeal.τ).loc Cert.KernelIdeal.main_arg13) :=
    (Cert.ReferenceIdeal.RefRun.arg13_eq (launchContents m' c)).trans h13
  have e14 : Cert.ReferenceIdeal.RefRun.arg14 (launchContents m' c) = m ((c.tc : Thread Cert.KernelIdeal.nD Cert.KernelIdeal.τ).loc Cert.KernelIdeal.main_arg14) :=
    (Cert.ReferenceIdeal.RefRun.arg14_eq (launchContents m' c)).trans h14
  have e15 : Cert.ReferenceIdeal.RefRun.arg15 (launchContents m' c) = m ((c.tc : Thread Cert.KernelIdeal.nD Cert.KernelIdeal.τ).loc Cert.KernelIdeal.main_arg15) :=
    (Cert.ReferenceIdeal.RefRun.arg15_eq (launchContents m' c)).trans h15
  have e16 : Cert.ReferenceIdeal.RefRun.arg16 (launchContents m' c) = m ((c.tc : Thread Cert.KernelIdeal.nD Cert.KernelIdeal.τ).loc Cert.KernelIdeal.main_arg16) :=
    (Cert.ReferenceIdeal.RefRun.arg16_eq (launchContents m' c)).trans h16
  have e17 : Cert.ReferenceIdeal.RefRun.arg17 (launchContents m' c) = m ((c.tc : Thread Cert.KernelIdeal.nD Cert.KernelIdeal.τ).loc Cert.KernelIdeal.main_arg17) :=
    (Cert.ReferenceIdeal.RefRun.arg17_eq (launchContents m' c)).trans h17
  unfold Cert.ReferenceIdeal.RefRows.wts Cert.KernelIdeal.Rows.wts
  simp only [e1, e2, e3, e4, e5, e6, e7, e8, e9, e10, e11, e12, e13, e14, e15, e16, e17]

/-- The reference is given the kernel's inputs. -/
theorem x_same : Cert.ReferenceIdeal.RefRun.arg0 (launchContents m' c)
    = m ((c.tc : Thread Cert.KernelIdeal.nD Cert.KernelIdeal.τ).loc Cert.KernelIdeal.main_arg0) :=
  (Cert.ReferenceIdeal.RefRun.arg0_eq (launchContents m' c)).trans (ha c).1

variable (hw : (Cert.KernelIdeal.Rows.wts m c).Real)
  (hx : ∀ i, IsReal (m ((c.tc : Thread Cert.KernelIdeal.nD Cert.KernelIdeal.τ).loc Cert.KernelIdeal.main_arg0) i))
include hw hx

/-- The decoded rows are the kernel's. -/
theorem xhat_same : Cert.ReferenceIdeal.RefRun.v145 (launchContents m' c) = Cert.KernelIdeal.Rows.outX m c := by
  funext i
  idx_vars i
  have h := congrFun (Cert.ReferenceIdeal.RefRows.xhat_row (launchContents m' c) i0 ((wts_same ha c).symm ▸ hw)
    (fun i j => by rw [x_same ha c]; exact hx _)) i1
  rw [wts_same ha c, x_same ha c] at h
  exact h
/-- The losses are the kernel's. -/
theorem loss_same : Cert.ReferenceIdeal.RefRun.v156 (launchContents m' c) = Cert.KernelIdeal.Rows.outLv m c := by
  funext i
  idx_vars i
  have h := Cert.ReferenceIdeal.RefRows.loss_row (launchContents m' c) i0 ((wts_same ha c).symm ▸ hw)
    (fun i j => by rw [x_same ha c]; exact hx _)
  rw [wts_same ha c, x_same ha c] at h
  exact h
/-- The codeword numbers are the kernel's. -/
theorem index_same : Cert.ReferenceIdeal.RefRun.v160 (launchContents m' c) = Cert.KernelIdeal.Rows.outI m c := by
  funext i
  idx_vars i
  have h := Cert.ReferenceIdeal.RefRows.index_row (launchContents m' c) i0 ((wts_same ha c).symm ▸ hw)
    (fun i j => by rw [x_same ha c]; exact hx _) i1
  rw [wts_same ha c, x_same ha c] at h
  exact h

omit ha hw hx c in
/-- The claim: from memories agreeing on the arguments both run and end with equal results. -/
theorem algebraic : Cert.algebraic_KernelIdeal_ReferenceIdeal (hKernelIdeal := Cert.KernelIdeal.Gen.facts)
    (hReferenceIdeal := Cert.ReferenceIdeal.Gen.facts) (hPre_finite_and_no_tie := Cert.Pre_finite_and_no_tie.Gen.facts) := by
  intro m g m' g' hp ha
  have hw := Cert.Finite.wts_real m hp
  have hx := Cert.Finite.x_real m hp
  refine ⟨Cert.KernelIdeal.Rows.outX m, Cert.KernelIdeal.Rows.outLv m, Cert.KernelIdeal.Rows.outI m, ?_, ?_⟩
  · refine (θ_run _ _ _).mono (fun r h c => ?_) (Cert.KernelIdeal.Body.run_main (F := Ideal) m g)
    have hr := Cert.KernelIdeal.Rows.results (hw c) (hx c) h
    exact ⟨hr.1, hr.2.1, hr.2.2, Cert.KernelIdeal.Body.kept m h c⟩
  · refine (θ_run _ _ _).mono (fun r h c => ?_) (Cert.ReferenceIdeal.RefRun.run (F := Ideal) m' g')
    exact ⟨(h c _).trans (xhat_same ha c (hw c) (hx c)), (h c _).trans (loss_same ha c (hw c) (hx c)),
      (h c _).trans (index_same ha c (hw c) (hx c)), Cert.Frames.refKept m' h c⟩

end Cert.Same

end
-- ==== Proof.lean ====
module

public import proofs.«01_k».proof.Defs
public import proofs.«01_k».proof.Proof.Frames
public import proofs.«01_k».proof.Proof.Same

@[expose] public section

noncomputable section

namespace Cert.Proof

/-- The whole claim: the frames of the kernel, of the ideal kernel and of the reference, the ideal kernel's preserving
the kernel, and the equality of the ideal kernel and the reference in all three results. -/
theorem claim : Cert.Claim := ⟨Cert.Kernel.Gen.facts, Cert.KernelIdeal.Gen.facts, Cert.ReferenceIdeal.Gen.facts, Cert.Pre_finite_and_no_tie.Gen.facts,
  Cert.Frames.kernel, fun m g _ => Cert.Frames.kernel m g trivial, Cert.Frames.kernelIdeal, Cert.Frames.referenceIdeal,
  fun m g _ => Cert.Frames.referenceIdeal m g trivial, trivial, Cert.Same.algebraic⟩

end Cert.Proof

end
